-- ==== Defs.lean ====
def Pre_Flash (m : (ℓ : Loc Cert.Flash.nD Cert.Flash.τ Cert.Flash.sig) → Buf (Elt Bits) ℓ) : Prop :=
  True

def Pre_FlashIdeal (m : (ℓ : Loc Cert.FlashIdeal.nD Cert.FlashIdeal.τ Cert.FlashIdeal.sig) → Buf (Elt Ideal) ℓ) : Prop :=
  True

def Pre_FlashIdeal_finite_qk [hPre_finite_qk : Cert.Pre_finite_qk.Facts] (m : (ℓ : Loc Cert.FlashIdeal.nD Cert.FlashIdeal.τ Cert.FlashIdeal.sig) → Buf (Elt Ideal) ℓ) : Prop :=
  ∀ c : Dev Cert.FlashIdeal.nD,
    (Cert.Pre_finite_qk.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2))) = (fun _ => 1#1)

def Pre_AttentionIdeal (m : (ℓ : Loc Cert.AttentionIdeal.nD Cert.AttentionIdeal.τ Cert.AttentionIdeal.sig) → Buf (Elt Ideal) ℓ) : Prop :=
  True

def Pre_AttentionIdeal_finite_qk [hPre_finite_qk : Cert.Pre_finite_qk.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite_qk.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_GatedMergeIdeal (m : (ℓ : Loc Cert.GatedMergeIdeal.nD Cert.GatedMergeIdeal.τ Cert.GatedMergeIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_ConvFfnIdeal (m : (ℓ : Loc Cert.ConvFfnIdeal.nD Cert.ConvFfnIdeal.τ Cert.ConvFfnIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_ConvFfnSampleIdeal (m : (ℓ : Loc Cert.ConvFfnSampleIdeal.nD Cert.ConvFfnSampleIdeal.τ Cert.ConvFfnSampleIdeal.sig) → Buf (Elt Ideal) ℓ) : Prop :=
  True

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnIdeal_finite_scores [hPre_finite_scores : Cert.Pre_finite_scores.Facts] (m : (ℓ : Loc Cert.XattnIdeal.nD Cert.XattnIdeal.τ Cert.XattnIdeal.sig) → Buf (Elt Ideal) ℓ) : Prop :=
  ∀ c : Dev Cert.XattnIdeal.nD,
    (Cert.Pre_finite_scores.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4))) = (fun _ => 1#1)

def Pre_MemoryAttentionIdeal (m : (ℓ : Loc Cert.MemoryAttentionIdeal.nD Cert.MemoryAttentionIdeal.τ Cert.MemoryAttentionIdeal.sig) → Buf (Elt Ideal) ℓ) : Prop :=
  True

def Pre_MemoryAttentionIdeal_finite_scores [hPre_finite_scores : Cert.Pre_finite_scores.Facts] (m : (ℓ : Loc Cert.MemoryAttentionIdeal.nD Cert.MemoryAttentionIdeal.τ Cert.MemoryAttentionIdeal.sig) → Buf (Elt Ideal) ℓ) : Prop :=
  ∀ c : Dev Cert.MemoryAttentionIdeal.nD,
    (Cert.Pre_finite_scores.fn (F := Ideal) (m ((c.tc : Thread Cert.MemoryAttentionIdeal.nD Cert.MemoryAttentionIdeal.τ).loc Cert.MemoryAttentionIdeal.main_arg0)) (m ((c.tc : Thread Cert.MemoryAttentionIdeal.nD Cert.MemoryAttentionIdeal.τ).loc Cert.MemoryAttentionIdeal.main_arg1)) (m ((c.tc : Thread Cert.MemoryAttentionIdeal.nD Cert.MemoryAttentionIdeal.τ).loc Cert.MemoryAttentionIdeal.main_arg2)) (m ((c.tc : Thread Cert.MemoryAttentionIdeal.nD Cert.MemoryAttentionIdeal.τ).loc Cert.MemoryAttentionIdeal.main_arg3)) (m ((c.tc : Thread Cert.MemoryAttentionIdeal.nD Cert.MemoryAttentionIdeal.τ).loc Cert.MemoryAttentionIdeal.main_arg4))) = (fun _ => 1#1)

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemoryKeysValuesIdeal (m : (ℓ : Loc Cert.MemoryKeysValuesIdeal.nD Cert.MemoryKeysValuesIdeal.τ Cert.MemoryKeysValuesIdeal.sig) → Buf (Elt Ideal) ℓ) : Prop :=
  True

def quiescent_Flash [hFlash : Cert.Flash.Facts] : Prop :=
  ∀ (m : (ℓ : Loc Cert.Flash.nD Cert.Flash.τ Cert.Flash.sig) → Buf (Elt Bits) ℓ) (g : Dev Cert.Flash.nD → PrngReg), Pre_Flash m →
    θ_run (Cert.Flash.defs (F := Bits)) (onTc (τ := Cert.Flash.τ) (Cert.Flash.main (F := Bits))) ⟨m, fun _ => 0, g⟩ (fun r => (∀ c : Dev Cert.Flash.nD,
      r.2.mem ((c.tc : Thread Cert.Flash.nD Cert.Flash.τ).loc Cert.Flash.main_arg0) = m ((c.tc : Thread Cert.Flash.nD Cert.Flash.τ).loc Cert.Flash.main_arg0)
      ∧ r.2.mem ((c.tc : Thread Cert.Flash.nD Cert.Flash.τ).loc Cert.Flash.main_arg1) = m ((c.tc : Thread Cert.Flash.nD Cert.Flash.τ).loc Cert.Flash.main_arg1)
      ∧ r.2.mem ((c.tc : Thread Cert.Flash.nD Cert.Flash.τ).loc Cert.Flash.main_arg2) = m ((c.tc : Thread Cert.Flash.nD Cert.Flash.τ).loc Cert.Flash.main_arg2))
      ∧ r.2.sem = fun _ => 0)

def quiescent_FlashIdeal [hFlashIdeal : Cert.FlashIdeal.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2))
      ∧ r.2.sem = fun _ => 0)

def quiescent_FlashIdeal_pre_finite_qk [hFlashIdeal : Cert.FlashIdeal.Facts] [hPre_finite_qk : Cert.Pre_finite_qk.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal_finite_qk m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionIdeal_pre_finite_qk [hAttentionIdeal : Cert.AttentionIdeal.Facts] [hPre_finite_qk : Cert.Pre_finite_qk.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite_qk m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ r.2.sem = fun _ => 0)

def quiescent_GatedMergeIdeal [hGatedMergeIdeal : Cert.GatedMergeIdeal.Facts] : Prop :=
  ∀ (m : (ℓ : Loc Cert.GatedMergeIdeal.nD Cert.GatedMergeIdeal.τ Cert.GatedMergeIdeal.sig) → Buf (Elt Ideal) ℓ) (g : Dev Cert.GatedMergeIdeal.nD → PrngReg), Pre_GatedMergeIdeal m →
    θ_run (Cert.GatedMergeIdeal.defs (F := Ideal)) (onTc (τ := Cert.GatedMergeIdeal.τ) (Cert.GatedMergeIdeal.main (F := Ideal))) ⟨m, fun _ => 0, g⟩ (fun r => (∀ c : Dev Cert.GatedMergeIdeal.nD,
      r.2.mem ((c.tc : Thread Cert.GatedMergeIdeal.nD Cert.GatedMergeIdeal.τ).loc Cert.GatedMergeIdeal.main_arg0) = m ((c.tc : Thread Cert.GatedMergeIdeal.nD Cert.GatedMergeIdeal.τ).loc Cert.GatedMergeIdeal.main_arg0)
      ∧ r.2.mem ((c.tc : Thread Cert.GatedMergeIdeal.nD Cert.GatedMergeIdeal.τ).loc Cert.GatedMergeIdeal.main_arg1) = m ((c.tc : Thread Cert.GatedMergeIdeal.nD Cert.GatedMergeIdeal.τ).loc Cert.GatedMergeIdeal.main_arg1)
      ∧ r.2.mem ((c.tc : Thread Cert.GatedMergeIdeal.nD Cert.GatedMergeIdeal.τ).loc Cert.GatedMergeIdeal.main_arg2) = m ((c.tc : Thread Cert.GatedMergeIdeal.nD Cert.GatedMergeIdeal.τ).loc Cert.GatedMergeIdeal.main_arg2)
      ∧ r.2.mem ((c.tc : Thread Cert.GatedMergeIdeal.nD Cert.GatedMergeIdeal.τ).loc Cert.GatedMergeIdeal.main_arg3) = m ((c.tc : Thread Cert.GatedMergeIdeal.nD Cert.GatedMergeIdeal.τ).loc Cert.GatedMergeIdeal.main_arg3)
      ∧ r.2.mem ((c.tc : Thread Cert.GatedMergeIdeal.nD Cert.GatedMergeIdeal.τ).loc Cert.GatedMergeIdeal.main_arg4) = m ((c.tc : Thread Cert.GatedMergeIdeal.nD Cert.GatedMergeIdeal.τ).loc Cert.GatedMergeIdeal.main_arg4)
      ∧ r.2.mem ((c.tc : Thread Cert.GatedMergeIdeal.nD Cert.GatedMergeIdeal.τ).loc Cert.GatedMergeIdeal.main_arg5) = m ((c.tc : Thread Cert.GatedMergeIdeal.nD Cert.GatedMergeIdeal.τ).loc Cert.GatedMergeIdeal.main_arg5)
      ∧ r.2.mem ((c.tc : Thread Cert.GatedMergeIdeal.nD Cert.GatedMergeIdeal.τ).loc Cert.GatedMergeIdeal.main_arg6) = m ((c.tc : Thread Cert.GatedMergeIdeal.nD Cert.GatedMergeIdeal.τ).loc Cert.GatedMergeIdeal.main_arg6)
      ∧ r.2.mem ((c.tc : Thread Cert.GatedMergeIdeal.nD Cert.GatedMergeIdeal.τ).loc Cert.GatedMergeIdeal.main_arg7) = m ((c.tc : Thread Cert.GatedMergeIdeal.nD Cert.GatedMergeIdeal.τ).loc Cert.GatedMergeIdeal.main_arg7)
      ∧ r.2.mem ((c.tc : Thread Cert.GatedMergeIdeal.nD Cert.GatedMergeIdeal.τ).loc Cert.GatedMergeIdeal.main_arg8) = m ((c.tc : Thread Cert.GatedMergeIdeal.nD Cert.GatedMergeIdeal.τ).loc Cert.GatedMergeIdeal.main_arg8)
      ∧ r.2.mem ((c.tc : Thread Cert.GatedMergeIdeal.nD Cert.GatedMergeIdeal.τ).loc Cert.GatedMergeIdeal.main_arg9) = m ((c.tc : Thread Cert.GatedMergeIdeal.nD Cert.GatedMergeIdeal.τ).loc Cert.GatedMergeIdeal.main_arg9)
      ∧ r.2.mem ((c.tc : Thread Cert.GatedMergeIdeal.nD Cert.GatedMergeIdeal.τ).loc Cert.GatedMergeIdeal.main_arg10) = m ((c.tc : Thread Cert.GatedMergeIdeal.nD Cert.GatedMergeIdeal.τ).loc Cert.GatedMergeIdeal.main_arg10)
      ∧ r.2.mem ((c.tc : Thread Cert.GatedMergeIdeal.nD Cert.GatedMergeIdeal.τ).loc Cert.GatedMergeIdeal.main_arg11) = m ((c.tc : Thread Cert.GatedMergeIdeal.nD Cert.GatedMergeIdeal.τ).loc Cert.GatedMergeIdeal.main_arg11)
      ∧ r.2.mem ((c.tc : Thread Cert.GatedMergeIdeal.nD Cert.GatedMergeIdeal.τ).loc Cert.GatedMergeIdeal.main_arg12) = m ((c.tc : Thread Cert.GatedMergeIdeal.nD Cert.GatedMergeIdeal.τ).loc Cert.GatedMergeIdeal.main_arg12)
      ∧ r.2.mem ((c.tc : Thread Cert.GatedMergeIdeal.nD Cert.GatedMergeIdeal.τ).loc Cert.GatedMergeIdeal.main_arg13) = m ((c.tc : Thread Cert.GatedMergeIdeal.nD Cert.GatedMergeIdeal.τ).loc Cert.GatedMergeIdeal.main_arg13)
      ∧ r.2.mem ((c.tc : Thread Cert.GatedMergeIdeal.nD Cert.GatedMergeIdeal.τ).loc Cert.GatedMergeIdeal.main_arg14) = m ((c.tc : Thread Cert.GatedMergeIdeal.nD Cert.GatedMergeIdeal.τ).loc Cert.GatedMergeIdeal.main_arg14))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_ConvFfnIdeal [hConvFfnIdeal : Cert.ConvFfnIdeal.Facts] : Prop :=
  ∀ (m : (ℓ : Loc Cert.ConvFfnIdeal.nD Cert.ConvFfnIdeal.τ Cert.ConvFfnIdeal.sig) → Buf (Elt Ideal) ℓ) (g : Dev Cert.ConvFfnIdeal.nD → PrngReg), Pre_ConvFfnIdeal m →
    θ_run (Cert.ConvFfnIdeal.defs (F := Ideal)) (onTc (τ := Cert.ConvFfnIdeal.τ) (Cert.ConvFfnIdeal.main (F := Ideal))) ⟨m, fun _ => 0, g⟩ (fun r => (∀ c : Dev Cert.ConvFfnIdeal.nD,
      r.2.mem ((c.tc : Thread Cert.ConvFfnIdeal.nD Cert.ConvFfnIdeal.τ).loc Cert.ConvFfnIdeal.main_arg0) = m ((c.tc : Thread Cert.ConvFfnIdeal.nD Cert.ConvFfnIdeal.τ).loc Cert.ConvFfnIdeal.main_arg0)
      ∧ r.2.mem ((c.tc : Thread Cert.ConvFfnIdeal.nD Cert.ConvFfnIdeal.τ).loc Cert.ConvFfnIdeal.main_arg1) = m ((c.tc : Thread Cert.ConvFfnIdeal.nD Cert.ConvFfnIdeal.τ).loc Cert.ConvFfnIdeal.main_arg1)
      ∧ r.2.mem ((c.tc : Thread Cert.ConvFfnIdeal.nD Cert.ConvFfnIdeal.τ).loc Cert.ConvFfnIdeal.main_arg2) = m ((c.tc : Thread Cert.ConvFfnIdeal.nD Cert.ConvFfnIdeal.τ).loc Cert.ConvFfnIdeal.main_arg2)
      ∧ r.2.mem ((c.tc : Thread Cert.ConvFfnIdeal.nD Cert.ConvFfnIdeal.τ).loc Cert.ConvFfnIdeal.main_arg3) = m ((c.tc : Thread Cert.ConvFfnIdeal.nD Cert.ConvFfnIdeal.τ).loc Cert.ConvFfnIdeal.main_arg3)
      ∧ r.2.mem ((c.tc : Thread Cert.ConvFfnIdeal.nD Cert.ConvFfnIdeal.τ).loc Cert.ConvFfnIdeal.main_arg4) = m ((c.tc : Thread Cert.ConvFfnIdeal.nD Cert.ConvFfnIdeal.τ).loc Cert.ConvFfnIdeal.main_arg4)
      ∧ r.2.mem ((c.tc : Thread Cert.ConvFfnIdeal.nD Cert.ConvFfnIdeal.τ).loc Cert.ConvFfnIdeal.main_arg5) = m ((c.tc : Thread Cert.ConvFfnIdeal.nD Cert.ConvFfnIdeal.τ).loc Cert.ConvFfnIdeal.main_arg5))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5))
      ∧ r.2.sem = fun _ => 0)

def quiescent_ConvFfnSampleIdeal [hConvFfnSampleIdeal : Cert.ConvFfnSampleIdeal.Facts] : Prop :=
  ∀ (m : (ℓ : Loc Cert.ConvFfnSampleIdeal.nD Cert.ConvFfnSampleIdeal.τ Cert.ConvFfnSampleIdeal.sig) → Buf (Elt Ideal) ℓ) (g : Dev Cert.ConvFfnSampleIdeal.nD → PrngReg), Pre_ConvFfnSampleIdeal m →
    θ_run (Cert.ConvFfnSampleIdeal.defs (F := Ideal)) (onTc (τ := Cert.ConvFfnSampleIdeal.τ) (Cert.ConvFfnSampleIdeal.main (F := Ideal))) ⟨m, fun _ => 0, g⟩ (fun r => (∀ c : Dev Cert.ConvFfnSampleIdeal.nD,
      r.2.mem ((c.tc : Thread Cert.ConvFfnSampleIdeal.nD Cert.ConvFfnSampleIdeal.τ).loc Cert.ConvFfnSampleIdeal.main_arg0) = m ((c.tc : Thread Cert.ConvFfnSampleIdeal.nD Cert.ConvFfnSampleIdeal.τ).loc Cert.ConvFfnSampleIdeal.main_arg0)
      ∧ r.2.mem ((c.tc : Thread Cert.ConvFfnSampleIdeal.nD Cert.ConvFfnSampleIdeal.τ).loc Cert.ConvFfnSampleIdeal.main_arg1) = m ((c.tc : Thread Cert.ConvFfnSampleIdeal.nD Cert.ConvFfnSampleIdeal.τ).loc Cert.ConvFfnSampleIdeal.main_arg1)
      ∧ r.2.mem ((c.tc : Thread Cert.ConvFfnSampleIdeal.nD Cert.ConvFfnSampleIdeal.τ).loc Cert.ConvFfnSampleIdeal.main_arg2) = m ((c.tc : Thread Cert.ConvFfnSampleIdeal.nD Cert.ConvFfnSampleIdeal.τ).loc Cert.ConvFfnSampleIdeal.main_arg2)
      ∧ r.2.mem ((c.tc : Thread Cert.ConvFfnSampleIdeal.nD Cert.ConvFfnSampleIdeal.τ).loc Cert.ConvFfnSampleIdeal.main_arg3) = m ((c.tc : Thread Cert.ConvFfnSampleIdeal.nD Cert.ConvFfnSampleIdeal.τ).loc Cert.ConvFfnSampleIdeal.main_arg3)
      ∧ r.2.mem ((c.tc : Thread Cert.ConvFfnSampleIdeal.nD Cert.ConvFfnSampleIdeal.τ).loc Cert.ConvFfnSampleIdeal.main_arg4) = m ((c.tc : Thread Cert.ConvFfnSampleIdeal.nD Cert.ConvFfnSampleIdeal.τ).loc Cert.ConvFfnSampleIdeal.main_arg4)
      ∧ r.2.mem ((c.tc : Thread Cert.ConvFfnSampleIdeal.nD Cert.ConvFfnSampleIdeal.τ).loc Cert.ConvFfnSampleIdeal.main_arg5) = m ((c.tc : Thread Cert.ConvFfnSampleIdeal.nD Cert.ConvFfnSampleIdeal.τ).loc Cert.ConvFfnSampleIdeal.main_arg5))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2)
      ∧ r.2.mem ((c.tc : Thread Cert.Xattn.nD Cert.Xattn.τ).loc Cert.Xattn.main_arg3) = m ((c.tc : Thread Cert.Xattn.nD Cert.Xattn.τ).loc Cert.Xattn.main_arg3)
      ∧ r.2.mem ((c.tc : Thread Cert.Xattn.nD Cert.Xattn.τ).loc Cert.Xattn.main_arg4) = m ((c.tc : Thread Cert.Xattn.nD Cert.Xattn.τ).loc Cert.Xattn.main_arg4))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4))
      ∧ r.2.sem = fun _ => 0)

def quiescent_XattnIdeal_pre_finite_scores [hXattnIdeal : Cert.XattnIdeal.Facts] [hPre_finite_scores : Cert.Pre_finite_scores.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal_finite_scores m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4))
      ∧ r.2.sem = fun _ => 0)

def quiescent_MemoryAttentionIdeal [hMemoryAttentionIdeal : Cert.MemoryAttentionIdeal.Facts] : Prop :=
  ∀ (m : (ℓ : Loc Cert.MemoryAttentionIdeal.nD Cert.MemoryAttentionIdeal.τ Cert.MemoryAttentionIdeal.sig) → Buf (Elt Ideal) ℓ) (g : Dev Cert.MemoryAttentionIdeal.nD → PrngReg), Pre_MemoryAttentionIdeal m →
    θ_run (Cert.MemoryAttentionIdeal.defs (F := Ideal)) (onTc (τ := Cert.MemoryAttentionIdeal.τ) (Cert.MemoryAttentionIdeal.main (F := Ideal))) ⟨m, fun _ => 0, g⟩ (fun r => (∀ c : Dev Cert.MemoryAttentionIdeal.nD,
      r.2.mem ((c.tc : Thread Cert.MemoryAttentionIdeal.nD Cert.MemoryAttentionIdeal.τ).loc Cert.MemoryAttentionIdeal.main_arg0) = m ((c.tc : Thread Cert.MemoryAttentionIdeal.nD Cert.MemoryAttentionIdeal.τ).loc Cert.MemoryAttentionIdeal.main_arg0)
      ∧ r.2.mem ((c.tc : Thread Cert.MemoryAttentionIdeal.nD Cert.MemoryAttentionIdeal.τ).loc Cert.MemoryAttentionIdeal.main_arg1) = m ((c.tc : Thread Cert.MemoryAttentionIdeal.nD Cert.MemoryAttentionIdeal.τ).loc Cert.MemoryAttentionIdeal.main_arg1)
      ∧ r.2.mem ((c.tc : Thread Cert.MemoryAttentionIdeal.nD Cert.MemoryAttentionIdeal.τ).loc Cert.MemoryAttentionIdeal.main_arg2) = m ((c.tc : Thread Cert.MemoryAttentionIdeal.nD Cert.MemoryAttentionIdeal.τ).loc Cert.MemoryAttentionIdeal.main_arg2)
      ∧ r.2.mem ((c.tc : Thread Cert.MemoryAttentionIdeal.nD Cert.MemoryAttentionIdeal.τ).loc Cert.MemoryAttentionIdeal.main_arg3) = m ((c.tc : Thread Cert.MemoryAttentionIdeal.nD Cert.MemoryAttentionIdeal.τ).loc Cert.MemoryAttentionIdeal.main_arg3)
      ∧ r.2.mem ((c.tc : Thread Cert.MemoryAttentionIdeal.nD Cert.MemoryAttentionIdeal.τ).loc Cert.MemoryAttentionIdeal.main_arg4) = m ((c.tc : Thread Cert.MemoryAttentionIdeal.nD Cert.MemoryAttentionIdeal.τ).loc Cert.MemoryAttentionIdeal.main_arg4))
      ∧ r.2.sem = fun _ => 0)

def quiescent_MemoryAttentionIdeal_pre_finite_scores [hMemoryAttentionIdeal : Cert.MemoryAttentionIdeal.Facts] [hPre_finite_scores : Cert.Pre_finite_scores.Facts] : Prop :=
  ∀ (m : (ℓ : Loc Cert.MemoryAttentionIdeal.nD Cert.MemoryAttentionIdeal.τ Cert.MemoryAttentionIdeal.sig) → Buf (Elt Ideal) ℓ) (g : Dev Cert.MemoryAttentionIdeal.nD → PrngReg), Pre_MemoryAttentionIdeal_finite_scores m →
    θ_run (Cert.MemoryAttentionIdeal.defs (F := Ideal)) (onTc (τ := Cert.MemoryAttentionIdeal.τ) (Cert.MemoryAttentionIdeal.main (F := Ideal))) ⟨m, fun _ => 0, g⟩ (fun r => (∀ c : Dev Cert.MemoryAttentionIdeal.nD,
      r.2.mem ((c.tc : Thread Cert.MemoryAttentionIdeal.nD Cert.MemoryAttentionIdeal.τ).loc Cert.MemoryAttentionIdeal.main_arg0) = m ((c.tc : Thread Cert.MemoryAttentionIdeal.nD Cert.MemoryAttentionIdeal.τ).loc Cert.MemoryAttentionIdeal.main_arg0)
      ∧ r.2.mem ((c.tc : Thread Cert.MemoryAttentionIdeal.nD Cert.MemoryAttentionIdeal.τ).loc Cert.MemoryAttentionIdeal.main_arg1) = m ((c.tc : Thread Cert.MemoryAttentionIdeal.nD Cert.MemoryAttentionIdeal.τ).loc Cert.MemoryAttentionIdeal.main_arg1)
      ∧ r.2.mem ((c.tc : Thread Cert.MemoryAttentionIdeal.nD Cert.MemoryAttentionIdeal.τ).loc Cert.MemoryAttentionIdeal.main_arg2) = m ((c.tc : Thread Cert.MemoryAttentionIdeal.nD Cert.MemoryAttentionIdeal.τ).loc Cert.MemoryAttentionIdeal.main_arg2)
      ∧ r.2.mem ((c.tc : Thread Cert.MemoryAttentionIdeal.nD Cert.MemoryAttentionIdeal.τ).loc Cert.MemoryAttentionIdeal.main_arg3) = m ((c.tc : Thread Cert.MemoryAttentionIdeal.nD Cert.MemoryAttentionIdeal.τ).loc Cert.MemoryAttentionIdeal.main_arg3)
      ∧ r.2.mem ((c.tc : Thread Cert.MemoryAttentionIdeal.nD Cert.MemoryAttentionIdeal.τ).loc Cert.MemoryAttentionIdeal.main_arg4) = m ((c.tc : Thread Cert.MemoryAttentionIdeal.nD Cert.MemoryAttentionIdeal.τ).loc Cert.MemoryAttentionIdeal.main_arg4))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemoryKeysValuesIdeal [hMemoryKeysValuesIdeal : Cert.MemoryKeysValuesIdeal.Facts] : Prop :=
  ∀ (m : (ℓ : Loc Cert.MemoryKeysValuesIdeal.nD Cert.MemoryKeysValuesIdeal.τ Cert.MemoryKeysValuesIdeal.sig) → Buf (Elt Ideal) ℓ) (g : Dev Cert.MemoryKeysValuesIdeal.nD → PrngReg), Pre_MemoryKeysValuesIdeal m →
    θ_run (Cert.MemoryKeysValuesIdeal.defs (F := Ideal)) (onTc (τ := Cert.MemoryKeysValuesIdeal.τ) (Cert.MemoryKeysValuesIdeal.main (F := Ideal))) ⟨m, fun _ => 0, g⟩ (fun r => (∀ c : Dev Cert.MemoryKeysValuesIdeal.nD,
      r.2.mem ((c.tc : Thread Cert.MemoryKeysValuesIdeal.nD Cert.MemoryKeysValuesIdeal.τ).loc Cert.MemoryKeysValuesIdeal.main_arg0) = m ((c.tc : Thread Cert.MemoryKeysValuesIdeal.nD Cert.MemoryKeysValuesIdeal.τ).loc Cert.MemoryKeysValuesIdeal.main_arg0)
      ∧ r.2.mem ((c.tc : Thread Cert.MemoryKeysValuesIdeal.nD Cert.MemoryKeysValuesIdeal.τ).loc Cert.MemoryKeysValuesIdeal.main_arg1) = m ((c.tc : Thread Cert.MemoryKeysValuesIdeal.nD Cert.MemoryKeysValuesIdeal.τ).loc Cert.MemoryKeysValuesIdeal.main_arg1)
      ∧ r.2.mem ((c.tc : Thread Cert.MemoryKeysValuesIdeal.nD Cert.MemoryKeysValuesIdeal.τ).loc Cert.MemoryKeysValuesIdeal.main_arg2) = m ((c.tc : Thread Cert.MemoryKeysValuesIdeal.nD Cert.MemoryKeysValuesIdeal.τ).loc Cert.MemoryKeysValuesIdeal.main_arg2)
      ∧ r.2.mem ((c.tc : Thread Cert.MemoryKeysValuesIdeal.nD Cert.MemoryKeysValuesIdeal.τ).loc Cert.MemoryKeysValuesIdeal.main_arg3) = m ((c.tc : Thread Cert.MemoryKeysValuesIdeal.nD Cert.MemoryKeysValuesIdeal.τ).loc Cert.MemoryKeysValuesIdeal.main_arg3))
      ∧ r.2.sem = fun _ => 0)

def preserves_Flash_FlashIdeal : Prop :=
  True

def algebraic_FlashIdeal_AttentionIdeal_pre_finite_qk [hFlashIdeal : Cert.FlashIdeal.Facts] [hAttentionIdeal : Cert.AttentionIdeal.Facts] [hPre_finite_qk : Cert.Pre_finite_qk.Facts] : Prop :=
  ∀ (m : (ℓ : Loc Cert.FlashIdeal.nD Cert.FlashIdeal.τ Cert.FlashIdeal.sig) → Buf (Elt Ideal) ℓ) (g : Dev Cert.FlashIdeal.nD → PrngReg)
    (m' : (ℓ : Loc Cert.AttentionIdeal.nD Cert.AttentionIdeal.τ Cert.AttentionIdeal.sig) → Buf (Elt Ideal) ℓ) (g' : Dev Cert.AttentionIdeal.nD → PrngReg), Pre_FlashIdeal_finite_qk m →
    (∀ c : Dev Cert.FlashIdeal.nD,
      m' ((c.tc : Thread Cert.AttentionIdeal.nD Cert.AttentionIdeal.τ).loc Cert.AttentionIdeal.main_arg0) = m ((c.tc : Thread Cert.FlashIdeal.nD Cert.FlashIdeal.τ).loc Cert.FlashIdeal.main_arg0)
      ∧ m' ((c.tc : Thread Cert.AttentionIdeal.nD Cert.AttentionIdeal.τ).loc Cert.AttentionIdeal.main_arg1) = m ((c.tc : Thread Cert.FlashIdeal.nD Cert.FlashIdeal.τ).loc Cert.FlashIdeal.main_arg1)
      ∧ m' ((c.tc : Thread Cert.AttentionIdeal.nD Cert.AttentionIdeal.τ).loc Cert.AttentionIdeal.main_arg2) = m ((c.tc : Thread Cert.FlashIdeal.nD Cert.FlashIdeal.τ).loc Cert.FlashIdeal.main_arg2)) →
    ∃ (v0 : (c : Dev Cert.FlashIdeal.nD) → Buf (Elt Ideal) ((c.tc : Thread Cert.FlashIdeal.nD Cert.FlashIdeal.τ).loc Cert.FlashIdeal.main_v18)),
      θ_run (Cert.FlashIdeal.defs (F := Ideal)) (onTc (τ := Cert.FlashIdeal.τ) (Cert.FlashIdeal.main (F := Ideal))) ⟨m, fun _ => 0, g⟩ (fun r => ∀ c : Dev Cert.FlashIdeal.nD,
          r.2.mem ((c.tc : Thread Cert.FlashIdeal.nD Cert.FlashIdeal.τ).loc Cert.FlashIdeal.main_v18) = v0 c
          ∧ r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
          ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
          ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2))
      ∧ θ_run (Cert.AttentionIdeal.defs (F := Ideal)) (onTc (τ := Cert.AttentionIdeal.τ) (Cert.AttentionIdeal.main (F := Ideal))) ⟨m', fun _ => 0, g'⟩ (fun r => ∀ c : Dev Cert.AttentionIdeal.nD,
          r.2.mem ((c.tc : Thread Cert.AttentionIdeal.nD Cert.AttentionIdeal.τ).loc Cert.AttentionIdeal.main_v17) = v0 c
          ∧ r.2.mem ((c.tc : Thread Cert.AttentionIdeal.nD Cert.AttentionIdeal.τ).loc Cert.AttentionIdeal.main_arg0) = m' ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m' ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m' ((c.tc : Thread Cert.AttentionIdeal.nD Cert.AttentionIdeal.τ).loc Cert.AttentionIdeal.main_arg2))

def preserves_Merge_MergeIdeal : Prop :=
  True

def algebraic_MergeIdeal_GatedMergeIdeal [hMergeIdeal : Cert.MergeIdeal.Facts] [hGatedMergeIdeal : Cert.GatedMergeIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.GatedMergeIdeal.nD Cert.GatedMergeIdeal.τ Cert.GatedMergeIdeal.sig) → Buf (Elt Ideal) ℓ) (g' : Dev Cert.GatedMergeIdeal.nD → PrngReg), Pre_MergeIdeal m →
    (∀ c : Dev Cert.MergeIdeal.nD,
      m' ((c.tc : Thread Cert.GatedMergeIdeal.nD Cert.GatedMergeIdeal.τ).loc Cert.GatedMergeIdeal.main_arg0) = m ((c.tc : Thread Cert.MergeIdeal.nD Cert.MergeIdeal.τ).loc Cert.MergeIdeal.main_arg0)
      ∧ m' ((c.tc : Thread Cert.GatedMergeIdeal.nD Cert.GatedMergeIdeal.τ).loc Cert.GatedMergeIdeal.main_arg1) = m ((c.tc : Thread Cert.MergeIdeal.nD Cert.MergeIdeal.τ).loc Cert.MergeIdeal.main_arg1)
      ∧ m' ((c.tc : Thread Cert.GatedMergeIdeal.nD Cert.GatedMergeIdeal.τ).loc Cert.GatedMergeIdeal.main_arg2) = m ((c.tc : Thread Cert.MergeIdeal.nD Cert.MergeIdeal.τ).loc Cert.MergeIdeal.main_arg2)
      ∧ m' ((c.tc : Thread Cert.GatedMergeIdeal.nD Cert.GatedMergeIdeal.τ).loc Cert.GatedMergeIdeal.main_arg3) = m ((c.tc : Thread Cert.MergeIdeal.nD Cert.MergeIdeal.τ).loc Cert.MergeIdeal.main_arg3)
      ∧ m' ((c.tc : Thread Cert.GatedMergeIdeal.nD Cert.GatedMergeIdeal.τ).loc Cert.GatedMergeIdeal.main_arg4) = m ((c.tc : Thread Cert.MergeIdeal.nD Cert.MergeIdeal.τ).loc Cert.MergeIdeal.main_arg4)
      ∧ m' ((c.tc : Thread Cert.GatedMergeIdeal.nD Cert.GatedMergeIdeal.τ).loc Cert.GatedMergeIdeal.main_arg5) = m ((c.tc : Thread Cert.MergeIdeal.nD Cert.MergeIdeal.τ).loc Cert.MergeIdeal.main_arg5)
      ∧ m' ((c.tc : Thread Cert.GatedMergeIdeal.nD Cert.GatedMergeIdeal.τ).loc Cert.GatedMergeIdeal.main_arg6) = m ((c.tc : Thread Cert.MergeIdeal.nD Cert.MergeIdeal.τ).loc Cert.MergeIdeal.main_arg6)
      ∧ m' ((c.tc : Thread Cert.GatedMergeIdeal.nD Cert.GatedMergeIdeal.τ).loc Cert.GatedMergeIdeal.main_arg7) = m ((c.tc : Thread Cert.MergeIdeal.nD Cert.MergeIdeal.τ).loc Cert.MergeIdeal.main_arg7)
      ∧ m' ((c.tc : Thread Cert.GatedMergeIdeal.nD Cert.GatedMergeIdeal.τ).loc Cert.GatedMergeIdeal.main_arg8) = m ((c.tc : Thread Cert.MergeIdeal.nD Cert.MergeIdeal.τ).loc Cert.MergeIdeal.main_arg8)
      ∧ m' ((c.tc : Thread Cert.GatedMergeIdeal.nD Cert.GatedMergeIdeal.τ).loc Cert.GatedMergeIdeal.main_arg9) = m ((c.tc : Thread Cert.MergeIdeal.nD Cert.MergeIdeal.τ).loc Cert.MergeIdeal.main_arg9)
      ∧ m' ((c.tc : Thread Cert.GatedMergeIdeal.nD Cert.GatedMergeIdeal.τ).loc Cert.GatedMergeIdeal.main_arg10) = m ((c.tc : Thread Cert.MergeIdeal.nD Cert.MergeIdeal.τ).loc Cert.MergeIdeal.main_arg10)
      ∧ m' ((c.tc : Thread Cert.GatedMergeIdeal.nD Cert.GatedMergeIdeal.τ).loc Cert.GatedMergeIdeal.main_arg11) = m ((c.tc : Thread Cert.MergeIdeal.nD Cert.MergeIdeal.τ).loc Cert.MergeIdeal.main_arg11)
      ∧ m' ((c.tc : Thread Cert.GatedMergeIdeal.nD Cert.GatedMergeIdeal.τ).loc Cert.GatedMergeIdeal.main_arg12) = m ((c.tc : Thread Cert.MergeIdeal.nD Cert.MergeIdeal.τ).loc Cert.MergeIdeal.main_arg12)
      ∧ m' ((c.tc : Thread Cert.GatedMergeIdeal.nD Cert.GatedMergeIdeal.τ).loc Cert.GatedMergeIdeal.main_arg13) = m ((c.tc : Thread Cert.MergeIdeal.nD Cert.MergeIdeal.τ).loc Cert.MergeIdeal.main_arg13)
      ∧ m' ((c.tc : Thread Cert.GatedMergeIdeal.nD Cert.GatedMergeIdeal.τ).loc Cert.GatedMergeIdeal.main_arg14) = m ((c.tc : Thread Cert.MergeIdeal.nD Cert.MergeIdeal.τ).loc Cert.MergeIdeal.main_arg14)) →
    ∃ (v0 : (c : Dev Cert.MergeIdeal.nD) → Buf (Elt Ideal) ((c.tc : Thread Cert.MergeIdeal.nD Cert.MergeIdeal.τ).loc Cert.MergeIdeal.main_v36)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v36) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ θ_run (Cert.GatedMergeIdeal.defs (F := Ideal)) (onTc (τ := Cert.GatedMergeIdeal.τ) (Cert.GatedMergeIdeal.main (F := Ideal))) ⟨m', fun _ => 0, g'⟩ (fun r => ∀ c : Dev Cert.GatedMergeIdeal.nD,
          r.2.mem ((c.tc : Thread Cert.GatedMergeIdeal.nD Cert.GatedMergeIdeal.τ).loc Cert.GatedMergeIdeal.main_v60) = v0 c
          ∧ r.2.mem ((c.tc : Thread Cert.GatedMergeIdeal.nD Cert.GatedMergeIdeal.τ).loc Cert.GatedMergeIdeal.main_arg0) = m' ((c.tc : Thread Cert.GatedMergeIdeal.nD Cert.GatedMergeIdeal.τ).loc Cert.GatedMergeIdeal.main_arg0)
          ∧ r.2.mem ((c.tc : Thread Cert.GatedMergeIdeal.nD Cert.GatedMergeIdeal.τ).loc Cert.GatedMergeIdeal.main_arg1) = m' ((c.tc : Thread Cert.GatedMergeIdeal.nD Cert.GatedMergeIdeal.τ).loc Cert.GatedMergeIdeal.main_arg1)
          ∧ r.2.mem ((c.tc : Thread Cert.GatedMergeIdeal.nD Cert.GatedMergeIdeal.τ).loc Cert.GatedMergeIdeal.main_arg2) = m' ((c.tc : Thread Cert.GatedMergeIdeal.nD Cert.GatedMergeIdeal.τ).loc Cert.GatedMergeIdeal.main_arg2)
          ∧ r.2.mem ((c.tc : Thread Cert.GatedMergeIdeal.nD Cert.GatedMergeIdeal.τ).loc Cert.GatedMergeIdeal.main_arg3) = m' ((c.tc : Thread Cert.GatedMergeIdeal.nD Cert.GatedMergeIdeal.τ).loc Cert.GatedMergeIdeal.main_arg3)
          ∧ r.2.mem ((c.tc : Thread Cert.GatedMergeIdeal.nD Cert.GatedMergeIdeal.τ).loc Cert.GatedMergeIdeal.main_arg4) = m' ((c.tc : Thread Cert.GatedMergeIdeal.nD Cert.GatedMergeIdeal.τ).loc Cert.GatedMergeIdeal.main_arg4)
          ∧ r.2.mem ((c.tc : Thread Cert.GatedMergeIdeal.nD Cert.GatedMergeIdeal.τ).loc Cert.GatedMergeIdeal.main_arg5) = m' ((c.tc : Thread Cert.GatedMergeIdeal.nD Cert.GatedMergeIdeal.τ).loc Cert.GatedMergeIdeal.main_arg5)
          ∧ r.2.mem ((c.tc : Thread Cert.GatedMergeIdeal.nD Cert.GatedMergeIdeal.τ).loc Cert.GatedMergeIdeal.main_arg6) = m' ((c.tc : Thread Cert.GatedMergeIdeal.nD Cert.GatedMergeIdeal.τ).loc Cert.GatedMergeIdeal.main_arg6)
          ∧ r.2.mem ((c.tc : Thread Cert.GatedMergeIdeal.nD Cert.GatedMergeIdeal.τ).loc Cert.GatedMergeIdeal.main_arg7) = m' ((c.tc : Thread Cert.GatedMergeIdeal.nD Cert.GatedMergeIdeal.τ).loc Cert.GatedMergeIdeal.main_arg7)
          ∧ r.2.mem ((c.tc : Thread Cert.GatedMergeIdeal.nD Cert.GatedMergeIdeal.τ).loc Cert.GatedMergeIdeal.main_arg8) = m' ((c.tc : Thread Cert.GatedMergeIdeal.nD Cert.GatedMergeIdeal.τ).loc Cert.GatedMergeIdeal.main_arg8)
          ∧ r.2.mem ((c.tc : Thread Cert.GatedMergeIdeal.nD Cert.GatedMergeIdeal.τ).loc Cert.GatedMergeIdeal.main_arg9) = m' ((c.tc : Thread Cert.GatedMergeIdeal.nD Cert.GatedMergeIdeal.τ).loc Cert.GatedMergeIdeal.main_arg9)
          ∧ r.2.mem ((c.tc : Thread Cert.GatedMergeIdeal.nD Cert.GatedMergeIdeal.τ).loc Cert.GatedMergeIdeal.main_arg10) = m' ((c.tc : Thread Cert.GatedMergeIdeal.nD Cert.GatedMergeIdeal.τ).loc Cert.GatedMergeIdeal.main_arg10)
          ∧ r.2.mem ((c.tc : Thread Cert.GatedMergeIdeal.nD Cert.GatedMergeIdeal.τ).loc Cert.GatedMergeIdeal.main_arg11) = m' ((c.tc : Thread Cert.GatedMergeIdeal.nD Cert.GatedMergeIdeal.τ).loc Cert.GatedMergeIdeal.main_arg11)
          ∧ r.2.mem ((c.tc : Thread Cert.GatedMergeIdeal.nD Cert.GatedMergeIdeal.τ).loc Cert.GatedMergeIdeal.main_arg12) = m' ((c.tc : Thread Cert.GatedMergeIdeal.nD Cert.GatedMergeIdeal.τ).loc Cert.GatedMergeIdeal.main_arg12)
          ∧ r.2.mem ((c.tc : Thread Cert.GatedMergeIdeal.nD Cert.GatedMergeIdeal.τ).loc Cert.GatedMergeIdeal.main_arg13) = m' ((c.tc : Thread Cert.GatedMergeIdeal.nD Cert.GatedMergeIdeal.τ).loc Cert.GatedMergeIdeal.main_arg13)
          ∧ r.2.mem ((c.tc : Thread Cert.GatedMergeIdeal.nD Cert.GatedMergeIdeal.τ).loc Cert.GatedMergeIdeal.main_arg14) = m' ((c.tc : Thread Cert.GatedMergeIdeal.nD Cert.GatedMergeIdeal.τ).loc Cert.GatedMergeIdeal.main_arg14))

def preserves_Ffn_FfnIdeal : Prop :=
  True

def algebraic_FfnIdeal_ConvFfnIdeal [hFfnIdeal : Cert.FfnIdeal.Facts] [hConvFfnIdeal : Cert.ConvFfnIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.ConvFfnIdeal.nD Cert.ConvFfnIdeal.τ Cert.ConvFfnIdeal.sig) → Buf (Elt Ideal) ℓ) (g' : Dev Cert.ConvFfnIdeal.nD → PrngReg), Pre_FfnIdeal m →
    (∀ c : Dev Cert.FfnIdeal.nD,
      m' ((c.tc : Thread Cert.ConvFfnIdeal.nD Cert.ConvFfnIdeal.τ).loc Cert.ConvFfnIdeal.main_arg0) = m ((c.tc : Thread Cert.FfnIdeal.nD Cert.FfnIdeal.τ).loc Cert.FfnIdeal.main_arg0)
      ∧ m' ((c.tc : Thread Cert.ConvFfnIdeal.nD Cert.ConvFfnIdeal.τ).loc Cert.ConvFfnIdeal.main_arg1) = m ((c.tc : Thread Cert.FfnIdeal.nD Cert.FfnIdeal.τ).loc Cert.FfnIdeal.main_arg1)
      ∧ m' ((c.tc : Thread Cert.ConvFfnIdeal.nD Cert.ConvFfnIdeal.τ).loc Cert.ConvFfnIdeal.main_arg2) = m ((c.tc : Thread Cert.FfnIdeal.nD Cert.FfnIdeal.τ).loc Cert.FfnIdeal.main_arg2)
      ∧ m' ((c.tc : Thread Cert.ConvFfnIdeal.nD Cert.ConvFfnIdeal.τ).loc Cert.ConvFfnIdeal.main_arg3) = m ((c.tc : Thread Cert.FfnIdeal.nD Cert.FfnIdeal.τ).loc Cert.FfnIdeal.main_arg3)
      ∧ m' ((c.tc : Thread Cert.ConvFfnIdeal.nD Cert.ConvFfnIdeal.τ).loc Cert.ConvFfnIdeal.main_arg4) = m ((c.tc : Thread Cert.FfnIdeal.nD Cert.FfnIdeal.τ).loc Cert.FfnIdeal.main_arg4)
      ∧ m' ((c.tc : Thread Cert.ConvFfnIdeal.nD Cert.ConvFfnIdeal.τ).loc Cert.ConvFfnIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v13)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v13) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.ConvFfnIdeal.defs (F := Ideal)) (onTc (τ := Cert.ConvFfnIdeal.τ) (Cert.ConvFfnIdeal.main (F := Ideal))) ⟨m', fun _ => 0, g'⟩ (fun r => ∀ c : Dev Cert.ConvFfnIdeal.nD,
          r.2.mem ((c.tc : Thread Cert.ConvFfnIdeal.nD Cert.ConvFfnIdeal.τ).loc Cert.ConvFfnIdeal.main_v55) = v0 c
          ∧ r.2.mem ((c.tc : Thread Cert.ConvFfnIdeal.nD Cert.ConvFfnIdeal.τ).loc Cert.ConvFfnIdeal.main_arg0) = m' ((c.tc : Thread Cert.ConvFfnIdeal.nD Cert.ConvFfnIdeal.τ).loc Cert.ConvFfnIdeal.main_arg0)
          ∧ r.2.mem ((c.tc : Thread Cert.ConvFfnIdeal.nD Cert.ConvFfnIdeal.τ).loc Cert.ConvFfnIdeal.main_arg1) = m' ((c.tc : Thread Cert.ConvFfnIdeal.nD Cert.ConvFfnIdeal.τ).loc Cert.ConvFfnIdeal.main_arg1)
          ∧ r.2.mem ((c.tc : Thread Cert.ConvFfnIdeal.nD Cert.ConvFfnIdeal.τ).loc Cert.ConvFfnIdeal.main_arg2) = m' ((c.tc : Thread Cert.ConvFfnIdeal.nD Cert.ConvFfnIdeal.τ).loc Cert.ConvFfnIdeal.main_arg2)
          ∧ r.2.mem ((c.tc : Thread Cert.ConvFfnIdeal.nD Cert.ConvFfnIdeal.τ).loc Cert.ConvFfnIdeal.main_arg3) = m' ((c.tc : Thread Cert.ConvFfnIdeal.nD Cert.ConvFfnIdeal.τ).loc Cert.ConvFfnIdeal.main_arg3)
          ∧ r.2.mem ((c.tc : Thread Cert.ConvFfnIdeal.nD Cert.ConvFfnIdeal.τ).loc Cert.ConvFfnIdeal.main_arg4) = m' ((c.tc : Thread Cert.ConvFfnIdeal.nD Cert.ConvFfnIdeal.τ).loc Cert.ConvFfnIdeal.main_arg4)
          ∧ r.2.mem ((c.tc : Thread Cert.ConvFfnIdeal.nD Cert.ConvFfnIdeal.τ).loc Cert.ConvFfnIdeal.main_arg5) = m' ((c.tc : Thread Cert.ConvFfnIdeal.nD Cert.ConvFfnIdeal.τ).loc Cert.ConvFfnIdeal.main_arg5))

def preserves_FfnSample_FfnSampleIdeal : Prop :=
  True

def algebraic_FfnSampleIdeal_ConvFfnSampleIdeal [hFfnSampleIdeal : Cert.FfnSampleIdeal.Facts] [hConvFfnSampleIdeal : Cert.ConvFfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.ConvFfnSampleIdeal.nD Cert.ConvFfnSampleIdeal.τ Cert.ConvFfnSampleIdeal.sig) → Buf (Elt Ideal) ℓ) (g' : Dev Cert.ConvFfnSampleIdeal.nD → PrngReg), Pre_FfnSampleIdeal m →
    (∀ c : Dev Cert.FfnSampleIdeal.nD,
      m' ((c.tc : Thread Cert.ConvFfnSampleIdeal.nD Cert.ConvFfnSampleIdeal.τ).loc Cert.ConvFfnSampleIdeal.main_arg0) = m ((c.tc : Thread Cert.FfnSampleIdeal.nD Cert.FfnSampleIdeal.τ).loc Cert.FfnSampleIdeal.main_arg0)
      ∧ m' ((c.tc : Thread Cert.ConvFfnSampleIdeal.nD Cert.ConvFfnSampleIdeal.τ).loc Cert.ConvFfnSampleIdeal.main_arg1) = m ((c.tc : Thread Cert.FfnSampleIdeal.nD Cert.FfnSampleIdeal.τ).loc Cert.FfnSampleIdeal.main_arg1)
      ∧ m' ((c.tc : Thread Cert.ConvFfnSampleIdeal.nD Cert.ConvFfnSampleIdeal.τ).loc Cert.ConvFfnSampleIdeal.main_arg2) = m ((c.tc : Thread Cert.FfnSampleIdeal.nD Cert.FfnSampleIdeal.τ).loc Cert.FfnSampleIdeal.main_arg2)
      ∧ m' ((c.tc : Thread Cert.ConvFfnSampleIdeal.nD Cert.ConvFfnSampleIdeal.τ).loc Cert.ConvFfnSampleIdeal.main_arg3) = m ((c.tc : Thread Cert.FfnSampleIdeal.nD Cert.FfnSampleIdeal.τ).loc Cert.FfnSampleIdeal.main_arg3)
      ∧ m' ((c.tc : Thread Cert.ConvFfnSampleIdeal.nD Cert.ConvFfnSampleIdeal.τ).loc Cert.ConvFfnSampleIdeal.main_arg4) = m ((c.tc : Thread Cert.FfnSampleIdeal.nD Cert.FfnSampleIdeal.τ).loc Cert.FfnSampleIdeal.main_arg4)
      ∧ m' ((c.tc : Thread Cert.ConvFfnSampleIdeal.nD Cert.ConvFfnSampleIdeal.τ).loc Cert.ConvFfnSampleIdeal.main_arg5) = m ((c.tc : Thread Cert.FfnSampleIdeal.nD Cert.FfnSampleIdeal.τ).loc Cert.FfnSampleIdeal.main_arg5)) →
    ∃ (v0 : (c : Dev Cert.FfnSampleIdeal.nD) → Buf (Elt Ideal) ((c.tc : Thread Cert.FfnSampleIdeal.nD Cert.FfnSampleIdeal.τ).loc Cert.FfnSampleIdeal.main_v13)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v13) = v0 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5))
      ∧ θ_run (Cert.ConvFfnSampleIdeal.defs (F := Ideal)) (onTc (τ := Cert.ConvFfnSampleIdeal.τ) (Cert.ConvFfnSampleIdeal.main (F := Ideal))) ⟨m', fun _ => 0, g'⟩ (fun r => ∀ c : Dev Cert.ConvFfnSampleIdeal.nD,
          r.2.mem ((c.tc : Thread Cert.ConvFfnSampleIdeal.nD Cert.ConvFfnSampleIdeal.τ).loc Cert.ConvFfnSampleIdeal.main_v55) = v0 c
          ∧ r.2.mem ((c.tc : Thread Cert.ConvFfnSampleIdeal.nD Cert.ConvFfnSampleIdeal.τ).loc Cert.ConvFfnSampleIdeal.main_arg0) = m' ((c.tc : Thread Cert.ConvFfnSampleIdeal.nD Cert.ConvFfnSampleIdeal.τ).loc Cert.ConvFfnSampleIdeal.main_arg0)
          ∧ r.2.mem ((c.tc : Thread Cert.ConvFfnSampleIdeal.nD Cert.ConvFfnSampleIdeal.τ).loc Cert.ConvFfnSampleIdeal.main_arg1) = m' ((c.tc : Thread Cert.ConvFfnSampleIdeal.nD Cert.ConvFfnSampleIdeal.τ).loc Cert.ConvFfnSampleIdeal.main_arg1)
          ∧ r.2.mem ((c.tc : Thread Cert.ConvFfnSampleIdeal.nD Cert.ConvFfnSampleIdeal.τ).loc Cert.ConvFfnSampleIdeal.main_arg2) = m' ((c.tc : Thread Cert.ConvFfnSampleIdeal.nD Cert.ConvFfnSampleIdeal.τ).loc Cert.ConvFfnSampleIdeal.main_arg2)
          ∧ r.2.mem ((c.tc : Thread Cert.ConvFfnSampleIdeal.nD Cert.ConvFfnSampleIdeal.τ).loc Cert.ConvFfnSampleIdeal.main_arg3) = m' ((c.tc : Thread Cert.ConvFfnSampleIdeal.nD Cert.ConvFfnSampleIdeal.τ).loc Cert.ConvFfnSampleIdeal.main_arg3)
          ∧ r.2.mem ((c.tc : Thread Cert.ConvFfnSampleIdeal.nD Cert.ConvFfnSampleIdeal.τ).loc Cert.ConvFfnSampleIdeal.main_arg4) = m' ((c.tc : Thread Cert.ConvFfnSampleIdeal.nD Cert.ConvFfnSampleIdeal.τ).loc Cert.ConvFfnSampleIdeal.main_arg4)
          ∧ r.2.mem ((c.tc : Thread Cert.ConvFfnSampleIdeal.nD Cert.ConvFfnSampleIdeal.τ).loc Cert.ConvFfnSampleIdeal.main_arg5) = m' ((c.tc : Thread Cert.ConvFfnSampleIdeal.nD Cert.ConvFfnSampleIdeal.τ).loc Cert.ConvFfnSampleIdeal.main_arg5))

def preserves_Xattn_XattnIdeal : Prop :=
  True

def algebraic_XattnIdeal_MemoryAttentionIdeal_pre_finite_scores [hXattnIdeal : Cert.XattnIdeal.Facts] [hMemoryAttentionIdeal : Cert.MemoryAttentionIdeal.Facts] [hPre_finite_scores : Cert.Pre_finite_scores.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.MemoryAttentionIdeal.nD Cert.MemoryAttentionIdeal.τ Cert.MemoryAttentionIdeal.sig) → Buf (Elt Ideal) ℓ) (g' : Dev Cert.MemoryAttentionIdeal.nD → PrngReg), Pre_XattnIdeal_finite_scores m →
    (∀ c : Dev Cert.XattnIdeal.nD,
      m' ((c.tc : Thread Cert.MemoryAttentionIdeal.nD Cert.MemoryAttentionIdeal.τ).loc Cert.MemoryAttentionIdeal.main_arg0) = m ((c.tc : Thread Cert.XattnIdeal.nD Cert.XattnIdeal.τ).loc Cert.XattnIdeal.main_arg0)
      ∧ m' ((c.tc : Thread Cert.MemoryAttentionIdeal.nD Cert.MemoryAttentionIdeal.τ).loc Cert.MemoryAttentionIdeal.main_arg1) = m ((c.tc : Thread Cert.XattnIdeal.nD Cert.XattnIdeal.τ).loc Cert.XattnIdeal.main_arg1)
      ∧ m' ((c.tc : Thread Cert.MemoryAttentionIdeal.nD Cert.MemoryAttentionIdeal.τ).loc Cert.MemoryAttentionIdeal.main_arg2) = m ((c.tc : Thread Cert.XattnIdeal.nD Cert.XattnIdeal.τ).loc Cert.XattnIdeal.main_arg2)
      ∧ m' ((c.tc : Thread Cert.MemoryAttentionIdeal.nD Cert.MemoryAttentionIdeal.τ).loc Cert.MemoryAttentionIdeal.main_arg3) = m ((c.tc : Thread Cert.XattnIdeal.nD Cert.XattnIdeal.τ).loc Cert.XattnIdeal.main_arg3)
      ∧ m' ((c.tc : Thread Cert.MemoryAttentionIdeal.nD Cert.MemoryAttentionIdeal.τ).loc Cert.MemoryAttentionIdeal.main_arg4) = m ((c.tc : Thread Cert.XattnIdeal.nD Cert.XattnIdeal.τ).loc Cert.XattnIdeal.main_arg4)) →
    ∃ (v0 : (c : Dev Cert.XattnIdeal.nD) → Buf (Elt Ideal) ((c.tc : Thread Cert.XattnIdeal.nD Cert.XattnIdeal.τ).loc Cert.XattnIdeal.main_v13)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v13) = v0 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
          ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
          ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4))
      ∧ θ_run (Cert.MemoryAttentionIdeal.defs (F := Ideal)) (onTc (τ := Cert.MemoryAttentionIdeal.τ) (Cert.MemoryAttentionIdeal.main (F := Ideal))) ⟨m', fun _ => 0, g'⟩ (fun r => ∀ c : Dev Cert.MemoryAttentionIdeal.nD,
          r.2.mem ((c.tc : Thread Cert.MemoryAttentionIdeal.nD Cert.MemoryAttentionIdeal.τ).loc Cert.MemoryAttentionIdeal.main_v35) = v0 c
          ∧ r.2.mem ((c.tc : Thread Cert.MemoryAttentionIdeal.nD Cert.MemoryAttentionIdeal.τ).loc Cert.MemoryAttentionIdeal.main_arg0) = m' ((c.tc : Thread Cert.MemoryAttentionIdeal.nD Cert.MemoryAttentionIdeal.τ).loc Cert.MemoryAttentionIdeal.main_arg0)
          ∧ r.2.mem ((c.tc : Thread Cert.MemoryAttentionIdeal.nD Cert.MemoryAttentionIdeal.τ).loc Cert.MemoryAttentionIdeal.main_arg1) = m' ((c.tc : Thread Cert.MemoryAttentionIdeal.nD Cert.MemoryAttentionIdeal.τ).loc Cert.MemoryAttentionIdeal.main_arg1)
          ∧ r.2.mem ((c.tc : Thread Cert.MemoryAttentionIdeal.nD Cert.MemoryAttentionIdeal.τ).loc Cert.MemoryAttentionIdeal.main_arg2) = m' ((c.tc : Thread Cert.MemoryAttentionIdeal.nD Cert.MemoryAttentionIdeal.τ).loc Cert.MemoryAttentionIdeal.main_arg2)
          ∧ r.2.mem ((c.tc : Thread Cert.MemoryAttentionIdeal.nD Cert.MemoryAttentionIdeal.τ).loc Cert.MemoryAttentionIdeal.main_arg3) = m' ((c.tc : Thread Cert.MemoryAttentionIdeal.nD Cert.MemoryAttentionIdeal.τ).loc Cert.MemoryAttentionIdeal.main_arg3)
          ∧ r.2.mem ((c.tc : Thread Cert.MemoryAttentionIdeal.nD Cert.MemoryAttentionIdeal.τ).loc Cert.MemoryAttentionIdeal.main_arg4) = m' ((c.tc : Thread Cert.MemoryAttentionIdeal.nD Cert.MemoryAttentionIdeal.τ).loc Cert.MemoryAttentionIdeal.main_arg4))

def preserves_MemKv_MemKvIdeal : Prop :=
  True

def algebraic_MemKvIdeal_MemoryKeysValuesIdeal [hMemKvIdeal : Cert.MemKvIdeal.Facts] [hMemoryKeysValuesIdeal : Cert.MemoryKeysValuesIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemoryKeysValuesIdeal.nD Cert.MemoryKeysValuesIdeal.τ Cert.MemoryKeysValuesIdeal.sig) → Buf (Elt Ideal) ℓ) (g' : Dev Cert.MemoryKeysValuesIdeal.nD → PrngReg), Pre_MemKvIdeal m →
    (∀ c : Dev Cert.MemKvIdeal.nD,
      m' ((c.tc : Thread Cert.MemoryKeysValuesIdeal.nD Cert.MemoryKeysValuesIdeal.τ).loc Cert.MemoryKeysValuesIdeal.main_arg0) = m ((c.tc : Thread Cert.MemKvIdeal.nD Cert.MemKvIdeal.τ).loc Cert.MemKvIdeal.main_arg0)
      ∧ m' ((c.tc : Thread Cert.MemoryKeysValuesIdeal.nD Cert.MemoryKeysValuesIdeal.τ).loc Cert.MemoryKeysValuesIdeal.main_arg1) = m ((c.tc : Thread Cert.MemKvIdeal.nD Cert.MemKvIdeal.τ).loc Cert.MemKvIdeal.main_arg1)
      ∧ m' ((c.tc : Thread Cert.MemoryKeysValuesIdeal.nD Cert.MemoryKeysValuesIdeal.τ).loc Cert.MemoryKeysValuesIdeal.main_arg2) = m ((c.tc : Thread Cert.MemKvIdeal.nD Cert.MemKvIdeal.τ).loc Cert.MemKvIdeal.main_arg2)
      ∧ m' ((c.tc : Thread Cert.MemoryKeysValuesIdeal.nD Cert.MemoryKeysValuesIdeal.τ).loc Cert.MemoryKeysValuesIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v13_0)) (v1 : (c : Dev Cert.MemKvIdeal.nD) → Buf (Elt Ideal) ((c.tc : Thread Cert.MemKvIdeal.nD Cert.MemKvIdeal.τ).loc Cert.MemKvIdeal.main_v13_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v13_0) = v0 c
          ∧ r.2.mem ((c.tc : Thread Cert.MemKvIdeal.nD Cert.MemKvIdeal.τ).loc Cert.MemKvIdeal.main_v13_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemoryKeysValuesIdeal.defs (F := Ideal)) (onTc (τ := Cert.MemoryKeysValuesIdeal.τ) (Cert.MemoryKeysValuesIdeal.main (F := Ideal))) ⟨m', fun _ => 0, g'⟩ (fun r => ∀ c : Dev Cert.MemoryKeysValuesIdeal.nD,
          r.2.mem ((c.tc : Thread Cert.MemoryKeysValuesIdeal.nD Cert.MemoryKeysValuesIdeal.τ).loc Cert.MemoryKeysValuesIdeal.main_v34) = v0 c
          ∧ r.2.mem ((c.tc : Thread Cert.MemoryKeysValuesIdeal.nD Cert.MemoryKeysValuesIdeal.τ).loc Cert.MemoryKeysValuesIdeal.main_v36) = v1 c
          ∧ r.2.mem ((c.tc : Thread Cert.MemoryKeysValuesIdeal.nD Cert.MemoryKeysValuesIdeal.τ).loc Cert.MemoryKeysValuesIdeal.main_arg0) = m' ((c.tc : Thread Cert.MemoryKeysValuesIdeal.nD Cert.MemoryKeysValuesIdeal.τ).loc Cert.MemoryKeysValuesIdeal.main_arg0)
          ∧ r.2.mem ((c.tc : Thread Cert.MemoryKeysValuesIdeal.nD Cert.MemoryKeysValuesIdeal.τ).loc Cert.MemoryKeysValuesIdeal.main_arg1) = m' ((c.tc : Thread Cert.MemoryKeysValuesIdeal.nD Cert.MemoryKeysValuesIdeal.τ).loc Cert.MemoryKeysValuesIdeal.main_arg1)
          ∧ r.2.mem ((c.tc : Thread Cert.MemoryKeysValuesIdeal.nD Cert.MemoryKeysValuesIdeal.τ).loc Cert.MemoryKeysValuesIdeal.main_arg2) = m' ((c.tc : Thread Cert.MemoryKeysValuesIdeal.nD Cert.MemoryKeysValuesIdeal.τ).loc Cert.MemoryKeysValuesIdeal.main_arg2)
          ∧ r.2.mem ((c.tc : Thread Cert.MemoryKeysValuesIdeal.nD Cert.MemoryKeysValuesIdeal.τ).loc Cert.MemoryKeysValuesIdeal.main_arg3) = m' ((c.tc : Thread Cert.MemoryKeysValuesIdeal.nD Cert.MemoryKeysValuesIdeal.τ).loc Cert.MemoryKeysValuesIdeal.main_arg3))

def Claim : Prop :=
  ∃ (hFlash : Cert.Flash.Facts) (hFlashIdeal : Cert.FlashIdeal.Facts) (hAttentionIdeal : Cert.AttentionIdeal.Facts) (hMerge : Cert.Merge.Facts) (hMergeIdeal : Cert.MergeIdeal.Facts) (hGatedMergeIdeal : Cert.GatedMergeIdeal.Facts) (hFfn : Cert.Ffn.Facts) (hFfnIdeal : Cert.FfnIdeal.Facts) (hConvFfnIdeal : Cert.ConvFfnIdeal.Facts) (hFfnSample : Cert.FfnSample.Facts) (hFfnSampleIdeal : Cert.FfnSampleIdeal.Facts) (hConvFfnSampleIdeal : Cert.ConvFfnSampleIdeal.Facts) (hXattn : Cert.Xattn.Facts) (hXattnIdeal : Cert.XattnIdeal.Facts) (hMemoryAttentionIdeal : Cert.MemoryAttentionIdeal.Facts) (hMemKv : Cert.MemKv.Facts) (hMemKvIdeal : Cert.MemKvIdeal.Facts) (hMemoryKeysValuesIdeal : Cert.MemoryKeysValuesIdeal.Facts) (hPre_finite_qk : Cert.Pre_finite_qk.Facts) (hPre_finite_scores : Cert.Pre_finite_scores.Facts),
    quiescent_Flash (hFlash := hFlash)
    ∧ quiescent_FlashIdeal (hFlashIdeal := hFlashIdeal)
    ∧ quiescent_FlashIdeal_pre_finite_qk (hFlashIdeal := hFlashIdeal) (hPre_finite_qk := hPre_finite_qk)
    ∧ quiescent_AttentionIdeal (hAttentionIdeal := hAttentionIdeal)
    ∧ quiescent_AttentionIdeal_pre_finite_qk (hAttentionIdeal := hAttentionIdeal) (hPre_finite_qk := hPre_finite_qk)
    ∧ quiescent_Merge (hMerge := hMerge)
    ∧ quiescent_MergeIdeal (hMergeIdeal := hMergeIdeal)
    ∧ quiescent_GatedMergeIdeal (hGatedMergeIdeal := hGatedMergeIdeal)
    ∧ quiescent_Ffn (hFfn := hFfn)
    ∧ quiescent_FfnIdeal (hFfnIdeal := hFfnIdeal)
    ∧ quiescent_ConvFfnIdeal (hConvFfnIdeal := hConvFfnIdeal)
    ∧ quiescent_FfnSample (hFfnSample := hFfnSample)
    ∧ quiescent_FfnSampleIdeal (hFfnSampleIdeal := hFfnSampleIdeal)
    ∧ quiescent_ConvFfnSampleIdeal (hConvFfnSampleIdeal := hConvFfnSampleIdeal)
    ∧ quiescent_Xattn (hXattn := hXattn)
    ∧ quiescent_XattnIdeal (hXattnIdeal := hXattnIdeal)
    ∧ quiescent_XattnIdeal_pre_finite_scores (hXattnIdeal := hXattnIdeal) (hPre_finite_scores := hPre_finite_scores)
    ∧ quiescent_MemoryAttentionIdeal (hMemoryAttentionIdeal := hMemoryAttentionIdeal)
    ∧ quiescent_MemoryAttentionIdeal_pre_finite_scores (hMemoryAttentionIdeal := hMemoryAttentionIdeal) (hPre_finite_scores := hPre_finite_scores)
    ∧ quiescent_MemKv (hMemKv := hMemKv)
    ∧ quiescent_MemKvIdeal (hMemKvIdeal := hMemKvIdeal)
    ∧ quiescent_MemoryKeysValuesIdeal (hMemoryKeysValuesIdeal := hMemoryKeysValuesIdeal)
    ∧ preserves_Flash_FlashIdeal
    ∧ algebraic_FlashIdeal_AttentionIdeal_pre_finite_qk (hFlashIdeal := hFlashIdeal) (hAttentionIdeal := hAttentionIdeal) (hPre_finite_qk := hPre_finite_qk)
    ∧ preserves_Merge_MergeIdeal
    ∧ algebraic_MergeIdeal_GatedMergeIdeal (hMergeIdeal := hMergeIdeal) (hGatedMergeIdeal := hGatedMergeIdeal)
    ∧ preserves_Ffn_FfnIdeal
    ∧ algebraic_FfnIdeal_ConvFfnIdeal (hFfnIdeal := hFfnIdeal) (hConvFfnIdeal := hConvFfnIdeal)
    ∧ preserves_FfnSample_FfnSampleIdeal
    ∧ algebraic_FfnSampleIdeal_ConvFfnSampleIdeal (hFfnSampleIdeal := hFfnSampleIdeal) (hConvFfnSampleIdeal := hConvFfnSampleIdeal)
    ∧ preserves_Xattn_XattnIdeal
    ∧ algebraic_XattnIdeal_MemoryAttentionIdeal_pre_finite_scores (hXattnIdeal := hXattnIdeal) (hMemoryAttentionIdeal := hMemoryAttentionIdeal) (hPre_finite_scores := hPre_finite_scores)
    ∧ preserves_MemKv_MemKvIdeal
    ∧ algebraic_MemKvIdeal_MemoryKeysValuesIdeal (hMemKvIdeal := hMemKvIdeal) (hMemoryKeysValuesIdeal := hMemoryKeysValuesIdeal)
-- ==== Pre_finite_qk.lean ====
abbrev S32x2048x8x96 : Shape := ⟨4, ![32, 2048, 8, 96]⟩
abbrev S32x2048x8x64 : Shape := ⟨4, ![32, 2048, 8, 64]⟩
abbrev S_ : Shape := ⟨0, ![]⟩

class Facts : Prop where
  bcast_S_S32x2048x8x96 : S_.BroadcastsInDim S32x2048x8x96 (![] : Fin 0 → Fin S32x2048x8x96.rank)
  reducesTo_S32x2048x8x96_S_d0_1_2_3 : S32x2048x8x96.ReducesTo [0, 1, 2, 3] S_
  h_S_ : 0 < S_.numel

variable [Facts]

def fn {F : FTy → Type} [FloatOps F] (main_arg0 : FVec F S32x2048x8x96 .f32) (main_arg1 : FVec F S32x2048x8x96 .f32) (main_arg2 : FVec F S32x2048x8x64 .f32) : IVec S_ 1 :=
  let main_v0 : FVec F S32x2048x8x96 .f32 := Host.absf main_arg0
  let main_cst : FVec F S_ .f32 := constant S_ .f32 0x7F800000#32
  let main_v1 : FVec F S32x2048x8x96 .f32 := broadcastInDim S32x2048x8x96 ![] bcast_S_S32x2048x8x96 main_cst
  let main_v2 : IVec S32x2048x8x96 1 := cmpf .olt main_v0 main_v1
  let main_c : IVec S_ 1 := constantI S_ 1 1#1
  let main_v3 : IVec S_ 1 := (fun x v => Host.reduce IntOp.andi x v reducesTo_S32x2048x8x96_S_d0_1_2_3 h_S_) main_v2 main_c
  let main_v4 : FVec F S32x2048x8x96 .f32 := Host.absf main_arg1
  let main_cst_0 : FVec F S_ .f32 := constant S_ .f32 0x7F800000#32
  let main_v5 : FVec F S32x2048x8x96 .f32 := broadcastInDim S32x2048x8x96 ![] bcast_S_S32x2048x8x96 main_cst_0
  let main_v6 : IVec S32x2048x8x96 1 := cmpf .olt main_v4 main_v5
  let main_c_1 : IVec S_ 1 := constantI S_ 1 1#1
  let main_v7 : IVec S_ 1 := (fun x v => Host.reduce IntOp.andi x v reducesTo_S32x2048x8x96_S_d0_1_2_3 h_S_) main_v6 main_c_1
  let main_v8 : IVec S_ 1 := andi main_v3 main_v7
  main_v8
-- ==== Pre_finite_scores.lean ====
abbrev S32x2048x1024 : Shape := ⟨3, ![32, 2048, 1024]⟩
abbrev S32x256x4x128 : Shape := ⟨4, ![32, 256, 4, 128]⟩
abbrev S1x1024x6176 : Shape := ⟨3, ![1, 1024, 6176]⟩
abbrev S1x128 : Shape := ⟨2, ![1, 128]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  bcast_S_S32x256x4x128 : S_.BroadcastsInDim S32x256x4x128 (![] : Fin 0 → Fin S32x256x4x128.rank)
  reducesTo_S32x256x4x128_S_d0_1_2_3 : S32x256x4x128.ReducesTo [0, 1, 2, 3] S_
  bcast_S_S1x1024x6176 : S_.BroadcastsInDim S1x1024x6176 (![] : Fin 0 → Fin S1x1024x6176.rank)
  reducesTo_S1x1024x6176_S_d0_1_2 : S1x1024x6176.ReducesTo [0, 1, 2] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  main_v18

def fn {F : FTy → Type} [FloatOps F] (main_arg0 : FVec F S32x2048x1024 .f32) (main_arg1 : FVec F S32x256x4x128 .f32) (main_arg2 : FVec F S32x256x4x128 .f32) (main_arg3 : FVec F S1x1024x6176 .f32) (main_arg4 : FVec F S1x128 .f32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S32x256x4x128 .f32 := Host.absf main_arg1
  let main_cst_0 : FVec F S_ .f32 := constant S_ .f32 0x7F800000#32
  let main_v5 : FVec F S32x256x4x128 .f32 := broadcastInDim S32x256x4x128 ![] bcast_S_S32x256x4x128 main_cst_0
  let main_v6 : IVec S32x256x4x128 1 := cmpf .olt main_v4 main_v5
  let main_c_1 : IVec S_ 1 := constantI S_ 1 1#1
  let main_v7 : IVec S_ 1 := (fun x v => Host.reduce IntOp.andi x v reducesTo_S32x256x4x128_S_d0_1_2_3 h_S_) main_v6 main_c_1
  let main_v8 : IVec S_ 1 := andi main_v3 main_v7
  let main_v9 : FVec F S1x1024x6176 .f32 := Host.absf main_arg3
  let main_cst_2 : FVec F S_ .f32 := constant S_ .f32 0x7F800000#32
  let main_v10 : FVec F S1x1024x6176 .f32 := broadcastInDim S1x1024x6176 ![] bcast_S_S1x1024x6176 main_cst_2
  let main_v11 : IVec S1x1024x6176 1 := cmpf .olt main_v9 main_v10
  let main_c_3 : IVec S_ 1 := constantI S_ 1 1#1
  let main_v12 : IVec S_ 1 := (fun x v => Host.reduce IntOp.andi x v reducesTo_S1x1024x6176_S_d0_1_2 h_S_) main_v11 main_c_3
  let main_v13 : IVec S_ 1 := andi main_v8 main_v12
  let main_v14 : FVec F S1x128 .f32 := Host.absf main_arg4
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_v13 main_v16
-- ==== Flash.lean ====
abbrev S32x2048x8x96 : Shape := ⟨4, ![32, 2048, 8, 96]⟩
abbrev S32x2048x8x64 : Shape := ⟨4, ![32, 2048, 8, 64]⟩
abbrev S_ : Shape := ⟨0, ![]⟩
abbrev S32x2048x8x128 : Shape := ⟨4, ![32, 2048, 8, 128]⟩
abbrev S65536x1024 : Shape := ⟨2, ![65536, 1024]⟩
abbrev S32x2048x8x1 : Shape := ⟨4, ![32, 2048, 8, 1]⟩
abbrev S32x2048x8x65 : Shape := ⟨4, ![32, 2048, 8, 65]⟩
abbrev S128x512x1024 : Shape := ⟨3, ![128, 512, 1024]⟩
abbrev S128x1024x512 : Shape := ⟨3, ![128, 1024, 512]⟩
abbrev S65536x512 : Shape := ⟨2, ![65536, 512]⟩
abbrev S2048x256 : Shape := ⟨2, ![2048, 256]⟩
abbrev S4x256x512 : Shape := ⟨3, ![4, 256, 512]⟩
abbrev S2048x128 : Shape := ⟨2, ![2048, 128]⟩
abbrev S2x512x2048 : Shape := ⟨3, ![2, 512, 2048]⟩
abbrev S1x2048 : Shape := ⟨2, ![1, 2048]⟩
abbrev S128x2048 : Shape := ⟨2, ![128, 2048]⟩
abbrev S512x256 : Shape := ⟨2, ![512, 256]⟩
abbrev S512x128 : Shape := ⟨2, ![512, 128]⟩
abbrev S512x2048 : Shape := ⟨2, ![512, 2048]⟩
abbrev S1x512x2048 : Shape := ⟨3, ![1, 512, 2048]⟩
abbrev S1x256x512 : Shape := ⟨3, ![1, 256, 512]⟩
abbrev S256x512 : Shape := ⟨2, ![256, 512]⟩
abbrev S2048 : Shape := ⟨1, ![2048]⟩
abbrev S128x512 : Shape := ⟨2, ![128, 512]⟩
abbrev S64x2048 : Shape := ⟨2, ![64, 2048]⟩

abbrev nBuf : Space → Nat
  | .hbm => 31
  | .vmem => 10
  | .smem => 0
  | _ => 0

abbrev bufTy : (tb : Table) → Fin (tcTables nBuf tb) → BufTy
  | .hbm, ⟨0, _⟩ => ⟨S32x2048x8x96, .f32⟩
  | .hbm, ⟨1, _⟩ => ⟨S32x2048x8x96, .f32⟩
  | .hbm, ⟨2, _⟩ => ⟨S32x2048x8x64, .f32⟩
  | .hbm, ⟨3, _⟩ => ⟨S_, .f32⟩
  | .hbm, ⟨4, _⟩ => ⟨S32x2048x8x96, .f32⟩
  | .hbm, ⟨5, _⟩ => ⟨S32x2048x8x96, .f32⟩
  | .hbm, ⟨6, _⟩ => ⟨S_, .f32⟩
  | .hbm, ⟨7, _⟩ => ⟨S_, .f32⟩
  | .hbm, ⟨8, _⟩ => ⟨S32x2048x8x96, .f32⟩
  | .hbm, ⟨9, _⟩ => ⟨S32x2048x8x96, .f32⟩
  | .hbm, ⟨10, _⟩ => ⟨S_, .i32⟩
  | .hbm, ⟨11, _⟩ => ⟨S_, .f32⟩
  | .hbm, ⟨12, _⟩ => ⟨S32x2048x8x128, .f32⟩
  | .hbm, ⟨13, _⟩ => ⟨S65536x1024, .f32⟩
  | .hbm, ⟨14, _⟩ => ⟨S65536x1024, .bf16⟩
  | .hbm, ⟨15, _⟩ => ⟨S_, .i32⟩
  | .hbm, ⟨16, _⟩ => ⟨S_, .f32⟩
  | .hbm, ⟨17, _⟩ => ⟨S32x2048x8x128, .f32⟩
  | .hbm, ⟨18, _⟩ => ⟨S65536x1024, .f32⟩
  | .hbm, ⟨19, _⟩ => ⟨S65536x1024, .bf16⟩
  | .hbm, ⟨20, _⟩ => ⟨S_, .f32⟩
  | .hbm, ⟨21, _⟩ => ⟨S32x2048x8x1, .f32⟩
  | .hbm, ⟨22, _⟩ => ⟨S32x2048x8x65, .f32⟩
  | .hbm, ⟨23, _⟩ => ⟨S_, .i32⟩
  | .hbm, ⟨24, _⟩ => ⟨S_, .f32⟩
  | .hbm, ⟨25, _⟩ => ⟨S32x2048x8x128, .f32⟩
  | .hbm, ⟨26, _⟩ => ⟨S65536x1024, .f32⟩
  | .hbm, ⟨27, _⟩ => ⟨S128x512x1024, .f32⟩
  | .hbm, ⟨28, _⟩ => ⟨S128x1024x512, .f32⟩
  | .hbm, ⟨29, _⟩ => ⟨S128x1024x512, .bf16⟩
  | .hbm, ⟨30, _⟩ => ⟨S65536x512, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S4x256x512, .bf16⟩
  | .local _ .vmem, ⟨5, _⟩ => ⟨S4x256x512, .bf16⟩
  | .local _ .vmem, ⟨6, _⟩ => ⟨S2048x128, .bf16⟩
  | .local _ .vmem, ⟨7, _⟩ => ⟨S2048x128, .bf16⟩
  | .local _ .vmem, ⟨8, _⟩ => ⟨S2x512x2048, .bf16⟩
  | .local _ .vmem, ⟨9, _⟩ => ⟨S2x512x2048, .bf16⟩
  | _, _ => ⟨S32x2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_call2_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 4, 1], ![false, false, false]⟩

def k0_mult1 : BitVec 32 :=
  let c0_i32 : BitVec 32 := 0#32
  c0_i32
def k0_mult2 : BitVec 32 :=
  let c2_i32 : BitVec 32 := 2#32
  let c0_i32_13 : BitVec 32 := 0#32
  let v24 : BitVec 32 := Scalar.muli c2_i32 c0_i32_13
  let c1_i32 : BitVec 32 := 1#32
  let v25 : BitVec 32 := Scalar.addi v24 c1_i32
  let c512_i32 : BitVec 32 := 512#32
  let v26 : BitVec 32 := Scalar.muli v25 c512_i32
  v26
def k0_off1 (c1_i32 : BitVec 32) : Fin 2 → Nat :=
  let c2_i32 : BitVec 32 := 2#32
  let c0_i32_13 : BitVec 32 := 0#32
  let v24 : BitVec 32 := Scalar.muli c2_i32 c0_i32_13
  let v25 : BitVec 32 := Scalar.addi v24 c1_i32
  let c512_i32 : BitVec 32 := 512#32
  let v26 : BitVec 32 := Scalar.muli v25 c512_i32
  let v27 : BitVec 32 := v26
  let v28 : Index := Scalar.indexCast v27
  let c0_14 : Index := 0#32
  ![v28.toNat, 0]
def k0_off2 : Fin 3 → Nat :=
  let c1_i32_27 : BitVec 32 := 1#32
  let c2_i32 : BitVec 32 := 2#32
  let c0_i32_13 : BitVec 32 := 0#32
  let v24 : BitVec 32 := Scalar.muli c2_i32 c0_i32_13
  let v47 : BitVec 32 := Scalar.muli c1_i32_27 v24
  let c0_i32_28 : BitVec 32 := 0#32
  let v48 : BitVec 32 := Scalar.addi v47 c0_i32_28
  let v49 : Index := Scalar.indexCast v48
  let c0_29 : Index := 0#32
  let c0_30 : Index := 0#32
  ![v49.toNat, 0, 0]
def k0_mult3 : BitVec 32 :=
  let c2_i32 : BitVec 32 := 2#32
  let c0_i32_13 : BitVec 32 := 0#32
  let v24 : BitVec 32 := Scalar.muli c2_i32 c0_i32_13
  let c2_i32_47 : BitVec 32 := 2#32
  let v90 : BitVec 32 := Scalar.addi v24 c2_i32_47
  let c512_i32_48 : BitVec 32 := 512#32
  let v91 : BitVec 32 := Scalar.muli v90 c512_i32_48
  v91
def k0_off3 : Fin 3 → Nat :=
  let c1_i32_63 : BitVec 32 := 1#32
  let c2_i32 : BitVec 32 := 2#32
  let c0_i32_13 : BitVec 32 := 0#32
  let v24 : BitVec 32 := Scalar.muli c2_i32 c0_i32_13
  let c1_i32_62 : BitVec 32 := 1#32
  let v112 : BitVec 32 := Scalar.addi v24 c1_i32_62
  let v113 : BitVec 32 := Scalar.muli c1_i32_63 v112
  let c0_i32_64 : BitVec 32 := 0#32
  let v114 : BitVec 32 := Scalar.addi v113 c0_i32_64
  let v115 : Index := Scalar.indexCast v114
  let c0_65 : Index := 0#32
  let c0_66 : Index := 0#32
  ![v115.toNat, 0, 0]
def k0_mult4 : BitVec 32 :=
  let c1536_i32 : BitVec 32 := 1536#32
  c1536_i32
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttentionIdeal.lean ====
abbrev S32x2048x8x96 : Shape := ⟨4, ![32, 2048, 8, 96]⟩
abbrev S32x2048x8x64 : Shape := ⟨4, ![32, 2048, 8, 64]⟩
abbrev S32x8x2048x2048 : Shape := ⟨4, ![32, 8, 2048, 2048]⟩
abbrev S_ : Shape := ⟨0, ![]⟩
abbrev S32x8x2048 : Shape := ⟨3, ![32, 8, 2048]⟩
abbrev S32x8x2048x1 : Shape := ⟨4, ![32, 8, 2048, 1]⟩
abbrev S32x8x64x2048 : Shape := ⟨4, ![32, 8, 64, 2048]⟩
abbrev S65536x512 : Shape := ⟨2, ![65536, 512]⟩

abbrev nBuf : Space → Nat
  | .hbm => 25
  | .vmem => 0
  | .smem => 0
  | _ => 0

abbrev bufTy : (tb : Table) → Fin (tcTables nBuf tb) → BufTy
  | .hbm, ⟨0, _⟩ => ⟨S32x2048x8x96, .f32⟩
  | .hbm, ⟨1, _⟩ => ⟨S32x2048x8x96, .f32⟩
  | .hbm, ⟨2, _⟩ => ⟨S32x2048x8x64, .f32⟩
  | .hbm, ⟨3, _⟩ => ⟨S32x8x2048x2048, .f32⟩
  | .hbm, ⟨4, _⟩ => ⟨S_, .f32⟩
  | .hbm, ⟨5, _⟩ => ⟨S32x8x2048x2048, .f32⟩
  | .hbm, ⟨6, _⟩ => ⟨S32x8x2048x2048, .f32⟩
  | .hbm, ⟨7, _⟩ => ⟨S_, .f32⟩
  | .hbm, ⟨8, _⟩ => ⟨S32x8x2048, .f32⟩
  | .hbm, ⟨9, _⟩ => ⟨S_, .f32⟩
  | .hbm, ⟨10, _⟩ => ⟨S32x8x2048, .f32⟩
  | .hbm, ⟨11, _⟩ => ⟨S32x8x2048, .f32⟩
  | .hbm, ⟨12, _⟩ => ⟨S32x8x2048x1, .f32⟩
  | .hbm, ⟨13, _⟩ => ⟨S32x8x2048x2048, .f32⟩
  | .hbm, ⟨14, _⟩ => ⟨S32x8x2048x2048, .f32⟩
  | .hbm, ⟨15, _⟩ => ⟨S32x8x2048x2048, .f32⟩
  | .hbm, ⟨16, _⟩ => ⟨S_, .f32⟩
  | .hbm, ⟨17, _⟩ => ⟨S32x8x2048, .f32⟩
  | .hbm, ⟨18, _⟩ => ⟨S32x8x2048x1, .f32⟩
  | .hbm, ⟨19, _⟩ => ⟨S32x8x2048x2048, .f32⟩
  | .hbm, ⟨20, _⟩ => ⟨S32x8x2048x2048, .f32⟩
  | .hbm, ⟨21, _⟩ => ⟨S32x8x64x2048, .f32⟩
  | .hbm, ⟨22, _⟩ => ⟨S32x2048x8x64, .f32⟩
  | .hbm, ⟨23, _⟩ => ⟨S65536x512, .f32⟩
  | .hbm, ⟨24, _⟩ => ⟨S65536x512, .bf16⟩
  | _, _ => ⟨S32x2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Merge.lean ====
abbrev S32x2048x1024 : Shape := ⟨3, ![32, 2048, 1024]⟩
abbrev S32x2048x512 : Shape := ⟨3, ![32, 2048, 512]⟩
abbrev S32x2048x8x64 : Shape := ⟨4, ![32, 2048, 8, 64]⟩
abbrev S1x1024x6176 : Shape := ⟨3, ![1, 1024, 6176]⟩
abbrev S1x512x1024 : Shape := ⟨3, ![1, 512, 1024]⟩
abbrev S1x1024x1024 : Shape := ⟨3, ![1, 1024, 1024]⟩
abbrev S1x512 : Shape := ⟨2, ![1, 512]⟩
abbrev S1024x6176 : Shape := ⟨2, ![1024, 6176]⟩
abbrev S512x1024 : Shape := ⟨2, ![512, 1024]⟩
abbrev S1024x1024 : Shape := ⟨2, ![1024, 1024]⟩
abbrev S512 : Shape := ⟨1, ![512]⟩
abbrev S1024x3072 : Shape := ⟨2, ![1024, 3072]⟩
abbrev S_ : Shape := ⟨0, ![]⟩
abbrev S512x1 : Shape := ⟨2, ![512, 1]⟩
abbrev S512x512 : Shape := ⟨2, ![512, 512]⟩
abbrev S65536x1024 : Shape := ⟨2, ![65536, 1024]⟩
abbrev S65536x512 : Shape := ⟨2, ![65536, 512]⟩

abbrev nBuf : Space → Nat
  | .hbm => 53
  | .vmem => 26
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S32x2048x512, .f32⟩
  | .hbm, ⟨3, _⟩ => ⟨S32x2048x8x64, .f32⟩
  | .hbm, ⟨4, _⟩ => ⟨S32x2048x8x64, .f32⟩
  | .hbm, ⟨5, _⟩ => ⟨S32x2048x8x64, .f32⟩
  | .hbm, ⟨6, _⟩ => ⟨S32x2048x512, .f32⟩
  | .hbm, ⟨7, _⟩ => ⟨S32x2048x512, .f32⟩
  | .hbm, ⟨8, _⟩ => ⟨S1x1024x6176, .f32⟩
  | .hbm, ⟨9, _⟩ => ⟨S1x512x1024, .f32⟩
  | .hbm, ⟨10, _⟩ => ⟨S1x512x1024, .f32⟩
  | .hbm, ⟨11, _⟩ => ⟨S1x512x1024, .f32⟩
  | .hbm, ⟨12, _⟩ => ⟨S1x1024x1024, .f32⟩
  | .hbm, ⟨13, _⟩ => ⟨S1x512, .f32⟩
  | .hbm, ⟨14, _⟩ => ⟨S1x512, .f32⟩
  | .hbm, ⟨15, _⟩ => ⟨S1024x6176, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S1024x1024, .f32⟩
  | .hbm, ⟨20, _⟩ => ⟨S512, .f32⟩
  | .hbm, ⟨21, _⟩ => ⟨S512, .f32⟩
  | .hbm, ⟨22, _⟩ => ⟨S1024x3072, .f32⟩
  | .hbm, ⟨23, _⟩ => ⟨S1024x3072, .bf16⟩
  | .hbm, ⟨24, _⟩ => ⟨S1x512, .f32⟩
  | .hbm, ⟨25, _⟩ => ⟨S1x512, .f32⟩
  | .hbm, ⟨26, _⟩ => ⟨S512, .i32⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512x1, .i32⟩
  | .hbm, ⟨31, _⟩ => ⟨S1x512, .i32⟩
  | .hbm, ⟨32, _⟩ => ⟨S512x512, .i32⟩
  | .hbm, ⟨33, _⟩ => ⟨S512x512, .i32⟩
  | .hbm, ⟨34, _⟩ => ⟨S512x512, .i1⟩
  | .hbm, ⟨35, _⟩ => ⟨S512x512, .f32⟩
  | .hbm, ⟨36, _⟩ => ⟨S512x512, .bf16⟩
  | .hbm, ⟨37, _⟩ => ⟨S512x1024, .bf16⟩
  | .hbm, ⟨38, _⟩ => ⟨S512x1024, .bf16⟩
  | .hbm, ⟨39, _⟩ => ⟨S512x1024, .bf16⟩
  | .hbm, ⟨40, _⟩ => ⟨S1024x1024, .bf16⟩
  | .hbm, ⟨41, _⟩ => ⟨S65536x1024, .f32⟩
  | .hbm, ⟨42, _⟩ => ⟨S65536x1024, .f32⟩
  | .hbm, ⟨43, _⟩ => ⟨S65536x1024, .bf16⟩
  | .hbm, ⟨44, _⟩ => ⟨S65536x512, .f32⟩
  | .hbm, ⟨45, _⟩ => ⟨S65536x512, .bf16⟩
  | .hbm, ⟨46, _⟩ => ⟨S65536x512, .f32⟩
  | .hbm, ⟨47, _⟩ => ⟨S65536x512, .f32⟩
  | .hbm, ⟨48, _⟩ => ⟨S65536x512, .f32⟩
  | .hbm, ⟨49, _⟩ => ⟨S65536x512, .f32⟩
  | .hbm, ⟨50, _⟩ => ⟨S65536x512, .f32⟩
  | .hbm, ⟨51, _⟩ => ⟨S65536x512, .bf16⟩
  | .hbm, ⟨52, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .bf16⟩
  | .local _ .vmem, ⟨15, _⟩ => ⟨S512x512, .bf16⟩
  | .local _ .vmem, ⟨16, _⟩ => ⟨S1024x3072, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S1x512, .f32⟩
  | .local _ .vmem, ⟨22, _⟩ => ⟨S1x512, .f32⟩
  | .local _ .vmem, ⟨23, _⟩ => ⟨S512x512, .bf16⟩
  | .local _ .vmem, ⟨24, _⟩ => ⟨S512x1024, .f32⟩
  | .local _ .vmem, ⟨25, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== GatedMergeIdeal.lean ====
abbrev S32x2048x1024 : Shape := ⟨3, ![32, 2048, 1024]⟩
abbrev S32x2048x512 : Shape := ⟨3, ![32, 2048, 512]⟩
abbrev S32x2048x8x64 : Shape := ⟨4, ![32, 2048, 8, 64]⟩
abbrev S1x1024x6176 : Shape := ⟨3, ![1, 1024, 6176]⟩
abbrev S1x512x1024 : Shape := ⟨3, ![1, 512, 1024]⟩
abbrev S1x1024x1024 : Shape := ⟨3, ![1, 1024, 1024]⟩
abbrev S1x512 : Shape := ⟨2, ![1, 512]⟩
abbrev S1024x6176 : Shape := ⟨2, ![1024, 6176]⟩
abbrev S32x2048x6176 : Shape := ⟨3, ![32, 2048, 6176]⟩
abbrev S32x2048x3072 : Shape := ⟨3, ![32, 2048, 3072]⟩
abbrev S_ : Shape := ⟨0, ![]⟩
abbrev S32x2048x3x1024 : Shape := ⟨4, ![32, 2048, 3, 1024]⟩
abbrev S32x2048x8 : Shape := ⟨3, ![32, 2048, 8]⟩
abbrev S32x2048x8x1 : Shape := ⟨4, ![32, 2048, 8, 1]⟩
abbrev S512 : Shape := ⟨1, ![512]⟩
abbrev S1x1x512 : Shape := ⟨3, ![1, 1, 512]⟩
abbrev S32x2048x1x1024 : Shape := ⟨4, ![32, 2048, 1, 1024]⟩
abbrev S512x1024 : Shape := ⟨2, ![512, 1024]⟩
abbrev S1024x1024 : Shape := ⟨2, ![1024, 1024]⟩
abbrev S65536x1024 : Shape := ⟨2, ![65536, 1024]⟩

abbrev nBuf : Space → Nat
  | .hbm => 83
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S32x2048x512, .f32⟩
  | .hbm, ⟨3, _⟩ => ⟨S32x2048x8x64, .f32⟩
  | .hbm, ⟨4, _⟩ => ⟨S32x2048x8x64, .f32⟩
  | .hbm, ⟨5, _⟩ => ⟨S32x2048x8x64, .f32⟩
  | .hbm, ⟨6, _⟩ => ⟨S32x2048x512, .f32⟩
  | .hbm, ⟨7, _⟩ => ⟨S32x2048x512, .f32⟩
  | .hbm, ⟨8, _⟩ => ⟨S1x1024x6176, .f32⟩
  | .hbm, ⟨9, _⟩ => ⟨S1x512x1024, .f32⟩
  | .hbm, ⟨10, _⟩ => ⟨S1x512x1024, .f32⟩
  | .hbm, ⟨11, _⟩ => ⟨S1x512x1024, .f32⟩
  | .hbm, ⟨12, _⟩ => ⟨S1x1024x1024, .f32⟩
  | .hbm, ⟨13, _⟩ => ⟨S1x512, .f32⟩
  | .hbm, ⟨14, _⟩ => ⟨S1x512, .f32⟩
  | .hbm, ⟨15, _⟩ => ⟨S1024x6176, .f32⟩
  | .hbm, ⟨16, _⟩ => ⟨S32x2048x6176, .f32⟩
  | .hbm, ⟨17, _⟩ => ⟨S32x2048x3072, .f32⟩
  | .hbm, ⟨18, _⟩ => ⟨S32x2048x3072, .f32⟩
  | .hbm, ⟨19, _⟩ => ⟨S32x2048x3072, .f32⟩
  | .hbm, ⟨20, _⟩ => ⟨S_, .f32⟩
  | .hbm, ⟨21, _⟩ => ⟨S32x2048x3072, .f32⟩
  | .hbm, ⟨22, _⟩ => ⟨S32x2048x3072, .f32⟩
  | .hbm, ⟨23, _⟩ => ⟨S_, .f32⟩
  | .hbm, ⟨24, _⟩ => ⟨S32x2048x3072, .f32⟩
  | .hbm, ⟨25, _⟩ => ⟨S32x2048x3072, .f32⟩
  | .hbm, ⟨26, _⟩ => ⟨S32x2048x3x1024, .f32⟩
  | .hbm, ⟨27, _⟩ => ⟨S32x2048x8x64, .f32⟩
  | .hbm, ⟨28, _⟩ => ⟨S32x2048x8x64, .f32⟩
  | .hbm, ⟨29, _⟩ => ⟨S_, .f32⟩
  | .hbm, ⟨30, _⟩ => ⟨S32x2048x8, .f32⟩
  | .hbm, ⟨31, _⟩ => ⟨S32x2048x8x1, .f32⟩
  | .hbm, ⟨32, _⟩ => ⟨S_, .f32⟩
  | .hbm, ⟨33, _⟩ => ⟨S32x2048x8x1, .f32⟩
  | .hbm, ⟨34, _⟩ => ⟨S32x2048x8x1, .f32⟩
  | .hbm, ⟨35, _⟩ => ⟨S32x2048x8x64, .f32⟩
  | .hbm, ⟨36, _⟩ => ⟨S32x2048x8x64, .f32⟩
  | .hbm, ⟨37, _⟩ => ⟨S32x2048x8x64, .f32⟩
  | .hbm, ⟨38, _⟩ => ⟨S_, .f32⟩
  | .hbm, ⟨39, _⟩ => ⟨S32x2048x8, .f32⟩
  | .hbm, ⟨40, _⟩ => ⟨S32x2048x8x1, .f32⟩
  | .hbm, ⟨41, _⟩ => ⟨S_, .f32⟩
  | .hbm, ⟨42, _⟩ => ⟨S32x2048x8x1, .f32⟩
  | .hbm, ⟨43, _⟩ => ⟨S32x2048x8x1, .f32⟩
  | .hbm, ⟨44, _⟩ => ⟨S32x2048x8x64, .f32⟩
  | .hbm, ⟨45, _⟩ => ⟨S32x2048x8x64, .f32⟩
  | .hbm, ⟨46, _⟩ => ⟨S_, .f32⟩
  | .hbm, ⟨47, _⟩ => ⟨S32x2048x8x1, .f32⟩
  | .hbm, ⟨48, _⟩ => ⟨S32x2048x8x1, .f32⟩
  | .hbm, ⟨49, _⟩ => ⟨S32x2048x8x1, .f32⟩
  | .hbm, ⟨50, _⟩ => ⟨S32x2048x8x64, .f32⟩
  | .hbm, ⟨51, _⟩ => ⟨S32x2048x8x64, .f32⟩
  | .hbm, ⟨52, _⟩ => ⟨S32x2048x512, .f32⟩
  | .hbm, ⟨53, _⟩ => ⟨S512, .f32⟩
  | .hbm, ⟨54, _⟩ => ⟨S1x1x512, .f32⟩
  | .hbm, ⟨55, _⟩ => ⟨S32x2048x512, .f32⟩
  | .hbm, ⟨56, _⟩ => ⟨S32x2048x512, .f32⟩
  | .hbm, ⟨57, _⟩ => ⟨S512, .f32⟩
  | .hbm, ⟨58, _⟩ => ⟨S1x1x512, .f32⟩
  | .hbm, ⟨59, _⟩ => ⟨S32x2048x512, .f32⟩
  | .hbm, ⟨60, _⟩ => ⟨S32x2048x512, .f32⟩
  | .hbm, ⟨61, _⟩ => ⟨S32x2048x1x1024, .f32⟩
  | .hbm, ⟨62, _⟩ => ⟨S32x2048x1024, .f32⟩
  | .hbm, ⟨63, _⟩ => ⟨S512x1024, .f32⟩
  | .hbm, ⟨64, _⟩ => ⟨S32x2048x1024, .f32⟩
  | .hbm, ⟨65, _⟩ => ⟨S32x2048x1024, .f32⟩
  | .hbm, ⟨66, _⟩ => ⟨S32x2048x1x1024, .f32⟩
  | .hbm, ⟨67, _⟩ => ⟨S32x2048x1024, .f32⟩
  | .hbm, ⟨68, _⟩ => ⟨S32x2048x512, .f32⟩
  | .hbm, ⟨69, _⟩ => ⟨S512x1024, .f32⟩
  | .hbm, ⟨70, _⟩ => ⟨S32x2048x1024, .f32⟩
  | .hbm, ⟨71, _⟩ => ⟨S32x2048x1024, .f32⟩
  | .hbm, ⟨72, _⟩ => ⟨S32x2048x1024, .f32⟩
  | .hbm, ⟨73, _⟩ => ⟨S32x2048x1x1024, .f32⟩
  | .hbm, ⟨74, _⟩ => ⟨S32x2048x1024, .f32⟩
  | .hbm, ⟨75, _⟩ => ⟨S512x1024, .f32⟩
  | .hbm, ⟨76, _⟩ => ⟨S32x2048x1024, .f32⟩
  | .hbm, ⟨77, _⟩ => ⟨S32x2048x1024, .f32⟩
  | .hbm, ⟨78, _⟩ => ⟨S32x2048x1024, .f32⟩
  | .hbm, ⟨79, _⟩ => ⟨S1024x1024, .f32⟩
  | .hbm, ⟨80, _⟩ => ⟨S32x2048x1024, .f32⟩
  | .hbm, ⟨81, _⟩ => ⟨S32x2048x1024, .f32⟩
  | .hbm, ⟨82, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_3 : Ref sig .tc := ⟨.hbm, 38, rfl⟩
abbrev main_v19 : Ref sig .tc := ⟨.hbm, 39, rfl⟩
abbrev main_v20 : Ref sig .tc := ⟨.hbm, 40, rfl⟩
abbrev main_cst_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]
-- ==== Ffn.lean ====
abbrev S32x2048x1024 : Shape := ⟨3, ![32, 2048, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1024x2816 : Shape := ⟨2, ![1024, 2816]⟩
abbrev S65536x1024 : Shape := ⟨2, ![65536, 1024]⟩
abbrev S512x1024 : Shape := ⟨2, ![512, 1024]⟩
abbrev S8x1024 : Shape := ⟨2, ![8, 1024]⟩
abbrev S528x1024 : Shape := ⟨2, ![528, 1024]⟩
abbrev S528x1536 : Shape := ⟨2, ![528, 1536]⟩
abbrev S8 : Shape := ⟨1, ![8]⟩
abbrev S8x1 : Shape := ⟨2, ![8, 1]⟩
abbrev S512 : Shape := ⟨1, ![512]⟩
abbrev S512x1 : Shape := ⟨2, ![512, 1]⟩
abbrev S1024x1280 : Shape := ⟨2, ![1024, 1280]⟩
abbrev S528x1280 : Shape := ⟨2, ![528, 1280]⟩
abbrev S512x1280 : Shape := ⟨2, ![512, 1280]⟩
abbrev S3x1280 : Shape := ⟨2, ![3, 1280]⟩
abbrev S1x1280 : Shape := ⟨2, ![1, 1280]⟩
abbrev S1280x1024 : Shape := ⟨2, ![1280, 1024]⟩
abbrev S1024x1536 : Shape := ⟨2, ![1024, 1536]⟩
abbrev S512x1536 : Shape := ⟨2, ![512, 1536]⟩
abbrev S3x1536 : Shape := ⟨2, ![3, 1536]⟩
abbrev S1x1536 : Shape := ⟨2, ![1, 1536]⟩
abbrev S1536x1024 : Shape := ⟨2, ![1536, 1024]⟩

abbrev nBuf : Space → Nat
  | .hbm => 20
  | .vmem => 16
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x5632, .f32⟩
  | .hbm, ⟨3, _⟩ => ⟨S1x3x2816, .f32⟩
  | .hbm, ⟨4, _⟩ => ⟨S1x2816, .f32⟩
  | .hbm, ⟨5, _⟩ => ⟨S1x2816x1024, .f32⟩
  | .hbm, ⟨6, _⟩ => ⟨S1024, .f32⟩
  | .hbm, ⟨7, _⟩ => ⟨S1024x5632, .f32⟩
  | .hbm, ⟨8, _⟩ => ⟨S3x2816, .f32⟩
  | .hbm, ⟨9, _⟩ => ⟨S2816, .f32⟩
  | .hbm, ⟨10, _⟩ => ⟨S2816x1024, .f32⟩
  | .hbm, ⟨11, _⟩ => ⟨S1x1024, .f32⟩
  | .hbm, ⟨12, _⟩ => ⟨S1x2816, .f32⟩
  | .hbm, ⟨13, _⟩ => ⟨S2816x1024, .bf16⟩
  | .hbm, ⟨14, _⟩ => ⟨S1024x2816, .f32⟩
  | .hbm, ⟨15, _⟩ => ⟨S1024x2816, .bf16⟩
  | .hbm, ⟨16, _⟩ => ⟨S1024x2816, .f32⟩
  | .hbm, ⟨17, _⟩ => ⟨S1024x2816, .bf16⟩
  | .hbm, ⟨18, _⟩ => ⟨S65536x1024, .f32⟩
  | .hbm, ⟨19, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1024x2816, .bf16⟩
  | .local _ .vmem, ⟨8, _⟩ => ⟨S1024x2816, .bf16⟩
  | .local _ .vmem, ⟨9, _⟩ => ⟨S3x2816, .f32⟩
  | .local _ .vmem, ⟨10, _⟩ => ⟨S1x2816, .f32⟩
  | .local _ .vmem, ⟨11, _⟩ => ⟨S2816x1024, .bf16⟩
  | .local _ .vmem, ⟨12, _⟩ => ⟨S512x1024, .f32⟩
  | .local _ .vmem, ⟨13, _⟩ => ⟨S512x1024, .f32⟩
  | .local _ .vmem, ⟨14, _⟩ => ⟨S528x1024, .bf16⟩
  | .local _ .vmem, ⟨15, _⟩ => ⟨S528x1536, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c8191_i32 : BitVec 32 := 8191#32
  let v2 : BitVec 32 := Scalar.minsi v1 c8191_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnIdeal.lean ====
abbrev S32x2048x1024 : Shape := ⟨3, ![32, 2048, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1024x2816 : Shape := ⟨2, ![1024, 2816]⟩
abbrev S65536x1024 : Shape := ⟨2, ![65536, 1024]⟩
abbrev S512x1024 : Shape := ⟨2, ![512, 1024]⟩
abbrev S8x1024 : Shape := ⟨2, ![8, 1024]⟩
abbrev S528x1024 : Shape := ⟨2, ![528, 1024]⟩
abbrev S528x1536 : Shape := ⟨2, ![528, 1536]⟩
abbrev S8 : Shape := ⟨1, ![8]⟩
abbrev S8x1 : Shape := ⟨2, ![8, 1]⟩
abbrev S512 : Shape := ⟨1, ![512]⟩
abbrev S512x1 : Shape := ⟨2, ![512, 1]⟩
abbrev S1024x1280 : Shape := ⟨2, ![1024, 1280]⟩
abbrev S528x1280 : Shape := ⟨2, ![528, 1280]⟩
abbrev S512x1280 : Shape := ⟨2, ![512, 1280]⟩
abbrev S3x1280 : Shape := ⟨2, ![3, 1280]⟩
abbrev S1x1280 : Shape := ⟨2, ![1, 1280]⟩
abbrev S1280x1024 : Shape := ⟨2, ![1280, 1024]⟩
abbrev S1024x1536 : Shape := ⟨2, ![1024, 1536]⟩
abbrev S512x1536 : Shape := ⟨2, ![512, 1536]⟩
abbrev S3x1536 : Shape := ⟨2, ![3, 1536]⟩
abbrev S1x1536 : Shape := ⟨2, ![1, 1536]⟩
abbrev S1536x1024 : Shape := ⟨2, ![1536, 1024]⟩

abbrev nBuf : Space → Nat
  | .hbm => 20
  | .vmem => 16
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x5632, .f32⟩
  | .hbm, ⟨3, _⟩ => ⟨S1x3x2816, .f32⟩
  | .hbm, ⟨4, _⟩ => ⟨S1x2816, .f32⟩
  | .hbm, ⟨5, _⟩ => ⟨S1x2816x1024, .f32⟩
  | .hbm, ⟨6, _⟩ => ⟨S1024, .f32⟩
  | .hbm, ⟨7, _⟩ => ⟨S1024x5632, .f32⟩
  | .hbm, ⟨8, _⟩ => ⟨S3x2816, .f32⟩
  | .hbm, ⟨9, _⟩ => ⟨S2816, .f32⟩
  | .hbm, ⟨10, _⟩ => ⟨S2816x1024, .f32⟩
  | .hbm, ⟨11, _⟩ => ⟨S1x1024, .f32⟩
  | .hbm, ⟨12, _⟩ => ⟨S1x2816, .f32⟩
  | .hbm, ⟨13, _⟩ => ⟨S2816x1024, .bf16⟩
  | .hbm, ⟨14, _⟩ => ⟨S1024x2816, .f32⟩
  | .hbm, ⟨15, _⟩ => ⟨S1024x2816, .bf16⟩
  | .hbm, ⟨16, _⟩ => ⟨S1024x2816, .f32⟩
  | .hbm, ⟨17, _⟩ => ⟨S1024x2816, .bf16⟩
  | .hbm, ⟨18, _⟩ => ⟨S65536x1024, .f32⟩
  | .hbm, ⟨19, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1024x2816, .bf16⟩
  | .local _ .vmem, ⟨8, _⟩ => ⟨S1024x2816, .bf16⟩
  | .local _ .vmem, ⟨9, _⟩ => ⟨S3x2816, .f32⟩
  | .local _ .vmem, ⟨10, _⟩ => ⟨S1x2816, .f32⟩
  | .local _ .vmem, ⟨11, _⟩ => ⟨S2816x1024, .bf16⟩
  | .local _ .vmem, ⟨12, _⟩ => ⟨S512x1024, .f32⟩
  | .local _ .vmem, ⟨13, _⟩ => ⟨S512x1024, .f32⟩
  | .local _ .vmem, ⟨14, _⟩ => ⟨S528x1024, .bf16⟩
  | .local _ .vmem, ⟨15, _⟩ => ⟨S528x1536, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c8191_i32 : BitVec 32 := 8191#32
  let v2 : BitVec 32 := Scalar.minsi v1 c8191_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ConvFfnIdeal.lean ====
abbrev S32x2048x1024 : Shape := ⟨3, ![32, 2048, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x5632 : Shape := ⟨2, ![1024, 5632]⟩
abbrev S32x2048x5632 : Shape := ⟨3, ![32, 2048, 5632]⟩
abbrev S32x2048x2816 : Shape := ⟨3, ![32, 2048, 2816]⟩
abbrev S3x2816 : Shape := ⟨2, ![3, 2816]⟩
abbrev S2816 : Shape := ⟨1, ![2816]⟩
abbrev S32x2049x2816 : Shape := ⟨3, ![32, 2049, 2816]⟩
abbrev S1x1x2816 : Shape := ⟨3, ![1, 1, 2816]⟩
abbrev S2816x1024 : Shape := ⟨2, ![2816, 1024]⟩
abbrev S65536x1024 : Shape := ⟨2, ![65536, 1024]⟩

abbrev nBuf : Space → Nat
  | .hbm => 71
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x5632, .f32⟩
  | .hbm, ⟨3, _⟩ => ⟨S1x3x2816, .f32⟩
  | .hbm, ⟨4, _⟩ => ⟨S1x2816, .f32⟩
  | .hbm, ⟨5, _⟩ => ⟨S1x2816x1024, .f32⟩
  | .hbm, ⟨6, _⟩ => ⟨S1024, .f32⟩
  | .hbm, ⟨7, _⟩ => ⟨S32x2048x1024, .f32⟩
  | .hbm, ⟨8, _⟩ => ⟨S_, .f32⟩
  | .hbm, ⟨9, _⟩ => ⟨S32x2048, .f32⟩
  | .hbm, ⟨10, _⟩ => ⟨S32x2048x1, .f32⟩
  | .hbm, ⟨11, _⟩ => ⟨S_, .f32⟩
  | .hbm, ⟨12, _⟩ => ⟨S32x2048x1, .f32⟩
  | .hbm, ⟨13, _⟩ => ⟨S32x2048x1, .f32⟩
  | .hbm, ⟨14, _⟩ => ⟨S_, .f32⟩
  | .hbm, ⟨15, _⟩ => ⟨S32x2048x1, .f32⟩
  | .hbm, ⟨16, _⟩ => ⟨S32x2048x1, .f32⟩
  | .hbm, ⟨17, _⟩ => ⟨S32x2048x1, .f32⟩
  | .hbm, ⟨18, _⟩ => ⟨S32x2048x1024, .f32⟩
  | .hbm, ⟨19, _⟩ => ⟨S32x2048x1024, .f32⟩
  | .hbm, ⟨20, _⟩ => ⟨S1x1x1024, .f32⟩
  | .hbm, ⟨21, _⟩ => ⟨S32x2048x1024, .f32⟩
  | .hbm, ⟨22, _⟩ => ⟨S32x2048x1024, .f32⟩
  | .hbm, ⟨23, _⟩ => ⟨S1024x5632, .f32⟩
  | .hbm, ⟨24, _⟩ => ⟨S32x2048x5632, .f32⟩
  | .hbm, ⟨25, _⟩ => ⟨S32x2048x2816, .f32⟩
  | .hbm, ⟨26, _⟩ => ⟨S32x2048x2816, .f32⟩
  | .hbm, ⟨27, _⟩ => ⟨S3x2816, .f32⟩
  | .hbm, ⟨28, _⟩ => ⟨S1x2816, .f32⟩
  | .hbm, ⟨29, _⟩ => ⟨S2816, .f32⟩
  | .hbm, ⟨30, _⟩ => ⟨S_, .i32⟩
  | .hbm, ⟨31, _⟩ => ⟨S_, .f32⟩
  | .hbm, ⟨32, _⟩ => ⟨S32x2049x2816, .f32⟩
  | .hbm, ⟨33, _⟩ => ⟨S32x2048x2816, .f32⟩
  | .hbm, ⟨34, _⟩ => ⟨S1x1x2816, .f32⟩
  | .hbm, ⟨35, _⟩ => ⟨S32x2048x2816, .f32⟩
  | .hbm, ⟨36, _⟩ => ⟨S32x2048x2816, .f32⟩
  | .hbm, ⟨37, _⟩ => ⟨S1x2816, .f32⟩
  | .hbm, ⟨38, _⟩ => ⟨S2816, .f32⟩
  | .hbm, ⟨39, _⟩ => ⟨S1x1x2816, .f32⟩
  | .hbm, ⟨40, _⟩ => ⟨S32x2048x2816, .f32⟩
  | .hbm, ⟨41, _⟩ => ⟨S32x2048x2816, .f32⟩
  | .hbm, ⟨42, _⟩ => ⟨S32x2048x2816, .f32⟩
  | .hbm, ⟨43, _⟩ => ⟨S1x2816, .f32⟩
  | .hbm, ⟨44, _⟩ => ⟨S2816, .f32⟩
  | .hbm, ⟨45, _⟩ => ⟨S_, .i32⟩
  | .hbm, ⟨46, _⟩ => ⟨S_, .f32⟩
  | .hbm, ⟨47, _⟩ => ⟨S32x2049x2816, .f32⟩
  | .hbm, ⟨48, _⟩ => ⟨S32x2048x2816, .f32⟩
  | .hbm, ⟨49, _⟩ => ⟨S1x1x2816, .f32⟩
  | .hbm, ⟨50, _⟩ => ⟨S32x2048x2816, .f32⟩
  | .hbm, ⟨51, _⟩ => ⟨S32x2048x2816, .f32⟩
  | .hbm, ⟨52, _⟩ => ⟨S32x2048x2816, .f32⟩
  | .hbm, ⟨53, _⟩ => ⟨S2816, .f32⟩
  | .hbm, ⟨54, _⟩ => ⟨S1x1x2816, .f32⟩
  | .hbm, ⟨55, _⟩ => ⟨S32x2048x2816, .f32⟩
  | .hbm, ⟨56, _⟩ => ⟨S32x2048x2816, .f32⟩
  | .hbm, ⟨57, _⟩ => ⟨S_, .f32⟩
  | .hbm, ⟨58, _⟩ => ⟨S32x2048x2816, .f32⟩
  | .hbm, ⟨59, _⟩ => ⟨S32x2048x2816, .f32⟩
  | .hbm, ⟨60, _⟩ => ⟨S32x2048x2816, .f32⟩
  | .hbm, ⟨61, _⟩ => ⟨S_, .f32⟩
  | .hbm, ⟨62, _⟩ => ⟨S32x2048x2816, .f32⟩
  | .hbm, ⟨63, _⟩ => ⟨S32x2048x2816, .f32⟩
  | .hbm, ⟨64, _⟩ => ⟨S32x2048x2816, .f32⟩
  | .hbm, ⟨65, _⟩ => ⟨S32x2048x2816, .f32⟩
  | .hbm, ⟨66, _⟩ => ⟨S32x2048x2816, .f32⟩
  | .hbm, ⟨67, _⟩ => ⟨S2816x1024, .f32⟩
  | .hbm, ⟨68, _⟩ => ⟨S32x2048x1024, .f32⟩
  | .hbm, ⟨69, _⟩ => ⟨S32x2048x1024, .f32⟩
  | .hbm, ⟨70, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c : Ref sig .tc := ⟨.hbm, 30, rfl⟩
abbrev main_call0_v0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_2 : Ref sig .tc := ⟨.hbm, 45, rfl⟩
abbrev main_call1_v0 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_3 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_4 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩

abbrev nD : Nat := 1
abbrev τ : Topo := Topo.v7x

variable {F : FTy → Type} [FloatOps F]
-- ==== FfnSample.lean ====
abbrev S4x8192x1024 : Shape := ⟨3, ![4, 8192, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1024x2816 : Shape := ⟨2, ![1024, 2816]⟩
abbrev S32768x1024 : Shape := ⟨2, ![32768, 1024]⟩
abbrev S512x1024 : Shape := ⟨2, ![512, 1024]⟩
abbrev S8x1024 : Shape := ⟨2, ![8, 1024]⟩
abbrev S528x1024 : Shape := ⟨2, ![528, 1024]⟩
abbrev S528x1536 : Shape := ⟨2, ![528, 1536]⟩
abbrev S8 : Shape := ⟨1, ![8]⟩
abbrev S8x1 : Shape := ⟨2, ![8, 1]⟩
abbrev S512 : Shape := ⟨1, ![512]⟩
abbrev S512x1 : Shape := ⟨2, ![512, 1]⟩
abbrev S1024x1280 : Shape := ⟨2, ![1024, 1280]⟩
abbrev S528x1280 : Shape := ⟨2, ![528, 1280]⟩
abbrev S512x1280 : Shape := ⟨2, ![512, 1280]⟩
abbrev S3x1280 : Shape := ⟨2, ![3, 1280]⟩
abbrev S1x1280 : Shape := ⟨2, ![1, 1280]⟩
abbrev S1280x1024 : Shape := ⟨2, ![1280, 1024]⟩
abbrev S1024x1536 : Shape := ⟨2, ![1024, 1536]⟩
abbrev S512x1536 : Shape := ⟨2, ![512, 1536]⟩
abbrev S3x1536 : Shape := ⟨2, ![3, 1536]⟩
abbrev S1x1536 : Shape := ⟨2, ![1, 1536]⟩
abbrev S1536x1024 : Shape := ⟨2, ![1536, 1024]⟩

abbrev nBuf : Space → Nat
  | .hbm => 20
  | .vmem => 16
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x5632, .f32⟩
  | .hbm, ⟨3, _⟩ => ⟨S1x3x2816, .f32⟩
  | .hbm, ⟨4, _⟩ => ⟨S1x2816, .f32⟩
  | .hbm, ⟨5, _⟩ => ⟨S1x2816x1024, .f32⟩
  | .hbm, ⟨6, _⟩ => ⟨S1024, .f32⟩
  | .hbm, ⟨7, _⟩ => ⟨S1024x5632, .f32⟩
  | .hbm, ⟨8, _⟩ => ⟨S3x2816, .f32⟩
  | .hbm, ⟨9, _⟩ => ⟨S2816, .f32⟩
  | .hbm, ⟨10, _⟩ => ⟨S2816x1024, .f32⟩
  | .hbm, ⟨11, _⟩ => ⟨S1x1024, .f32⟩
  | .hbm, ⟨12, _⟩ => ⟨S1x2816, .f32⟩
  | .hbm, ⟨13, _⟩ => ⟨S2816x1024, .bf16⟩
  | .hbm, ⟨14, _⟩ => ⟨S1024x2816, .f32⟩
  | .hbm, ⟨15, _⟩ => ⟨S1024x2816, .bf16⟩
  | .hbm, ⟨16, _⟩ => ⟨S1024x2816, .f32⟩
  | .hbm, ⟨17, _⟩ => ⟨S1024x2816, .bf16⟩
  | .hbm, ⟨18, _⟩ => ⟨S32768x1024, .f32⟩
  | .hbm, ⟨19, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1024x2816, .bf16⟩
  | .local _ .vmem, ⟨8, _⟩ => ⟨S1024x2816, .bf16⟩
  | .local _ .vmem, ⟨9, _⟩ => ⟨S3x2816, .f32⟩
  | .local _ .vmem, ⟨10, _⟩ => ⟨S1x2816, .f32⟩
  | .local _ .vmem, ⟨11, _⟩ => ⟨S2816x1024, .bf16⟩
  | .local _ .vmem, ⟨12, _⟩ => ⟨S512x1024, .f32⟩
  | .local _ .vmem, ⟨13, _⟩ => ⟨S512x1024, .f32⟩
  | .local _ .vmem, ⟨14, _⟩ => ⟨S528x1024, .bf16⟩
  | .local _ .vmem, ⟨15, _⟩ => ⟨S528x1536, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ConvFfnSampleIdeal.lean ====
abbrev S4x8192x1024 : Shape := ⟨3, ![4, 8192, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x5632 : Shape := ⟨2, ![1024, 5632]⟩
abbrev S4x8192x5632 : Shape := ⟨3, ![4, 8192, 5632]⟩
abbrev S4x8192x2816 : Shape := ⟨3, ![4, 8192, 2816]⟩
abbrev S3x2816 : Shape := ⟨2, ![3, 2816]⟩
abbrev S2816 : Shape := ⟨1, ![2816]⟩
abbrev S4x8193x2816 : Shape := ⟨3, ![4, 8193, 2816]⟩
abbrev S1x1x2816 : Shape := ⟨3, ![1, 1, 2816]⟩
abbrev S2816x1024 : Shape := ⟨2, ![2816, 1024]⟩
abbrev S32768x1024 : Shape := ⟨2, ![32768, 1024]⟩

abbrev nBuf : Space → Nat
  | .hbm => 71
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x5632, .f32⟩
  | .hbm, ⟨3, _⟩ => ⟨S1x3x2816, .f32⟩
  | .hbm, ⟨4, _⟩ => ⟨S1x2816, .f32⟩
  | .hbm, ⟨5, _⟩ => ⟨S1x2816x1024, .f32⟩
  | .hbm, ⟨6, _⟩ => ⟨S1024, .f32⟩
  | .hbm, ⟨7, _⟩ => ⟨S4x8192x1024, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | .hbm, ⟨23, _⟩ => ⟨S1024x5632, .f32⟩
  | .hbm, ⟨24, _⟩ => ⟨S4x8192x5632, .f32⟩
  | .hbm, ⟨25, _⟩ => ⟨S4x8192x2816, .f32⟩
  | .hbm, ⟨26, _⟩ => ⟨S4x8192x2816, .f32⟩
  | .hbm, ⟨27, _⟩ => ⟨S3x2816, .f32⟩
  | .hbm, ⟨28, _⟩ => ⟨S1x2816, .f32⟩
  | .hbm, ⟨29, _⟩ => ⟨S2816, .f32⟩
  | .hbm, ⟨30, _⟩ => ⟨S_, .i32⟩
  | .hbm, ⟨31, _⟩ => ⟨S_, .f32⟩
  | .hbm, ⟨32, _⟩ => ⟨S4x8193x2816, .f32⟩
  | .hbm, ⟨33, _⟩ => ⟨S4x8192x2816, .f32⟩
  | .hbm, ⟨34, _⟩ => ⟨S1x1x2816, .f32⟩
  | .hbm, ⟨35, _⟩ => ⟨S4x8192x2816, .f32⟩
  | .hbm, ⟨36, _⟩ => ⟨S4x8192x2816, .f32⟩
  | .hbm, ⟨37, _⟩ => ⟨S1x2816, .f32⟩
  | .hbm, ⟨38, _⟩ => ⟨S2816, .f32⟩
  | .hbm, ⟨39, _⟩ => ⟨S1x1x2816, .f32⟩
  | .hbm, ⟨40, _⟩ => ⟨S4x8192x2816, .f32⟩
  | .hbm, ⟨41, _⟩ => ⟨S4x8192x2816, .f32⟩
  | .hbm, ⟨42, _⟩ => ⟨S4x8192x2816, .f32⟩
  | .hbm, ⟨43, _⟩ => ⟨S1x2816, .f32⟩
  | .hbm, ⟨44, _⟩ => ⟨S2816, .f32⟩
  | .hbm, ⟨45, _⟩ => ⟨S_, .i32⟩
  | .hbm, ⟨46, _⟩ => ⟨S_, .f32⟩
  | .hbm, ⟨47, _⟩ => ⟨S4x8193x2816, .f32⟩
  | .hbm, ⟨48, _⟩ => ⟨S4x8192x2816, .f32⟩
  | .hbm, ⟨49, _⟩ => ⟨S1x1x2816, .f32⟩
  | .hbm, ⟨50, _⟩ => ⟨S4x8192x2816, .f32⟩
  | .hbm, ⟨51, _⟩ => ⟨S4x8192x2816, .f32⟩
  | .hbm, ⟨52, _⟩ => ⟨S4x8192x2816, .f32⟩
  | .hbm, ⟨53, _⟩ => ⟨S2816, .f32⟩
  | .hbm, ⟨54, _⟩ => ⟨S1x1x2816, .f32⟩
  | .hbm, ⟨55, _⟩ => ⟨S4x8192x2816, .f32⟩
  | .hbm, ⟨56, _⟩ => ⟨S4x8192x2816, .f32⟩
  | .hbm, ⟨57, _⟩ => ⟨S_, .f32⟩
  | .hbm, ⟨58, _⟩ => ⟨S4x8192x2816, .f32⟩
  | .hbm, ⟨59, _⟩ => ⟨S4x8192x2816, .f32⟩
  | .hbm, ⟨60, _⟩ => ⟨S4x8192x2816, .f32⟩
  | .hbm, ⟨61, _⟩ => ⟨S_, .f32⟩
  | .hbm, ⟨62, _⟩ => ⟨S4x8192x2816, .f32⟩
  | .hbm, ⟨63, _⟩ => ⟨S4x8192x2816, .f32⟩
  | .hbm, ⟨64, _⟩ => ⟨S4x8192x2816, .f32⟩
  | .hbm, ⟨65, _⟩ => ⟨S4x8192x2816, .f32⟩
  | .hbm, ⟨66, _⟩ => ⟨S4x8192x2816, .f32⟩
  | .hbm, ⟨67, _⟩ => ⟨S2816x1024, .f32⟩
  | .hbm, ⟨68, _⟩ => ⟨S4x8192x1024, .f32⟩
  | .hbm, ⟨69, _⟩ => ⟨S4x8192x1024, .f32⟩
  | .hbm, ⟨70, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c : Ref sig .tc := ⟨.hbm, 30, rfl⟩
abbrev main_call0_v0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_2 : Ref sig .tc := ⟨.hbm, 45, rfl⟩
abbrev main_call1_v0 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_3 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_4 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩

abbrev nD : Nat := 1
abbrev τ : Topo := Topo.v7x

variable {F : FTy → Type} [FloatOps F]
-- ==== Xattn.lean ====
abbrev S32x2048x1024 : Shape := ⟨3, ![32, 2048, 1024]⟩
abbrev S32x256x4x128 : Shape := ⟨4, ![32, 256, 4, 128]⟩
abbrev S1x1024x6176 : Shape := ⟨3, ![1, 1024, 6176]⟩
abbrev S1x128 : Shape := ⟨2, ![1, 128]⟩
abbrev S1024x6176 : Shape := ⟨2, ![1024, 6176]⟩
abbrev S128 : Shape := ⟨1, ![128]⟩
abbrev S1024x512 : Shape := ⟨2, ![1024, 512]⟩
abbrev S_ : Shape := ⟨0, ![]⟩
abbrev S65536x1024 : Shape := ⟨2, ![65536, 1024]⟩
abbrev S8192x512 : Shape := ⟨2, ![8192, 512]⟩
abbrev S65536x512 : Shape := ⟨2, ![65536, 512]⟩
abbrev S512x1024 : Shape := ⟨2, ![512, 1024]⟩
abbrev S256x512 : Shape := ⟨2, ![256, 512]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S256x128 : Shape := ⟨2, ![256, 128]⟩
abbrev S512x256 : Shape := ⟨2, ![512, 256]⟩

abbrev nBuf : Space → Nat
  | .hbm => 20
  | .vmem => 10
  | .smem => 0
  | _ => 0

abbrev bufTy : (tb : Table) → Fin (tcTables nBuf tb) → BufTy
  | .hbm, ⟨0, _⟩ => ⟨S32x2048x1024, .f32⟩
  | .hbm, ⟨1, _⟩ => ⟨S32x256x4x128, .f32⟩
  | .hbm, ⟨2, _⟩ => ⟨S32x256x4x128, .f32⟩
  | .hbm, ⟨3, _⟩ => ⟨S1x1024x6176, .f32⟩
  | .hbm, ⟨4, _⟩ => ⟨S1x128, .f32⟩
  | .hbm, ⟨5, _⟩ => ⟨S1024x6176, .f32⟩
  | .hbm, ⟨6, _⟩ => ⟨S128, .f32⟩
  | .hbm, ⟨7, _⟩ => ⟨S1024x512, .f32⟩
  | .hbm, ⟨8, _⟩ => ⟨S1024x512, .bf16⟩
  | .hbm, ⟨9, _⟩ => ⟨S1x128, .f32⟩
  | .hbm, ⟨10, _⟩ => ⟨S_, .f32⟩
  | .hbm, ⟨11, _⟩ => ⟨S1x128, .f32⟩
  | .hbm, ⟨12, _⟩ => ⟨S1x128, .f32⟩
  | .hbm, ⟨13, _⟩ => ⟨S65536x1024, .f32⟩
  | .hbm, ⟨14, _⟩ => ⟨S65536x1024, .bf16⟩
  | .hbm, ⟨15, _⟩ => ⟨S8192x512, .f32⟩
  | .hbm, ⟨16, _⟩ => ⟨S8192x512, .bf16⟩
  | .hbm, ⟨17, _⟩ => ⟨S8192x512, .f32⟩
  | .hbm, ⟨18, _⟩ => ⟨S8192x512, .bf16⟩
  | .hbm, ⟨19, _⟩ => ⟨S65536x512, .bf16⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1x128, .f32⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S512x512, .bf16⟩
  | .local _ .vmem, ⟨9, _⟩ => ⟨S512x512, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MemoryAttentionIdeal.lean ====
abbrev S32x2048x1024 : Shape := ⟨3, ![32, 2048, 1024]⟩
abbrev S32x256x4x128 : Shape := ⟨4, ![32, 256, 4, 128]⟩
abbrev S1x1024x6176 : Shape := ⟨3, ![1, 1024, 6176]⟩
abbrev S1x128 : Shape := ⟨2, ![1, 128]⟩
abbrev S1024x6176 : Shape := ⟨2, ![1024, 6176]⟩
abbrev S32x2048x6176 : Shape := ⟨3, ![32, 2048, 6176]⟩
abbrev S32x2048x512 : Shape := ⟨3, ![32, 2048, 512]⟩
abbrev S32x2048x4x128 : Shape := ⟨4, ![32, 2048, 4, 128]⟩
abbrev S128 : Shape := ⟨1, ![128]⟩
abbrev S_ : Shape := ⟨0, ![]⟩
abbrev S32x2048x4 : Shape := ⟨3, ![32, 2048, 4]⟩
abbrev S32x2048x4x1 : Shape := ⟨4, ![32, 2048, 4, 1]⟩
abbrev S1x1x1x128 : Shape := ⟨4, ![1, 1, 1, 128]⟩
abbrev S32x4x2048x256 : Shape := ⟨4, ![32, 4, 2048, 256]⟩
abbrev S32x4x2048 : Shape := ⟨3, ![32, 4, 2048]⟩
abbrev S32x4x2048x1 : Shape := ⟨4, ![32, 4, 2048, 1]⟩
abbrev S32x4x128x2048 : Shape := ⟨4, ![32, 4, 128, 2048]⟩
abbrev S65536x512 : Shape := ⟨2, ![65536, 512]⟩

abbrev nBuf : Space → Nat
  | .hbm => 48
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x256x4x128, .f32⟩
  | .hbm, ⟨2, _⟩ => ⟨S32x256x4x128, .f32⟩
  | .hbm, ⟨3, _⟩ => ⟨S1x1024x6176, .f32⟩
  | .hbm, ⟨4, _⟩ => ⟨S1x128, .f32⟩
  | .hbm, ⟨5, _⟩ => ⟨S1024x6176, .f32⟩
  | .hbm, ⟨6, _⟩ => ⟨S32x2048x6176, .f32⟩
  | .hbm, ⟨7, _⟩ => ⟨S32x2048x512, .f32⟩
  | .hbm, ⟨8, _⟩ => ⟨S32x2048x4x128, .f32⟩
  | .hbm, ⟨9, _⟩ => ⟨S128, .f32⟩
  | .hbm, ⟨10, _⟩ => ⟨S32x2048x4x128, .f32⟩
  | .hbm, ⟨11, _⟩ => ⟨S_, .f32⟩
  | .hbm, ⟨12, _⟩ => ⟨S32x2048x4, .f32⟩
  | .hbm, ⟨13, _⟩ => ⟨S32x2048x4x1, .f32⟩
  | .hbm, ⟨14, _⟩ => ⟨S_, .f32⟩
  | .hbm, ⟨15, _⟩ => ⟨S32x2048x4x1, .f32⟩
  | .hbm, ⟨16, _⟩ => ⟨S32x2048x4x1, .f32⟩
  | .hbm, ⟨17, _⟩ => ⟨S_, .f32⟩
  | .hbm, ⟨18, _⟩ => ⟨S32x2048x4x1, .f32⟩
  | .hbm, ⟨19, _⟩ => ⟨S32x2048x4x1, .f32⟩
  | .hbm, ⟨20, _⟩ => ⟨S32x2048x4x1, .f32⟩
  | .hbm, ⟨21, _⟩ => ⟨S32x2048x4x128, .f32⟩
  | .hbm, ⟨22, _⟩ => ⟨S32x2048x4x128, .f32⟩
  | .hbm, ⟨23, _⟩ => ⟨S1x1x1x128, .f32⟩
  | .hbm, ⟨24, _⟩ => ⟨S32x2048x4x128, .f32⟩
  | .hbm, ⟨25, _⟩ => ⟨S32x2048x4x128, .f32⟩
  | .hbm, ⟨26, _⟩ => ⟨S32x4x2048x256, .f32⟩
  | .hbm, ⟨27, _⟩ => ⟨S_, .f32⟩
  | .hbm, ⟨28, _⟩ => ⟨S32x4x2048x256, .f32⟩
  | .hbm, ⟨29, _⟩ => ⟨S32x4x2048x256, .f32⟩
  | .hbm, ⟨30, _⟩ => ⟨S_, .f32⟩
  | .hbm, ⟨31, _⟩ => ⟨S32x4x2048, .f32⟩
  | .hbm, ⟨32, _⟩ => ⟨S_, .f32⟩
  | .hbm, ⟨33, _⟩ => ⟨S32x4x2048, .f32⟩
  | .hbm, ⟨34, _⟩ => ⟨S32x4x2048, .f32⟩
  | .hbm, ⟨35, _⟩ => ⟨S32x4x2048x1, .f32⟩
  | .hbm, ⟨36, _⟩ => ⟨S32x4x2048x256, .f32⟩
  | .hbm, ⟨37, _⟩ => ⟨S32x4x2048x256, .f32⟩
  | .hbm, ⟨38, _⟩ => ⟨S32x4x2048x256, .f32⟩
  | .hbm, ⟨39, _⟩ => ⟨S_, .f32⟩
  | .hbm, ⟨40, _⟩ => ⟨S32x4x2048, .f32⟩
  | .hbm, ⟨41, _⟩ => ⟨S32x4x2048x1, .f32⟩
  | .hbm, ⟨42, _⟩ => ⟨S32x4x2048x256, .f32⟩
  | .hbm, ⟨43, _⟩ => ⟨S32x4x2048x256, .f32⟩
  | .hbm, ⟨44, _⟩ => ⟨S32x4x128x2048, .f32⟩
  | .hbm, ⟨45, _⟩ => ⟨S32x2048x4x128, .f32⟩
  | .hbm, ⟨46, _⟩ => ⟨S65536x512, .f32⟩
  | .hbm, ⟨47, _⟩ => ⟨S65536x512, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== MemKv.lean ====
abbrev S32x256x1024 : Shape := ⟨3, ![32, 256, 1024]⟩
abbrev S1x1024 : Shape := ⟨2, ![1, 1024]⟩
abbrev S1x1024x1024 : Shape := ⟨3, ![1, 1024, 1024]⟩
abbrev S1x128 : Shape := ⟨2, ![1, 128]⟩
abbrev S1024 : Shape := ⟨1, ![1024]⟩
abbrev S1024x1024 : Shape := ⟨2, ![1024, 1024]⟩
abbrev S128 : Shape := ⟨1, ![128]⟩
abbrev S1024x4x256 : Shape := ⟨3, ![1024, 4, 256]⟩
abbrev S1024x4x128 : Shape := ⟨3, ![1024, 4, 128]⟩
abbrev S1024x512 : Shape := ⟨2, ![1024, 512]⟩
abbrev S8192x1024 : Shape := ⟨2, ![8192, 1024]⟩
abbrev S8192x512 : Shape := ⟨2, ![8192, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x128 : Shape := ⟨2, ![256, 128]⟩

abbrev nBuf : Space → Nat
  | .hbm => 19
  | .vmem => 10
  | .smem => 0
  | _ => 0

abbrev bufTy : (tb : Table) → Fin (tcTables nBuf tb) → BufTy
  | .hbm, ⟨0, _⟩ => ⟨S32x256x1024, .f32⟩
  | .hbm, ⟨1, _⟩ => ⟨S1x1024, .f32⟩
  | .hbm, ⟨2, _⟩ => ⟨S1x1024x1024, .f32⟩
  | .hbm, ⟨3, _⟩ => ⟨S1x128, .f32⟩
  | .hbm, ⟨4, _⟩ => ⟨S1024, .f32⟩
  | .hbm, ⟨5, _⟩ => ⟨S1024x1024, .f32⟩
  | .hbm, ⟨6, _⟩ => ⟨S128, .f32⟩
  | .hbm, ⟨7, _⟩ => ⟨S1x1024, .f32⟩
  | .hbm, ⟨8, _⟩ => ⟨S1x128, .f32⟩
  | .hbm, ⟨9, _⟩ => ⟨S1024x4x256, .f32⟩
  | .hbm, ⟨10, _⟩ => ⟨S1024x4x128, .f32⟩
  | .hbm, ⟨11, _⟩ => ⟨S1024x512, .f32⟩
  | .hbm, ⟨12, _⟩ => ⟨S1024x512, .bf16⟩
  | .hbm, ⟨13, _⟩ => ⟨S1024x4x128, .f32⟩
  | .hbm, ⟨14, _⟩ => ⟨S1024x512, .f32⟩
  | .hbm, ⟨15, _⟩ => ⟨S1024x512, .bf16⟩
  | .hbm, ⟨16, _⟩ => ⟨S8192x1024, .f32⟩
  | .hbm, ⟨17, _⟩ => ⟨S8192x512, .bf16⟩
  | .hbm, ⟨18, _⟩ => ⟨S8192x512, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1x128, .f32⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13_0 : Ref sig .tc := ⟨.hbm, 17, rfl⟩
abbrev main_v13_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MemoryKeysValuesIdeal.lean ====
abbrev S32x256x1024 : Shape := ⟨3, ![32, 256, 1024]⟩
abbrev S1x1024 : Shape := ⟨2, ![1, 1024]⟩
abbrev S1x1024x1024 : Shape := ⟨3, ![1, 1024, 1024]⟩
abbrev S1x128 : Shape := ⟨2, ![1, 128]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S1024x1024 : Shape := ⟨2, ![1024, 1024]⟩
abbrev S32x256x4x256 : Shape := ⟨4, ![32, 256, 4, 256]⟩
abbrev S32x256x4x128 : Shape := ⟨4, ![32, 256, 4, 128]⟩
abbrev S128 : Shape := ⟨1, ![128]⟩
abbrev S32x256x4 : Shape := ⟨3, ![32, 256, 4]⟩
abbrev S32x256x4x1 : Shape := ⟨4, ![32, 256, 4, 1]⟩
abbrev S1x1x1x128 : Shape := ⟨4, ![1, 1, 1, 128]⟩
abbrev S8192x512 : Shape := ⟨2, ![8192, 512]⟩

abbrev nBuf : Space → Nat
  | .hbm => 47
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1x1024, .f32⟩
  | .hbm, ⟨2, _⟩ => ⟨S1x1024x1024, .f32⟩
  | .hbm, ⟨3, _⟩ => ⟨S1x128, .f32⟩
  | .hbm, ⟨4, _⟩ => ⟨S1024, .f32⟩
  | .hbm, ⟨5, _⟩ => ⟨S32x256x1024, .f32⟩
  | .hbm, ⟨6, _⟩ => ⟨S_, .f32⟩
  | .hbm, ⟨7, _⟩ => ⟨S32x256, .f32⟩
  | .hbm, ⟨8, _⟩ => ⟨S32x256x1, .f32⟩
  | .hbm, ⟨9, _⟩ => ⟨S_, .f32⟩
  | .hbm, ⟨10, _⟩ => ⟨S32x256x1, .f32⟩
  | .hbm, ⟨11, _⟩ => ⟨S32x256x1, .f32⟩
  | .hbm, ⟨12, _⟩ => ⟨S_, .f32⟩
  | .hbm, ⟨13, _⟩ => ⟨S32x256x1, .f32⟩
  | .hbm, ⟨14, _⟩ => ⟨S32x256x1, .f32⟩
  | .hbm, ⟨15, _⟩ => ⟨S32x256x1, .f32⟩
  | .hbm, ⟨16, _⟩ => ⟨S32x256x1024, .f32⟩
  | .hbm, ⟨17, _⟩ => ⟨S32x256x1024, .f32⟩
  | .hbm, ⟨18, _⟩ => ⟨S1x1x1024, .f32⟩
  | .hbm, ⟨19, _⟩ => ⟨S32x256x1024, .f32⟩
  | .hbm, ⟨20, _⟩ => ⟨S32x256x1024, .f32⟩
  | .hbm, ⟨21, _⟩ => ⟨S1024x1024, .f32⟩
  | .hbm, ⟨22, _⟩ => ⟨S32x256x1024, .f32⟩
  | .hbm, ⟨23, _⟩ => ⟨S32x256x4x256, .f32⟩
  | .hbm, ⟨24, _⟩ => ⟨S32x256x4x128, .f32⟩
  | .hbm, ⟨25, _⟩ => ⟨S32x256x4x128, .f32⟩
  | .hbm, ⟨26, _⟩ => ⟨S128, .f32⟩
  | .hbm, ⟨27, _⟩ => ⟨S32x256x4x128, .f32⟩
  | .hbm, ⟨28, _⟩ => ⟨S_, .f32⟩
  | .hbm, ⟨29, _⟩ => ⟨S32x256x4, .f32⟩
  | .hbm, ⟨30, _⟩ => ⟨S32x256x4x1, .f32⟩
  | .hbm, ⟨31, _⟩ => ⟨S_, .f32⟩
  | .hbm, ⟨32, _⟩ => ⟨S32x256x4x1, .f32⟩
  | .hbm, ⟨33, _⟩ => ⟨S32x256x4x1, .f32⟩
  | .hbm, ⟨34, _⟩ => ⟨S_, .f32⟩
  | .hbm, ⟨35, _⟩ => ⟨S32x256x4x1, .f32⟩
  | .hbm, ⟨36, _⟩ => ⟨S32x256x4x1, .f32⟩
  | .hbm, ⟨37, _⟩ => ⟨S32x256x4x1, .f32⟩
  | .hbm, ⟨38, _⟩ => ⟨S32x256x4x128, .f32⟩
  | .hbm, ⟨39, _⟩ => ⟨S32x256x4x128, .f32⟩
  | .hbm, ⟨40, _⟩ => ⟨S1x1x1x128, .f32⟩
  | .hbm, ⟨41, _⟩ => ⟨S32x256x4x128, .f32⟩
  | .hbm, ⟨42, _⟩ => ⟨S32x256x4x128, .f32⟩
  | .hbm, ⟨43, _⟩ => ⟨S8192x512, .f32⟩
  | .hbm, ⟨44, _⟩ => ⟨S8192x512, .bf16⟩
  | .hbm, ⟨45, _⟩ => ⟨S8192x512, .f32⟩
  | .hbm, ⟨46, _⟩ => ⟨S8192x512, .bf16⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Proof.FlashOut.lean ====
/-
  What one grid point of the attention kernel leaves in its output block, as a function of the blocks it loads: four
  blocks of 512 keys taken in turn, two heads beside each other.
-/
module

public import proofs.«01_k».proof.Proof.Gen.FlashIdeal.Value
public import Idealize.ShloMosaic.Lib.Tactic

@[expose] public section

set_option maxRecDepth 16384

noncomputable section

namespace Cert.FlashIdeal.Out

open Cert.FlashIdeal Cert.FlashIdeal.Gen Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-- The two heads' scores lie beside each other in a buffer: a load of the first head's half finds what was stored
    there last, past a later store to the other half. -/
theorem load_fst (w w' : Vec F S1x512x2048 .bf16) (L : List (View.Piece (Elt F) S2x512x2048 .bf16)) :
    (fun j => View.canon ((⟨Rect.unit ![1, 0, 0] ![1, 512, 2048] inb_S2x512x2048_S1x512x2048_1_0_0, w'⟩ : View.Piece (Elt F) S2x512x2048 .bf16)
      :: ⟨Rect.unit ![0, 0, 0] ![1, 512, 2048] inb_S2x512x2048_S1x512x2048_0_0_0, w⟩ :: L)
        ((Rect.unit ![0, 0, 0] ![1, 512, 2048] inb_S2x512x2048_S1x512x2048_0_0_0).idx j)) = w := by
  funext j
  rw [View.canon_cons_of_not_mem]
  · exact View.canon_cons_emb _ _ _ j
  · rw [Rect.mem_set_unit]
    intro hc
    have h1 : 1 ≤ 0 + 1 * (j 0).val := (hc 0).1
    have h2 : (j 0).val < 1 := (j 0).isLt
    omega

/-- A load of the second head's half finds what was stored there last. -/
theorem load_snd (w' : Vec F S1x512x2048 .bf16) (L : List (View.Piece (Elt F) S2x512x2048 .bf16)) :
    (fun j => View.canon ((⟨Rect.unit ![1, 0, 0] ![1, 512, 2048] inb_S2x512x2048_S1x512x2048_1_0_0, w'⟩ : View.Piece (Elt F) S2x512x2048 .bf16) :: L)
        ((Rect.unit ![1, 0, 0] ![1, 512, 2048] inb_S2x512x2048_S1x512x2048_1_0_0).idx j)) = w' := by
  funext j
  exact View.canon_cons_emb _ _ _ j

/-- 512 keys of the block, from row `o` on. -/
def keys (x1 : Vec F S2048x256 .bf16) (o : Nat) (ho : o + 512 ≤ 2048) : Vec F S512x256 .bf16 :=
  View.ld x1 (Rect.unit ![o, 0] ![512, 256] (fun a => match a with | ⟨0, _⟩ => ho | ⟨1, _⟩ => le_refl 256))

/-- The values of 512 tokens, transposed: both heads' rows, a row of ones under each head's. -/
def vals (x2 : Vec F S4x256x512 .bf16) (o : Nat) (ho : o + 1 ≤ 4) : Vec F S256x512 .bf16 :=
  k0_pay13 (View.ld x2 (Rect.unit ![o, 0, 0] ![1, 256, 512] (fun a => match a with | ⟨0, _⟩ => ho | ⟨1, _⟩ => le_refl 256 | ⟨2, _⟩ => le_refl 512)))

/-- The scores of 512 keys against the tile's queries, first head. -/
def scA (x0 : Vec F S2048x256 .bf16) (x1 : Vec F S2048x256 .bf16) (o : Nat) (ho : o + 512 ≤ 2048) : Vec F S1x512x2048 .bf16 :=
  k0_pay7 (keys x1 o ho) (View.ld x0 (Rect.unit ![0, 0] ![2048, 128] inb_S2048x256_S2048x128_0_0))

/-- The scores of 512 keys against the tile's queries, second head. -/
def scB (x0 : Vec F S2048x256 .bf16) (x1 : Vec F S2048x256 .bf16) (o : Nat) (ho : o + 512 ≤ 2048) : Vec F S1x512x2048 .bf16 :=
  k0_pay8 (keys x1 o ho) (View.ld x0 (Rect.unit ![0, 128] ![2048, 128] inb_S2048x256_S2048x128_0_128))

/-- The running maximum and the running weighted sums of a head. -/
abbrev State (F : FTy → Type) : Type := FVec F S1x2048 .f32 × FVec F S128x2048 .f32

def start : State F := (k0_pay2, k0_pay3)

/-- A block of keys joins the first head's state. -/
def stepA (s : Vec F S1x512x2048 .bf16) (v : Vec F S256x512 .bf16) (z : State F) : State F :=
  (k0_pay14 z.1 s, k0_pay16 z.1 z.2 v (k0_pay14 z.1 s) s)

/-- A block of keys joins the second head's state. -/
def stepB (s : Vec F S1x512x2048 .bf16) (v : Vec F S256x512 .bf16) (z : State F) : State F :=
  (k0_pay15 z.1 s, k0_pay17 z.1 z.2 v (k0_pay15 z.1 s) s)

/-- The first head's state when two of the four blocks are in, when three are. -/
def twoA (x0 : Vec F S2048x256 .bf16) (x1 : Vec F S2048x256 .bf16) (x2 : Vec F S4x256x512 .bf16) : State F :=
  stepA (scA x0 x1 512 (by decide)) (vals x2 1 (by decide)) (stepA (scA x0 x1 0 (by decide)) (vals x2 0 (by decide)) start)

def threeA (x0 : Vec F S2048x256 .bf16) (x1 : Vec F S2048x256 .bf16) (x2 : Vec F S4x256x512 .bf16) : State F :=
  stepA (scA x0 x1 1024 (by decide)) (vals x2 2 (by decide)) (twoA x0 x1 x2)

/-- The second head's. -/
def twoB (x0 : Vec F S2048x256 .bf16) (x1 : Vec F S2048x256 .bf16) (x2 : Vec F S4x256x512 .bf16) : State F :=
  stepB (scB x0 x1 512 (by decide)) (vals x2 1 (by decide)) (stepB (scB x0 x1 0 (by decide)) (vals x2 0 (by decide)) start)

def threeB (x0 : Vec F S2048x256 .bf16) (x1 : Vec F S2048x256 .bf16) (x2 : Vec F S4x256x512 .bf16) : State F :=
  stepB (scB x0 x1 1024 (by decide)) (vals x2 2 (by decide)) (twoB x0 x1 x2)

/-- Every head's sums over its row of ones, the two heads' rows one below the other. -/
def quots (a b : FVec F S128x2048 .f32) : FVec F S128x2048 .f32 :=
  concatenate S128x2048 0
    [⟨S64x2048, divf (extractStridedSlice S64x2048 ![0, 0] a slices_S128x2048_o0_0_S64x2048)
        (broadcastTo S64x2048 (extractStridedSlice S1x2048 ![64, 0] a slices_S128x2048_o64_0_S1x2048) broadcasts_S1x2048_S64x2048)⟩,
      ⟨S64x2048, divf (extractStridedSlice S64x2048 ![0, 0] b slices_S128x2048_o0_0_S64x2048)
        (broadcastTo S64x2048 (extractStridedSlice S1x2048 ![64, 0] b slices_S128x2048_o64_0_S1x2048) broadcasts_S1x2048_S64x2048)⟩]
    concatenates_S64x2048_S64x2048_S128x2048_d0

def fourA (x0 : Vec F S2048x256 .bf16) (x1 : Vec F S2048x256 .bf16) (x2 : Vec F S4x256x512 .bf16) : State F :=
  stepA (scA x0 x1 1536 (by decide)) (vals x2 3 (by decide)) (threeA x0 x1 x2)

def fourB (x0 : Vec F S2048x256 .bf16) (x1 : Vec F S2048x256 .bf16) (x2 : Vec F S4x256x512 .bf16) : State F :=
  stepB (scB x0 x1 1536 (by decide)) (vals x2 3 (by decide)) (threeB x0 x1 x2)

/-- The four blocks, and the quotients. -/
def block (x0 : Vec F S2048x256 .bf16) (x1 : Vec F S2048x256 .bf16) (x2 : Vec F S4x256x512 .bf16) : Vec F S2048x128 .bf16 :=
  k0_pay1 (quots (fourA x0 x1 x2).2 (fourB x0 x1 x2).2)

/-- The block a grid point leaves. -/
theorem out_eq (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S4x256x512 .bf16) (harg5 : arg5.IsWhole) (arg6 : Memref sig .tc .vmem S2048x128 .bf16) (harg6 : arg6.IsWhole) (arg7 : Memref sig .tc .vmem S2x512x2048 .bf16) (harg7 : arg7.IsWhole) (arg8 : Memref sig .tc .vmem S2x512x2048 .bf16) (harg8 : arg8.IsWhole)
    (x0 : Vec F S2048x256 .bf16) (x1 : Vec F S2048x256 .bf16) (x2 : Vec F S4x256x512 .bf16) :
    out0_A_3 c i arg3 harg3 arg4 harg4 arg5 harg5 arg6 harg6 arg7 harg7 arg8 harg8 x0 x1 x2 = block x0 x1 x2 := by
  unfold out0_A_3
  rw [View.read_writes_eq_canon _ _ _ (cover0_A_3 c i arg3 harg3 arg4 harg4 arg5 harg5 arg6 harg6 arg7 harg7 arg8 harg8 x0 x1 x2)]
  unfold kernelRun0_A
  dsimp only
  rw [View.canon_unit_zero hz]
  sl_unfold_words
  simp only [View.readAt_eq_ld, harg3.read_unread, harg4.read_unread, harg5.read_unread]
  simp only [View.readCov_eq_canon']
  simp only [load_fst, load_snd]
  rfl

end Cert.FlashIdeal.Out

end
-- ==== Proof.FlashHost.lean ====
/-
  What the host code before the attention hands it, read at an index of the arguments.
-/
module

public import Idealize.ShloMosaic.Lib.Pointwise
public import proofs.«01_k».proof.Proof.FlashOut

@[expose] public section

set_option maxRecDepth 16384

noncomputable section

namespace Cert.FlashIdeal.Out

open Cert.FlashIdeal Cert.FlashIdeal.Gen Idealize.ShloMosaic Idealize.ShloMosaic.TcCoe Idealize.SL.Sem Idealize.ShloMosaic.Pointwise Idealize.ShloMosaic.StableHlo

/-- Each head's 96 lanes filled up to 128, a token's heads side by side. -/
def slots (x : FVec Ideal S32x2048x8x96 .f32) : FVec Ideal S65536x1024 .bf16 :=
  truncf .bf16 (shapeCast S65536x1024 (pad S32x2048x8x128 ![0, 0, 0, 0] ![0, 0, 0, 32] ![0, 0, 0, 0] x (sitofp .f32 (constantI S_ 32 0#32)) pads_S32x2048x8x96_S32x2048x8x128_000_000_000_0320 h_S_) shapeCasts_S32x2048x8x128_S65536x1024) bitsLt_bf16_f32

/-- The queries times the scale, over the logarithm of two. -/
def scaled (x : FVec Ideal S32x2048x8x96 .f32) : FVec Ideal S32x2048x8x96 .f32 :=
  Host.divf (mulf x (broadcastInDim S32x2048x8x96 ![] bcast_S_S32x2048x8x96 (constant S_ .f32 0x3DD105EC#32)))
    (broadcastInDim S32x2048x8x96 ![] bcast_S_S32x2048x8x96 (Host.log (constant S_ .f32 0x40000000#32)))

/-- The values with a column of ones after each head's 64, filled up to 128 and transposed in tiles of 512 tokens. -/
def tiles (x : FVec Ideal S32x2048x8x64 .f32) : FVec Ideal S128x1024x512 .bf16 :=
  truncf .bf16 (transpose S128x1024x512 [0, 2, 1] (shapeCast S128x512x1024 (shapeCast S65536x1024 (pad S32x2048x8x128 ![0, 0, 0, 0] ![0, 0, 0, 63] ![0, 0, 0, 0]
    (concatenate S32x2048x8x65 3 [⟨S32x2048x8x64, x⟩, ⟨S32x2048x8x1, broadcastInDim S32x2048x8x1 ![] bcast_S_S32x2048x8x1 (constant S_ .f32 0x3F800000#32)⟩] concatenates_S32x2048x8x64_S32x2048x8x1_S32x2048x8x65_d3)
    (sitofp .f32 (constantI S_ 32 0#32)) pads_S32x2048x8x65_S32x2048x8x128_000_000_000_0630 h_S_) shapeCasts_S32x2048x8x128_S65536x1024) shapeCasts_S65536x1024_S128x512x1024) transposes_S128x512x1024_S128x1024x512_0_2_1) bitsLt_bf16_f32

/-! ## The arrays at an index -/

theorem slots_in (x : FVec Ideal S32x2048x8x96 .f32) (R : Fin 65536) (C : Fin 1024) (h : C.val % 128 < 96) :
    slots x (ix2 R C) = x (ix4 ⟨R.val / 2048, by omega⟩ ⟨R.val % 2048, by omega⟩ ⟨C.val / 128, by omega⟩ ⟨C.val % 128, h⟩) := by
  pointwise [slots]
  exact dif_pos ⟨by omega, by omega, by omega, h⟩

theorem slots_out (x : FVec Ideal S32x2048x8x96 .f32) (R : Fin 65536) (C : Fin 1024) (h : ¬ C.val % 128 < 96) :
    slots x (ix2 R C) = 0 := by
  pointwise [slots]
  refine (dif_neg fun a => h a.2.2.2).trans ?_
  show (((0#32 : BitVec 32).toInt : ℝ) : EReal) = 0
  simp

theorem scaled_at (x : FVec Ideal S32x2048x8x96 .f32) (b : Fin 32) (t : Fin 2048) (h : Fin 8) (n : Fin 96) :
    scaled x (ix4 b t h n) = Ideal.div (x (ix4 b t h n) * Ideal.ofBits .f32 0x3DD105EC#32) (Ideal.log (Ideal.ofBits .f32 0x40000000#32)) := by
  pointwise [scaled]

theorem tiles_val (x : FVec Ideal S32x2048x8x64 .f32) (a : Fin 128) (C : Fin 1024) (t : Fin 512) (h : C.val % 128 < 64) :
    tiles x (ix3 a C t) = x (ix4 ⟨a.val / 4, by omega⟩ ⟨a.val % 4 * 512 + t.val, by omega⟩ ⟨C.val / 128, by omega⟩ ⟨C.val % 128, h⟩) := by
  pointwise [tiles]
  exact (dif_pos ⟨by omega, by omega, by omega, by omega⟩).trans (dif_pos h)

theorem tiles_one (x : FVec Ideal S32x2048x8x64 .f32) (a : Fin 128) (C : Fin 1024) (t : Fin 512) (h : C.val % 128 = 64) :
    tiles x (ix3 a C t) = 1 := by
  pointwise [tiles]
  exact (dif_pos ⟨by omega, by omega, by omega, by omega⟩).trans (dif_neg (by omega))

variable (m : (ℓ : Loc nD τ sig) → Buf (Elt Ideal) ℓ) (c : Dev nD)

/-- The attention's argument arrays on one device. -/
def aQ : FVec Ideal S32x2048x8x96 .f32 := m ((c : Thread nD τ).loc main_arg0)
def aK : FVec Ideal S32x2048x8x96 .f32 := m ((c : Thread nD τ).loc main_arg1)
def aV : FVec Ideal S32x2048x8x64 .f32 := m ((c : Thread nD τ).loc main_arg2)

theorem V7 : V m c main_v7 = slots (scaled (aQ m c)) := by
  dsimp only [V, hostOps0, hostOps0_1, hostOps0_2, hostOps0_3, hostOps0_4, hostOps0_5, hostOps0_6, List.flatten_cons, List.flatten_nil, List.append_nil, List.cons_append, List.nil_append]; after_results_simp; rfl
theorem V10 : V m c main_v10 = slots (aK m c) := by
  dsimp only [V, hostOps0, hostOps0_1, hostOps0_2, hostOps0_3, hostOps0_4, hostOps0_5, hostOps0_6, List.flatten_cons, List.flatten_nil, List.append_nil, List.cons_append, List.nil_append]; after_results_simp; rfl
theorem V17 : V m c main_v17 = tiles (aV m c) := by
  dsimp only [V, hostOps0, hostOps0_1, hostOps0_2, hostOps0_3, hostOps0_4, hostOps0_5, hostOps0_6, List.flatten_cons, List.flatten_nil, List.append_nil, List.cons_append, List.nil_append]; after_results_simp; rfl

/-! ## Each window's block -/

theorem idx0 : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)
theorem idx1 : ∀ t : Fin cfg0.N, win0_1.index t 0 = t.val / 4 ∧ win0_1.index t 1 = t.val % 4 :=
  (by decide +kernel : ∀ t : Fin grid0.N, win0_1.index t 0 = t.val / 4 ∧ win0_1.index t 1 = t.val % 4)
theorem idx2 : ∀ t : Fin cfg0.N, win0_2.index t 0 = t.val / 4 ∧ win0_2.index t 1 = t.val % 4 ∧ win0_2.index t 2 = 0 :=
  (by decide +kernel : ∀ t : Fin grid0.N, win0_2.index t 0 = t.val / 4 ∧ win0_2.index t 1 = t.val % 4 ∧ win0_2.index t 2 = 0)
theorem idx3 : ∀ t : Fin cfg0.N, win0_3.index t 0 = t.val / 4 ∧ win0_3.index t 1 = t.val % 4 :=
  (by decide +kernel : ∀ t : Fin grid0.N, win0_3.index t 0 = t.val / 4 ∧ win0_3.index t 1 = t.val % 4)

theorem blk0 (t : Fin cfg0.N) (ht : t.val < 128) (r : Fin 2048) (k : Fin 256) :
    (iblk m c 0 t : FVec Ideal S2048x256 .bf16) (ix2 r k) = slots (scaled (aQ m c)) (ix2 ⟨2048 * (t.val / 4) + r.val, by omega⟩ ⟨256 * (t.val % 4) + k.val, by omega⟩) := by
  unfold iblk; rw [View.read_apply]
  show V m c main_v7 _ = _
  rw [V7]
  refine congrArg (slots (scaled (aQ m c))) (funext fun a => Fin.ext ?_)
  match a with
  | ⟨0, _⟩ => show win0_0.index t 0 * 2048 + 1 * r.val = 2048 * (t.val / 4) + r.val; rw [(idx0 t).1]; omega
  | ⟨1, _⟩ => show win0_0.index t 1 * 256 + 1 * k.val = 256 * (t.val % 4) + k.val; rw [(idx0 t).2]; omega

theorem blk1 (t : Fin cfg0.N) (ht : t.val < 128) (r : Fin 2048) (k : Fin 256) :
    (iblk m c 1 t : FVec Ideal S2048x256 .bf16) (ix2 r k) = slots (aK m c) (ix2 ⟨2048 * (t.val / 4) + r.val, by omega⟩ ⟨256 * (t.val % 4) + k.val, by omega⟩) := by
  unfold iblk; rw [View.read_apply]
  show V m c main_v10 _ = _
  rw [V10]
  refine congrArg (slots (aK m c)) (funext fun a => Fin.ext ?_)
  match a with
  | ⟨0, _⟩ => show win0_1.index t 0 * 2048 + 1 * r.val = 2048 * (t.val / 4) + r.val; rw [(idx1 t).1]; omega
  | ⟨1, _⟩ => show win0_1.index t 1 * 256 + 1 * k.val = 256 * (t.val % 4) + k.val; rw [(idx1 t).2]; omega

theorem blk2 (t : Fin cfg0.N) (ht : t.val < 128) (a : Fin 4) (d : Fin 256) (k : Fin 512) :
    (iblk m c 2 t : FVec Ideal S4x256x512 .bf16) (ix3 a d k) = tiles (aV m c) (ix3 ⟨4 * (t.val / 4) + a.val, by omega⟩ ⟨256 * (t.val % 4) + d.val, by omega⟩ k) := by
  unfold iblk; rw [View.read_apply]
  show V m c main_v17 _ = _
  rw [V17]
  refine congrArg (tiles (aV m c)) (funext fun e => Fin.ext ?_)
  match e with
  | ⟨0, _⟩ => show win0_2.index t 0 * 4 + 1 * a.val = 4 * (t.val / 4) + a.val; rw [(idx2 t).1]; omega
  | ⟨1, _⟩ => show win0_2.index t 1 * 256 + 1 * d.val = 256 * (t.val % 4) + d.val; rw [(idx2 t).2.1]; omega
  | ⟨2, _⟩ => show win0_2.index t 2 * 512 + 1 * k.val = k.val; rw [(idx2 t).2.2]; omega

end Cert.FlashIdeal.Out

end
-- ==== Proof.FlashMath.lean ====
/-
  Attention over the extended reals: weighted sums gathered block by block under a running maximum, and the softmax
  they amount to. The scores are real numbers; the values may be anything.
-/
module

public import Idealize.ShloMosaic.Lib.Pointwise

@[expose] public section

noncomputable section

namespace Cert.FlashMath

open Idealize.ShloMosaic

/-- A real factor that is not negative goes into a sum. -/
theorem mul_sum_of_nonneg {κ : Type*} (P : Finset κ) (f : κ → EReal) (c : ℝ) (hc : 0 ≤ c) :
    (c : EReal) * ∑ k ∈ P, f k = ∑ k ∈ P, (c : EReal) * f k := by
  classical
  induction P using Finset.induction_on with
  | empty => simp
  | insert a P ha ih =>
    rw [Finset.sum_insert ha, Finset.sum_insert ha, EReal.left_distrib_of_nonneg_of_ne_top (by exact_mod_cast hc) (EReal.coe_ne_top c), ih]

theorem fold_max_eq_sup {κ : Type*} (P : Finset κ) (f : κ → EReal) : P.fold max ⊥ f = P.sup f := rfl

/-- A maximum of real numbers, not none of them, is one of them. -/
theorem sup_coe {κ : Type*} (P : Finset κ) (hP : P.Nonempty) (s : κ → ℝ) : ∃ M : ℝ, P.sup (fun k => (s k : EReal)) = M := by
  obtain ⟨k, -, hk⟩ := Finset.exists_mem_eq_sup P hP (fun k => (s k : EReal))
  exact ⟨s k, hk⟩

variable {κ : Type*} [DecidableEq κ]

/-- The state of the keys seen so far: their greatest score, and their values weighted relative to it. -/
def Seen (s : κ → ℝ) (v : κ → EReal) (P : Finset κ) (m a : EReal) : Prop :=
  m = P.sup (fun k => (s k : EReal)) ∧ a = ∑ k ∈ P, v k * Ideal.exp2 ((s k : EReal) - m)

theorem Seen.none (s : κ → ℝ) (v : κ → EReal) : Seen s v ∅ ⊥ 0 := ⟨by simp, by simp⟩

/-- Another block of keys. -/
theorem Seen.step {s : κ → ℝ} {v : κ → EReal} {P : Finset κ} {m a : EReal} (h : Seen s v P m a) {n : Nat} (e : Fin (n + 1) ↪ κ)
    (hd : ∀ r, e r ∉ P) (m' : EReal) (hm : m' = max m (Finset.univ.fold max ⊥ fun r => (s (e r) : EReal))) :
    Seen s v (P ∪ Finset.univ.map e) m' (Ideal.exp2 (m - m') * a + ∑ r, v (e r) * Ideal.exp2 ((s (e r) : EReal) - m')) := by
  obtain ⟨h1, h2⟩ := h
  have hsup : m' = (P ∪ Finset.univ.map e).sup (fun k => (s k : EReal)) := by
    rw [hm, fold_max_eq_sup, h1, Finset.sup_union, Finset.sup_map]; rfl
  have hdis : Disjoint P (Finset.univ.map e) := by
    rw [Finset.disjoint_left]
    intro k hk hk'
    obtain ⟨r, -, rfl⟩ := Finset.mem_map.1 hk'
    exact hd r hk
  refine ⟨hsup, ?_⟩
  rw [Finset.sum_union hdis, Finset.sum_map]
  refine congrArg₂ (fun y z : EReal => y + z) ?_ rfl
  obtain ⟨M', hM'⟩ := sup_coe (P ∪ Finset.univ.map e) ⟨e 0, Finset.mem_union_right _ (Finset.mem_map_of_mem e (Finset.mem_univ _))⟩ s
  have e' : m' = (M' : EReal) := hsup.trans hM'
  rcases P.eq_empty_or_nonempty with rfl | hP
  · rw [h2, Finset.sum_empty, Finset.sum_empty, mul_zero]
  · obtain ⟨M, hM⟩ := sup_coe P hP s
    have e1 : m = (M : EReal) := h1.trans hM
    rw [h2, e', e1, ← EReal.coe_sub, Ideal.exp2_coe, mul_sum_of_nonneg P _ (Real.rpow 2 (M - M')) (Real.rpow_nonneg (by norm_num) _)]
    refine Finset.sum_congr rfl fun k _ => ?_
    rw [← EReal.coe_sub, ← EReal.coe_sub, Ideal.exp2_coe, Ideal.exp2_coe, mul_left_comm, ← EReal.coe_mul]
    refine congrArg (fun z : ℝ => v k * (z : EReal)) ?_
    show (2 : ℝ) ^ (M - M') * (2 : ℝ) ^ (s k - M) = (2 : ℝ) ^ (s k - M')
    rw [← Real.rpow_add (by norm_num)]
    congr 1; ring

theorem coe_sum {ι : Type*} (P : Finset ι) (f : ι → ℝ) : ((∑ k ∈ P, f k : ℝ) : EReal) = ∑ k ∈ P, (f k : EReal) :=
  map_sum (⟨⟨((↑) : ℝ → EReal), EReal.coe_zero⟩, EReal.coe_add⟩ : ℝ →+ EReal) f P

/-- All keys seen: the weighted values over the weighted ones are the softmax's sum, whatever real number the softmax
    takes off its scores. -/
theorem quot {P : Finset κ} (hP : P.Nonempty) {s x : κ → ℝ} (hs : ∀ k, s k * Real.log 2 = x k) {v : κ → EReal} {m a l : EReal}
    (ha : Seen s v P m a) (hl : Seen s (fun _ => 1) P m l) (c : ℝ) :
    Ideal.div a l = ∑ k ∈ P, v k * Ideal.div (Ideal.exp ((x k : EReal) - c)) (∑ j ∈ P, Ideal.exp ((x j : EReal) - c)) := by
  obtain ⟨M, hM⟩ := sup_coe P hP s
  have e1 : m = (M : EReal) := ha.1.trans hM
  have p2 (k : κ) : Ideal.exp2 ((s k : EReal) - m) = (((2 : ℝ) ^ (s k - M) : ℝ) : EReal) := by
    rw [e1, ← EReal.coe_sub, Ideal.exp2_coe]; rfl
  have pe (k : κ) : Ideal.exp ((x k : EReal) - c) = ((Real.exp (x k - c) : ℝ) : EReal) := by
    rw [← EReal.coe_sub, Ideal.exp_coe]
  have hL : l = ((∑ k ∈ P, (2 : ℝ) ^ (s k - M) : ℝ) : EReal) := by
    rw [hl.2, coe_sum]
    exact Finset.sum_congr rfl fun k _ => by rw [one_mul, p2]
  have hE : (∑ j ∈ P, Ideal.exp ((x j : EReal) - c)) = ((∑ j ∈ P, Real.exp (x j - c) : ℝ) : EReal) := by
    rw [coe_sum]
    exact Finset.sum_congr rfl fun k _ => pe k
  have key (k : κ) : Real.exp (x k - c) = Real.exp (M * Real.log 2 - c) * (2 : ℝ) ^ (s k - M) := by
    rw [Real.rpow_def_of_pos (by norm_num), ← Real.exp_add, ← hs k]
    congr 1; ring
  have hpos : 0 < ∑ k ∈ P, (2 : ℝ) ^ (s k - M) := Finset.sum_pos (fun k _ => Real.rpow_pos_of_pos (by norm_num) _) hP
  have hpos' : 0 < ∑ j ∈ P, Real.exp (x j - c) := Finset.sum_pos (fun k _ => Real.exp_pos _) hP
  rw [hE, hL, Ideal.div_coe hpos.ne', ha.2, mul_comm, mul_sum_of_nonneg _ _ _ (by positivity)]
  refine Finset.sum_congr rfl fun k _ => ?_
  rw [Ideal.div_coe hpos'.ne', p2, pe, mul_left_comm, ← EReal.coe_mul, ← EReal.coe_mul]
  refine congrArg (fun z : ℝ => v k * (z : EReal)) ?_
  have hsum : (∑ j ∈ P, Real.exp (x j - c)) = Real.exp (M * Real.log 2 - c) * ∑ k ∈ P, (2 : ℝ) ^ (s k - M) := by
    rw [Finset.mul_sum]; exact Finset.sum_congr rfl fun k _ => key k
  rw [hsum, key k]
  have := Real.exp_pos (M * Real.log 2 - c)
  field_simp

end Cert.FlashMath

end
-- ==== Proof.MaxReads.lean ====
/-
  A maximum along an axis read at an index, at any sizes.
-/
module

public import Idealize.ShloMosaic.Lib.Pointwise
public import proofs.«01_k».proof.Proof.FlashMath

@[expose] public section

noncomputable section

namespace Cert.MaxReads

open Idealize.ShloMosaic Idealize.ShloMosaic.Pointwise

/-- The host's maximum along the last of four axes. -/
theorem host {n0 n1 n2 n3 : Nat} {u : Shape} (y : FVec Ideal ⟨4, ![n0, n1, n2, n3]⟩ .f32) (w : FVec Ideal u .f32)
    (h : (⟨4, ![n0, n1, n2, n3]⟩ : Shape).ReducesTo [3] ⟨3, ![n0, n1, n2]⟩) (hu : 0 < u.numel) (a : Fin n0) (b : Fin n1) (c : Fin n2) :
    Host.reduce FloatOps.maximumf y w h hu (ix3 a b c)
      = Finset.univ.fold max (w (Shape.Idx.first hu)) (fun k : Fin n3 => y (ix4 a b c k)) := by
  refine (Host.reduce_eq_fold (FloatOps.maximumf (F := Ideal) (φ := .f32)) y w h hu (ix3 a b c)).trans ?_
  exact h.fold_fiber_r4_a3 (ix3 a b c) (FloatOps.maximumf (F := Ideal) (φ := .f32)) _ y

/-- The host's maximum of a row of real numbers from -inf up is a real number. -/
theorem hostReal {n0 n1 n2 n3 : Nat} {u : Shape} (y : FVec Ideal ⟨4, ![n0, n1, n2, n3]⟩ .f32) (w : FVec Ideal u .f32)
    (h : (⟨4, ![n0, n1, n2, n3]⟩ : Shape).ReducesTo [3] ⟨3, ![n0, n1, n2]⟩) (hu : 0 < u.numel) (a : Fin n0) (b : Fin n1) (c : Fin n2)
    (hw : w (Shape.Idx.first hu) = (⊥ : EReal)) (hn : 0 < n3) (s : Fin n3 → ℝ) (hs : ∀ k, y (ix4 a b c k) = (s k : EReal)) :
    ∃ d : ℝ, Host.reduce FloatOps.maximumf y w h hu (ix3 a b c) = (d : EReal) := by
  obtain ⟨d, hd⟩ := Cert.FlashMath.sup_coe Finset.univ ⟨⟨0, hn⟩, Finset.mem_univ _⟩ s
  refine ⟨d, (host y w h hu a b c).trans ?_⟩
  rw [hw, Cert.FlashMath.fold_max_eq_sup, ← hd]
  exact congrArg (Finset.sup Finset.univ) (funext hs)

/-- The larger of -inf and an element is the element. -/
theorem floor {S : Shape} (x y : FVec Ideal S .f32) (i : S.Idx) (hx : x i = (⊥ : EReal)) : maximumf x y i = y i := by
  show max (x i) (y i) = y i
  rw [hx]; exact max_eq_right bot_le

/-- The kernel's maximum down the columns of a matrix. -/
theorem col {n0 n1 : Nat} (x : FVec Ideal ⟨2, ![n0, n1]⟩ .bf16) (acc : BitVec FTy.bf16.bits) (h : (⟨2, ![n0, n1]⟩ : Shape).Reduces [0] ⟨1, ![n1]⟩)
    (hφ) (hacc) (r : Fin n1) :
    multiReduction .maximumf [0] ⟨1, ![n1]⟩ x acc h hφ hacc (ix1 r) = Finset.univ.fold max (Ideal.ofBits .bf16 acc) (fun q : Fin n0 => x (ix2 q r)) := by
  rw [multiReduction_maximumf_eq_fold]
  exact h.fold_fiber_r2_a0 (ix1 r) (FloatOps.maximumf (F := Ideal) (φ := .bf16)) _ x

/-- The kernel's maximum along the rows of a matrix. -/
theorem row {n0 n1 : Nat} (x : FVec Ideal ⟨2, ![n0, n1]⟩ .f32) (acc : BitVec FTy.f32.bits) (h : (⟨2, ![n0, n1]⟩ : Shape).Reduces [1] ⟨1, ![n0]⟩)
    (hφ) (hacc) (r : Fin n0) :
    multiReduction .maximumf [1] ⟨1, ![n0]⟩ x acc h hφ hacc (ix1 r) = Finset.univ.fold max (Ideal.ofBits .f32 acc) (fun q : Fin n1 => x (ix2 r q)) := by
  rw [multiReduction_maximumf_eq_fold]
  exact h.fold_fiber_r2_a1 (ix1 r) (FloatOps.maximumf (F := Ideal) (φ := .f32)) _ x

end Cert.MaxReads

end
-- ==== Proof.FlashReads.lean ====
/-
  The operations of the attention kernel's body read at an index, over the extended reals.
-/
module

public import Idealize.ShloMosaic.Lib.Pointwise
public import proofs.«01_k».proof.Proof.FlashMath
public import proofs.«01_k».proof.Proof.MaxReads
public import proofs.«01_k».proof.Proof.FlashOut

@[expose] public section

set_option maxRecDepth 16384

noncomputable section

namespace Cert.FlashIdeal.Out

open Cert.FlashIdeal Cert.FlashIdeal.Gen Idealize.ShloMosaic Idealize.ShloMosaic.Pointwise Cert.FlashMath

variable (x0 x1 : FVec Ideal S2048x256 .bf16) (x2 : FVec Ideal S4x256x512 .bf16)

theorem bot16 : Ideal.ofBits FTy.bf16 65408#16 = ⊥ := by simp [Ideal.ofBits, Ideal.ieee]

theorem bot32 : Ideal.ofBits FTy.f32 4286578688#32 = ⊥ := by simp [Ideal.ofBits, Ideal.ieee]

/-! ## The payloads at an index -/

theorem scA_at (o : Nat) (ho) (u : Fin 1) (q : Fin 512) (r : Fin 2048) :
    scA (F := Ideal) x0 x1 o ho (ix3 u q r) = ∑ x : Fin 128, x1 (ix2 ⟨o + q.val, by omega⟩ ⟨x.val, by omega⟩) * x0 (ix2 r ⟨x.val, by omega⟩) := by
  pointwise [scA, keys, k0_pay7, k0_pay6]

theorem scB_at (o : Nat) (ho) (u : Fin 1) (q : Fin 512) (r : Fin 2048) :
    scB (F := Ideal) x0 x1 o ho (ix3 u q r) = ∑ x : Fin 128, x1 (ix2 ⟨o + q.val, by omega⟩ ⟨128 + x.val, by omega⟩) * x0 (ix2 r ⟨128 + x.val, by omega⟩) := by
  pointwise [scB, keys, k0_pay8, k0_pay6]

theorem vals_at (o : Nat) (ho) (d : Fin 256) (q : Fin 512) : vals (F := Ideal) x2 o ho (ix2 d q) = x2 (ix3 ⟨o, by omega⟩ d q) := by
  pointwise [vals, k0_pay13]

section
variable (z z' : FVec Ideal S1x2048 .f32) (a b : FVec Ideal S128x2048 .f32) (s : FVec Ideal S1x512x2048 .bf16) (v : FVec Ideal S256x512 .bf16)

theorem maxA_at (u : Fin 1) (r : Fin 2048) : k0_pay14 (F := Ideal) z s (ix2 u r) = max (z (ix2 u r)) (Finset.univ.fold max ⊥ fun q => s (ix3 0 q r)) := by
  unfold k0_pay14
  dsimp only
  generalize hM : multiReduction (F := Ideal) .maximumf [0] S2048 (shapeCast S512x2048 s shapeCasts_S1x512x2048_S512x2048) 0xFF80#16 reduces_S512x2048_S2048 (.inr rfl) rfl = M
  have e : M (ix1 r) = Finset.univ.fold max ⊥ fun q => s (ix3 0 q r) := by
    rw [← hM, ← bot16]
    refine (MaxReads.col _ _ _ _ _ r).trans (congrArg (fun f : Fin 512 → EReal => Finset.univ.fold max (Ideal.ofBits .bf16 0xFF80#16) f) (funext fun q => ?_))
    pointwise
  rw [← e]
  pointwise

theorem maxB_at (u : Fin 1) (r : Fin 2048) : k0_pay15 (F := Ideal) z s (ix2 u r) = max (z (ix2 u r)) (Finset.univ.fold max ⊥ fun q => s (ix3 0 q r)) := by
  unfold k0_pay15
  dsimp only
  generalize hM : multiReduction (F := Ideal) .maximumf [0] S2048 (shapeCast S512x2048 s shapeCasts_S1x512x2048_S512x2048) 0xFF80#16 reduces_S512x2048_S2048 (.inr rfl) rfl = M
  have e : M (ix1 r) = Finset.univ.fold max ⊥ fun q => s (ix3 0 q r) := by
    rw [← hM, ← bot16]
    refine (MaxReads.col _ _ _ _ _ r).trans (congrArg (fun f : Fin 512 → EReal => Finset.univ.fold max (Ideal.ofBits .bf16 0xFF80#16) f) (funext fun q => ?_))
    pointwise
  rw [← e]
  pointwise

theorem sumA_at (d : Fin 128) (r : Fin 2048) : k0_pay16 (F := Ideal) z a v z' s (ix2 d r)
    = Ideal.exp2 (z (ix2 0 r) - z' (ix2 0 r)) * a (ix2 d r) + ∑ q, v (ix2 ⟨d.val, by omega⟩ q) * Ideal.exp2 (s (ix3 0 q r) - z' (ix2 0 r)) := by
  pointwise [k0_pay16]
  rfl

theorem sumB_at (d : Fin 128) (r : Fin 2048) : k0_pay17 (F := Ideal) z a v z' s (ix2 d r)
    = Ideal.exp2 (z (ix2 0 r) - z' (ix2 0 r)) * a (ix2 d r) + ∑ q, v (ix2 ⟨128 + d.val, by omega⟩ q) * Ideal.exp2 (s (ix3 0 q r) - z' (ix2 0 r)) := by
  pointwise [k0_pay17]
  rfl

theorem start_at (u : Fin 1) (d : Fin 128) (r : Fin 2048) : (start (F := Ideal)).1 (ix2 u r) = ⊥ ∧ (start (F := Ideal)).2 (ix2 d r) = 0 := by
  constructor
  · show k0_pay2 (F := Ideal) (ix2 u r) = ⊥
    pointwise [k0_pay2]
    exact bot32
  · show k0_pay3 (F := Ideal) (ix2 d r) = 0
    pointwise [k0_pay3]

theorem quots_at (r : Fin 2048) (l : Fin 128) : k0_pay1 (F := Ideal) (quots (F := Ideal) a b) (ix2 r l)
    = if h : l.val < 64 then Ideal.div (a (ix2 l r)) (a (ix2 64 r)) else Ideal.div (b (ix2 ⟨l.val - 64, by omega⟩ r)) (b (ix2 64 r)) := by
  pointwise [k0_pay1, quots]
end

end Cert.FlashIdeal.Out

end
-- ==== Proof.FlashBlock.lean ====
/-
  The attention kernel's output block at an index, over the extended reals: what the four blocks of keys have gathered
  for a query, divided by what they have gathered of ones.
-/
module

public import proofs.«01_k».proof.Proof.FlashReads

@[expose] public section

set_option maxRecDepth 16384

noncomputable section

namespace Cert.FlashIdeal.Out

open Cert.FlashIdeal Cert.FlashIdeal.Gen Idealize.ShloMosaic Idealize.ShloMosaic.Pointwise Cert.FlashMath

variable (x0 x1 : FVec Ideal S2048x256 .bf16) (x2 : FVec Ideal S4x256x512 .bf16)

/-- The keys before row `o`. -/
def before (o : Nat) : Finset (Fin 2048) := Finset.univ.filter fun k => k.val < o

/-- A block of 512 keys. -/
def blockOf (o : Nat) (ho : o + 512 ≤ 2048) : Fin (511 + 1) ↪ Fin 2048 :=
  ⟨fun q => ⟨o + q.val, by omega⟩, fun p q h => Fin.ext (by have := congrArg Fin.val h; dsimp only at this; omega)⟩

theorem before_add (o : Nat) (ho : o + 512 ≤ 2048) : before o ∪ Finset.univ.map (blockOf o ho) = before (o + 512) := by
  ext k
  simp only [before, Finset.mem_union, Finset.mem_filter, Finset.mem_univ, true_and, Finset.mem_map]
  constructor
  · rintro (h | ⟨q, rfl⟩)
    · omega
    · show o + q.val < o + 512; omega
  · intro h
    by_cases hk : k.val < o
    · exact Or.inl hk
    · exact Or.inr ⟨⟨k.val - o, by omega⟩, Fin.ext (by show o + (k.val - o) = k.val; omega)⟩

theorem not_before (o : Nat) (ho) (q : Fin (511 + 1)) : blockOf o ho q ∉ before o := by
  simp only [before, Finset.mem_filter, Finset.mem_univ, true_and]
  show ¬ (o + q.val < o); omega

theorem before_zero : before 0 = ∅ := by ext k; simp [before]

theorem before_all : before 2048 = Finset.univ := by ext k; simp [before]

/-- The value of key `k` in row `d` of the block of transposed values. -/
def valOf (d : Fin 256) (k : Fin 2048) : EReal := x2 (ix3 ⟨k.val / 512, by omega⟩ d ⟨k.val % 512, by omega⟩)

section
variable {s : Fin 2048 → ℝ} {z : State Ideal} {r : Fin 2048} {d : Fin 128}

theorem seenA {o : Nat} (ho : o + 512 ≤ 2048) {j : Nat} (hj : j + 1 ≤ 4) (e : o = 512 * j)
    (hs : ∀ k : Fin 2048, ∑ x : Fin 128, x1 (ix2 k ⟨x.val, by omega⟩) * x0 (ix2 r ⟨x.val, by omega⟩) = (s k : EReal))
    (h : Seen s (valOf x2 ⟨d.val, by omega⟩) (before o) (z.1 (ix2 0 r)) (z.2 (ix2 d r))) :
    Seen s (valOf x2 ⟨d.val, by omega⟩) (before (o + 512)) ((stepA (scA x0 x1 o ho) (vals x2 j hj) z).1 (ix2 0 r)) ((stepA (scA x0 x1 o ho) (vals x2 j hj) z).2 (ix2 d r)) := by
  have key := h.step (blockOf o ho) (not_before o ho) (k0_pay14 (F := Ideal) z.1 (scA x0 x1 o ho) (ix2 0 r)) (by
    rw [maxA_at]
    refine congrArg (fun f : Fin 512 → EReal => max (z.1 (ix2 0 r)) (Finset.univ.fold max ⊥ f)) (funext fun q => ?_)
    rw [scA_at, ← hs]; rfl)
  rw [before_add] at key
  show Seen _ _ _ (k0_pay14 (F := Ideal) z.1 (scA x0 x1 o ho) (ix2 0 r)) (k0_pay16 (F := Ideal) z.1 z.2 (vals (F := Ideal) x2 j hj) (k0_pay14 z.1 (scA x0 x1 o ho)) (scA x0 x1 o ho) (ix2 d r))
  refine Eq.mp (congrArg (Seen s _ _ _) ?_) key
  rw [sumA_at]
  refine congrArg (fun y : EReal => _ + y) (Finset.sum_congr rfl fun q _ => ?_)
  rw [vals_at, scA_at]
  refine congrArg₂ (fun y w : EReal => y * Ideal.exp2 (w - _)) ?_ ?_
  · show x2 _ = x2 _
    refine congrArg x2 (funext fun a => Fin.ext ?_)
    match a with
    | ⟨0, _⟩ => show (o + q.val) / 512 = j; omega
    | ⟨1, _⟩ => rfl
    | ⟨2, _⟩ => show (o + q.val) % 512 = q.val; omega
  · rw [← hs]; rfl

theorem seenB {o : Nat} (ho : o + 512 ≤ 2048) {j : Nat} (hj : j + 1 ≤ 4) (e : o = 512 * j)
    (hs : ∀ k : Fin 2048, ∑ x : Fin 128, x1 (ix2 k ⟨128 + x.val, by omega⟩) * x0 (ix2 r ⟨128 + x.val, by omega⟩) = (s k : EReal))
    (h : Seen s (valOf x2 ⟨128 + d.val, by omega⟩) (before o) (z.1 (ix2 0 r)) (z.2 (ix2 d r))) :
    Seen s (valOf x2 ⟨128 + d.val, by omega⟩) (before (o + 512)) ((stepB (scB x0 x1 o ho) (vals x2 j hj) z).1 (ix2 0 r)) ((stepB (scB x0 x1 o ho) (vals x2 j hj) z).2 (ix2 d r)) := by
  have key := h.step (blockOf o ho) (not_before o ho) (k0_pay15 (F := Ideal) z.1 (scB x0 x1 o ho) (ix2 0 r)) (by
    rw [maxB_at]
    refine congrArg (fun f : Fin 512 → EReal => max (z.1 (ix2 0 r)) (Finset.univ.fold max ⊥ f)) (funext fun q => ?_)
    rw [scB_at, ← hs]; rfl)
  rw [before_add] at key
  show Seen _ _ _ (k0_pay15 (F := Ideal) z.1 (scB x0 x1 o ho) (ix2 0 r)) (k0_pay17 (F := Ideal) z.1 z.2 (vals (F := Ideal) x2 j hj) (k0_pay15 z.1 (scB x0 x1 o ho)) (scB x0 x1 o ho) (ix2 d r))
  refine Eq.mp (congrArg (Seen s _ _ _) ?_) key
  rw [sumB_at]
  refine congrArg (fun y : EReal => _ + y) (Finset.sum_congr rfl fun q _ => ?_)
  rw [vals_at, scB_at]
  refine congrArg₂ (fun y w : EReal => y * Ideal.exp2 (w - _)) ?_ ?_
  · show x2 _ = x2 _
    refine congrArg x2 (funext fun a => Fin.ext ?_)
    match a with
    | ⟨0, _⟩ => show (o + q.val) / 512 = j; omega
    | ⟨1, _⟩ => rfl
    | ⟨2, _⟩ => show (o + q.val) % 512 = q.val; omega
  · rw [← hs]; rfl

/-- All 2048 keys, first head. -/
theorem allA (hs : ∀ k : Fin 2048, ∑ x : Fin 128, x1 (ix2 k ⟨x.val, by omega⟩) * x0 (ix2 r ⟨x.val, by omega⟩) = (s k : EReal)) :
    Seen s (valOf x2 ⟨d.val, by omega⟩) Finset.univ ((fourA (F := Ideal) x0 x1 x2).1 (ix2 0 r)) ((fourA (F := Ideal) x0 x1 x2).2 (ix2 d r)) := by
  have h0 : Seen s (valOf x2 ⟨d.val, by omega⟩) (before 0) ((start (F := Ideal)).1 (ix2 0 r)) ((start (F := Ideal)).2 (ix2 d r)) := by
    rw [before_zero, (start_at 0 d r).1, (start_at 0 d r).2]; exact Seen.none _ _
  rw [← before_all]
  exact seenA x0 x1 x2 (by decide) (by decide) rfl hs (seenA x0 x1 x2 (by decide) (by decide) rfl hs
    (seenA x0 x1 x2 (by decide) (by decide) rfl hs (seenA x0 x1 x2 (by decide) (by decide) rfl hs h0)))

/-- All 2048 keys, second head. -/
theorem allB (hs : ∀ k : Fin 2048, ∑ x : Fin 128, x1 (ix2 k ⟨128 + x.val, by omega⟩) * x0 (ix2 r ⟨128 + x.val, by omega⟩) = (s k : EReal)) :
    Seen s (valOf x2 ⟨128 + d.val, by omega⟩) Finset.univ ((fourB (F := Ideal) x0 x1 x2).1 (ix2 0 r)) ((fourB (F := Ideal) x0 x1 x2).2 (ix2 d r)) := by
  have h0 : Seen s (valOf x2 ⟨128 + d.val, by omega⟩) (before 0) ((start (F := Ideal)).1 (ix2 0 r)) ((start (F := Ideal)).2 (ix2 d r)) := by
    rw [before_zero, (start_at 0 d r).1, (start_at 0 d r).2]; exact Seen.none _ _
  rw [← before_all]
  exact seenB x0 x1 x2 (by decide) (by decide) rfl hs (seenB x0 x1 x2 (by decide) (by decide) rfl hs
    (seenB x0 x1 x2 (by decide) (by decide) rfl hs (seenB x0 x1 x2 (by decide) (by decide) rfl hs h0)))
end

/-- The softmax of real scores, less a real number each, over values. -/
def softmax (s : Fin 2048 → ℝ) (c : ℝ) (v : Fin 2048 → EReal) : EReal :=
  ∑ k, v k * Ideal.div (Ideal.exp ((s k : EReal) - c)) (∑ j, Ideal.exp ((s j : EReal) - c))

/-- A column of the output block: its head's softmax over its values, where row 64 of the values is ones and the
    scores are `1 / log 2` of the softmax's. `g` is the head's first lane, 0 or 128; `d` the column within the head. -/
theorem block_at (r : Fin 2048) (l : Fin 128) (g : Nat) (hg : g = l.val / 64 * 128) (s x : Fin 2048 → ℝ) (hx : ∀ k, s k * Real.log 2 = x k)
    (hs : ∀ k : Fin 2048, ∑ n : Fin 128, x1 (ix2 k ⟨g + n.val, by omega⟩) * x0 (ix2 r ⟨g + n.val, by omega⟩) = (s k : EReal))
    (h1 : ∀ k, valOf x2 ⟨g + 64, by omega⟩ k = 1) (c : ℝ) :
    block (F := Ideal) x0 x1 x2 (ix2 r l) = softmax x c (valOf x2 ⟨g + l.val % 64, by omega⟩) := by
  unfold block
  rw [quots_at]
  by_cases h : l.val < 64
  · rw [dif_pos h]
    have g0 : g = 0 := by omega
    subst g0
    have hs' : ∀ k : Fin 2048, ∑ n : Fin 128, x1 (ix2 k ⟨n.val, by omega⟩) * x0 (ix2 r ⟨n.val, by omega⟩) = (s k : EReal) := fun k => by
      rw [← hs k]
      refine Finset.sum_congr rfl fun n _ => congrArg₂ (fun y w : Fin 256 => x1 (ix2 k y) * x0 (ix2 r w)) ?_ ?_ <;> exact Fin.ext (by show n.val = 0 + n.val; omega)
    have a := allA x0 x1 x2 (d := l) hs'
    have b := allA x0 x1 x2 (d := 64) hs'
    have e1 : valOf x2 ⟨(64 : Fin 128).val, by decide⟩ = fun _ => 1 := funext h1
    rw [e1] at b
    refine (quot Finset.univ_nonempty hx a b c).trans ?_
    refine congrArg (fun n : Fin 256 => softmax x c (valOf x2 n)) (Fin.ext ?_)
    show l.val = 0 + l.val % 64; omega
  · rw [dif_neg h]
    have g0 : g = 128 := by omega
    subst g0
    have a := allB x0 x1 x2 (d := ⟨l.val - 64, by omega⟩) hs
    have b := allB x0 x1 x2 (d := 64) hs
    have e1 : valOf x2 ⟨128 + (64 : Fin 128).val, by decide⟩ = fun _ => 1 := funext h1
    rw [e1] at b
    refine (quot Finset.univ_nonempty hx a b c).trans ?_
    refine congrArg (fun n : Fin 256 => softmax x c (valOf x2 n)) (Fin.ext ?_)
    show 128 + (l.val - 64) = 128 + l.val % 64; omega

end Cert.FlashIdeal.Out

end
-- ==== Proof.FlashRef.lean ====
/-
  The reference attention at an index, over the extended reals: a softmax over a row's scaled scores, summed against
  the values.
-/
module

public import proofs.«01_k».proof.Proof.Gen.AttentionIdeal.Read
public import proofs.«01_k».proof.Proof.FlashMath
public import proofs.«01_k».proof.Proof.MaxReads

@[expose] public section

set_option maxRecDepth 16384

noncomputable section

namespace Cert.FlashRef

open Cert.AttentionIdeal Cert.AttentionIdeal.Gen Cert.AttentionIdeal.Read Idealize.ShloMosaic Idealize.ShloMosaic.Pointwise

attribute [local instance] Cert.AttentionIdeal.Gen.facts

variable (x0 x1 : FVec Ideal S32x2048x8x96 .f32) (x2 : FVec Ideal S32x2048x8x64 .f32)

/-- The scale of the scores as the program spells it. -/
def scale : EReal := Ideal.ofBits .f32 0x3DD105EC#32

theorem score_at (b : Fin 32) (h : Fin 8) (i j : Fin 2048) :
    val_main_v2 (F := Ideal) x0 x1 (ix4 b h i j) = (∑ n, x0 (ix4 b i h n) * x1 (ix4 b j h n)) * scale := by
  pointwise [val_main_v2, val_main_v0, val_main_v1, val_main_cst]
  rfl

theorem low_at : val_main_cst_0 (F := Ideal) (Shape.Idx.first Facts₀.h_S_) = (⊥ : EReal) := by
  show Ideal.ofBits FTy.f32 0xFF800000#32 = ⊥
  simp [Ideal.ofBits, Ideal.ieee]

theorem floor_at (b : Fin 32) (h : Fin 8) (i : Fin 2048) : val_main_v4 (F := Ideal) (ix3 b h i) = (⊥ : EReal) := by
  pointwise [val_main_v4, val_main_cst_1]
  simp [Ideal.ofBits, Ideal.ieee]

theorem max_eq (b : Fin 32) (h : Fin 8) (i : Fin 2048) :
    val_main_v5 (F := Ideal) x0 x1 (ix3 b h i) = val_main_v3 (F := Ideal) x0 x1 (ix3 b h i) := by
  unfold val_main_v5
  exact MaxReads.floor _ _ _ (floor_at b h i)

/-- What the softmax takes off its scores is a real number when they are. -/
theorem max_at (b : Fin 32) (h : Fin 8) (i : Fin 2048) (s : Fin 2048 → ℝ)
    (hs : ∀ k, val_main_v2 (F := Ideal) x0 x1 (ix4 b h i k) = (s k : EReal)) : ∃ c : ℝ, val_main_v5 (F := Ideal) x0 x1 (ix3 b h i) = (c : EReal) := by
  rw [max_eq]
  unfold val_main_v3
  exact MaxReads.hostReal (val_main_v2 (F := Ideal) x0 x1) (val_main_cst_0 (F := Ideal)) _ _ b h i low_at (by omega) s hs

theorem exp_at (b : Fin 32) (h : Fin 8) (i k : Fin 2048) :
    val_main_v9 (F := Ideal) x0 x1 (ix4 b h i k) = Ideal.exp (val_main_v2 (F := Ideal) x0 x1 (ix4 b h i k) - val_main_v5 (F := Ideal) x0 x1 (ix3 b h i)) := by
  pointwise [val_main_v9, val_main_v8, val_main_v7, val_main_v6]

theorem sum_at (b : Fin 32) (h : Fin 8) (i : Fin 2048) :
    val_main_v10 (F := Ideal) x0 x1 (ix3 b h i) = ∑ k, val_main_v9 (F := Ideal) x0 x1 (ix4 b h i k) := by
  pointwise [val_main_v10, val_main_cst_2]

theorem out_at (R : Fin 65536) (l : Fin 512) :
    val_main_v17 (F := Ideal) x0 x1 x2 (ix2 R l) = ∑ k, x2 (ix4 ⟨R.val / 2048, by omega⟩ k ⟨l.val / 64, by omega⟩ ⟨l.val % 64, by omega⟩)
      * Ideal.div (val_main_v9 (F := Ideal) x0 x1 (ix4 ⟨R.val / 2048, by omega⟩ ⟨l.val / 64, by omega⟩ ⟨R.val % 2048, by omega⟩ k))
          (val_main_v10 (F := Ideal) x0 x1 (ix3 ⟨R.val / 2048, by omega⟩ ⟨l.val / 64, by omega⟩ ⟨R.val % 2048, by omega⟩)) := by
  pointwise [val_main_v17, val_main_v16, val_main_v15, val_main_v14, val_main_v13, val_main_v12, val_main_v11]

/-- The reference's result where the row's scores are real: there is a real number such that it is the softmax of the
    scores less that number. -/
theorem ref_at (R : Fin 65536) (l : Fin 512) (s : Fin 2048 → ℝ)
    (hs : ∀ k : Fin 2048, (∑ n, x0 (ix4 ⟨R.val / 2048, by omega⟩ ⟨R.val % 2048, by omega⟩ ⟨l.val / 64, by omega⟩ n)
      * x1 (ix4 ⟨R.val / 2048, by omega⟩ k ⟨l.val / 64, by omega⟩ n)) * scale = (s k : EReal)) :
    ∃ c : ℝ, val_main_v17 (F := Ideal) x0 x1 x2 (ix2 R l)
      = ∑ k, x2 (ix4 ⟨R.val / 2048, by omega⟩ k ⟨l.val / 64, by omega⟩ ⟨l.val % 64, by omega⟩)
          * Ideal.div (Ideal.exp ((s k : EReal) - c)) (∑ j, Ideal.exp ((s j : EReal) - c)) := by
  have hv (k : Fin 2048) := (score_at x0 x1 ⟨R.val / 2048, by omega⟩ ⟨l.val / 64, by omega⟩ ⟨R.val % 2048, by omega⟩ k).trans (hs k)
  obtain ⟨c, hc⟩ := max_at x0 x1 _ _ _ s hv
  refine ⟨c, (out_at x0 x1 x2 R l).trans (Finset.sum_congr rfl fun k _ => ?_)⟩
  have e9 (k : Fin 2048) : val_main_v9 (F := Ideal) x0 x1 (ix4 ⟨R.val / 2048, by omega⟩ ⟨l.val / 64, by omega⟩ ⟨R.val % 2048, by omega⟩ k) = Ideal.exp ((s k : EReal) - c) := by
    rw [exp_at, hv, hc]
  rw [e9, sum_at]
  refine congrArg (fun w : EReal => _ * Ideal.div _ w) (Finset.sum_congr rfl fun j _ => e9 j)

end Cert.FlashRef

end
-- ==== Proof.FlashEntry.lean ====
/-
  An entry of an attention block is the reference's, where the queries and keys are real numbers.
-/
module

public import proofs.«01_k».proof.Proof.FlashHost
public import proofs.«01_k».proof.Proof.FlashBlock
public import proofs.«01_k».proof.Proof.FlashRef

@[expose] public section

set_option maxRecDepth 16384

noncomputable section

namespace Cert.FlashIdeal.Out

open Cert.FlashIdeal Cert.FlashIdeal.Gen Idealize.ShloMosaic Idealize.ShloMosaic.TcCoe Idealize.SL.Sem Idealize.ShloMosaic.Pointwise

/-! ## The prepared arrays by head and lane -/

theorem slots_of (x : FVec Ideal S32x2048x8x96 .f32) (R : Fin 65536) (C : Fin 1024) (b : Fin 32) (t : Fin 2048) (h : Fin 8) (n : Fin 96)
    (hb : R.val / 2048 = b.val) (ht : R.val % 2048 = t.val) (hh : C.val / 128 = h.val) (hn : C.val % 128 = n.val) :
    slots x (ix2 R C) = x (ix4 b t h n) := by
  obtain rfl : b = ⟨R.val / 2048, by clear * - R; omega⟩ := Fin.ext hb.symm
  obtain rfl : t = ⟨R.val % 2048, by clear * - R; omega⟩ := Fin.ext ht.symm
  obtain rfl : h = ⟨C.val / 128, by clear * - C; omega⟩ := Fin.ext hh.symm
  obtain ⟨n, hlt⟩ := n
  obtain rfl : C.val % 128 = n := hn
  exact slots_in x R C _

theorem tiles_of (x : FVec Ideal S32x2048x8x64 .f32) (a : Fin 128) (C : Fin 1024) (q : Fin 512) (b : Fin 32) (t : Fin 2048) (h : Fin 8) (n : Fin 64)
    (hb : a.val / 4 = b.val) (ht : a.val % 4 * 512 + q.val = t.val) (hh : C.val / 128 = h.val) (hn : C.val % 128 = n.val) :
    tiles x (ix3 a C q) = x (ix4 b t h n) := by
  obtain rfl : b = ⟨a.val / 4, by clear * - a; omega⟩ := Fin.ext hb.symm
  obtain rfl : t = ⟨a.val % 4 * 512 + q.val, by clear * - a q; omega⟩ := Fin.ext ht.symm
  obtain rfl : h = ⟨C.val / 128, by clear * - C; omega⟩ := Fin.ext hh.symm
  obtain ⟨n, hlt⟩ := n
  obtain rfl : C.val % 128 = n := hn
  exact tiles_val x a C q _

/-! ## Real scores -/

/-- A sum over 128 lanes of which only the first 96 count. -/
theorem sum_cut (f : Fin 128 → EReal) (g : Fin 96 → EReal) (h : ∀ n : Fin 96, f ⟨n.val, by omega⟩ = g n)
    (h0 : ∀ n : Fin 128, ¬ n.val < 96 → f n = 0) : ∑ n, f n = ∑ n, g n := by
  refine (Fin.sum_univ_add (a := 96) (b := 32) f).trans ?_
  rw [Finset.sum_eq_zero (s := Finset.univ) (f := fun i : Fin 32 => f (Fin.natAdd 96 i))
    (fun i _ => h0 _ (by show ¬ 96 + i.val < 96; omega)), add_zero]
  exact Finset.sum_congr rfl fun n _ => h n

theorem scale_real : ∃ σ : ℝ, FlashRef.scale = (σ : EReal) := by
  unfold FlashRef.scale
  show ∃ σ : ℝ, Ideal.ieee 8 23 (0x3DD105EC#32) = (σ : EReal)
  unfold Ideal.ieee
  dsimp only
  rw [if_neg (by decide), if_neg (by decide)]
  exact ⟨_, rfl⟩

theorem log_two : Ideal.log (Ideal.ofBits .f32 0x40000000#32) = (Real.log 2 : EReal) := by
  have e : Ideal.ofBits .f32 0x40000000#32 = ((2 : ℝ) : EReal) := by
    simp [Ideal.ofBits, Ideal.ieee]
    norm_num
    rw [← EReal.coe_mul]
    norm_num
  rw [e, Ideal.log_coe, if_neg (by norm_num)]

/-- A score of the kernel's, with the scale and the logarithm on the queries. -/
theorem kernel_score {σ : ℝ} (hσ : FlashRef.scale = (σ : EReal)) (q k : Fin 96 → ℝ) (x y : Fin 96 → EReal)
    (hx : ∀ n, x n = Ideal.div ((q n : EReal) * Ideal.ofBits .f32 0x3DD105EC#32) (Ideal.log (Ideal.ofBits .f32 0x40000000#32))) (hy : ∀ n, y n = (k n : EReal)) :
    ∑ n, y n * x n = ((∑ n, k n * (q n * σ * (1 / Real.log 2)) : ℝ) : EReal) := by
  rw [FlashMath.coe_sum]
  refine Finset.sum_congr rfl fun n _ => ?_
  rw [hx, hy, log_two, Ideal.div_coe (Real.log_pos (by norm_num)).ne']
  show _ * (_ * FlashRef.scale * _) = _
  rw [hσ]
  simp only [EReal.coe_mul]

theorem ref_score {σ : ℝ} (hσ : FlashRef.scale = (σ : EReal)) (q k : Fin 96 → ℝ) (x y : Fin 96 → EReal)
    (hx : ∀ n, x n = (q n : EReal)) (hy : ∀ n, y n = (k n : EReal)) :
    (∑ n, x n * y n) * FlashRef.scale = (((∑ n, q n * k n) * σ : ℝ) : EReal) := by
  rw [EReal.coe_mul, FlashMath.coe_sum, hσ]
  refine congrArg (· * (σ : EReal)) (Finset.sum_congr rfl fun n _ => ?_)
  rw [hx, hy, EReal.coe_mul]

theorem scores_agree (σ : ℝ) (q k : Fin 96 → ℝ) :
    (∑ n, k n * (q n * σ * (1 / Real.log 2))) * Real.log 2 = (∑ n, q n * k n) * σ := by
  have h : Real.log 2 ≠ 0 := (Real.log_pos (by norm_num)).ne'
  rw [Finset.sum_mul, Finset.sum_mul]
  refine Finset.sum_congr rfl fun n _ => ?_
  field_simp

/-! ## An entry -/

variable (m : (ℓ : Loc nD τ sig) → Buf (Elt Ideal) ℓ) (c : Dev nD)

/-- The reference's result on the kernel's arguments. -/
def result : FVec Ideal S65536x512 .bf16 := AttentionIdeal.Read.val_main_v17 (F := Ideal) (aQ m c) (aK m c) (aV m c)

theorem lane_q (t : Fin cfg0.N) (ht : t.val < 128) (r : Fin 2048) (C : Fin 256) (n : Fin 96) (h : Fin 8) (hh : (256 * (t.val % 4) + C.val) / 128 = h.val)
    (hn : C.val % 128 = n.val) :
    (iblk m c 0 t : FVec Ideal S2048x256 .bf16) (ix2 r C) = scaled (aQ m c) (ix4 ⟨t.val / 4, by omega⟩ r h n) := by
  rw [blk0 m c t ht r C]
  exact slots_of _ _ _ _ _ _ _ (by show (2048 * (t.val / 4) + r.val) / 2048 = t.val / 4; omega) (by show (2048 * (t.val / 4) + r.val) % 2048 = r.val; omega)
    hh (by show (256 * (t.val % 4) + C.val) % 128 = n.val; omega)

theorem lane_k (t : Fin cfg0.N) (ht : t.val < 128) (r : Fin 2048) (C : Fin 256) (n : Fin 96) (h : Fin 8) (hh : (256 * (t.val % 4) + C.val) / 128 = h.val)
    (hn : C.val % 128 = n.val) :
    (iblk m c 1 t : FVec Ideal S2048x256 .bf16) (ix2 r C) = aK m c (ix4 ⟨t.val / 4, by omega⟩ r h n) := by
  rw [blk1 m c t ht r C]
  exact slots_of _ _ _ _ _ _ _ (by show (2048 * (t.val / 4) + r.val) / 2048 = t.val / 4; omega) (by show (2048 * (t.val / 4) + r.val) % 2048 = r.val; omega)
    hh (by show (256 * (t.val % 4) + C.val) % 128 = n.val; omega)

theorem lane_none (t : Fin cfg0.N) (ht : t.val < 128) (r : Fin 2048) (C : Fin 256) (hC : ¬ C.val % 128 < 96) :
    (iblk m c 1 t : FVec Ideal S2048x256 .bf16) (ix2 r C) = (0 : EReal) := by
  rw [blk1 m c t ht r C]
  exact slots_out _ _ _ (by show ¬ (256 * (t.val % 4) + C.val) % 128 < 96; omega)

theorem vals_row (t : Fin cfg0.N) (ht : t.val < 128) (k : Fin 2048) (C : Fin 256) (h : Fin 8) (n : Fin 64) (hh : (256 * (t.val % 4) + C.val) / 128 = h.val)
    (hn : C.val % 128 = n.val) :
    valOf (iblk m c 2 t : FVec Ideal S4x256x512 .bf16) C k = aV m c (ix4 ⟨t.val / 4, by omega⟩ k h n) := by
  unfold valOf
  rw [blk2 m c t ht _ C _]
  exact tiles_of _ _ _ _ _ _ _ _ (by show (4 * (t.val / 4) + k.val / 512) / 4 = t.val / 4; omega)
    (by show (4 * (t.val / 4) + k.val / 512) % 4 * 512 + k.val % 512 = k.val; omega) hh (by show (256 * (t.val % 4) + C.val) % 128 = n.val; omega)

theorem vals_one (t : Fin cfg0.N) (ht : t.val < 128) (k : Fin 2048) (C : Fin 256) (hC : C.val % 128 = 64) :
    valOf (iblk m c 2 t : FVec Ideal S4x256x512 .bf16) C k = 1 := by
  unfold valOf
  rw [blk2 m c t ht _ C _]
  exact tiles_one _ _ _ _ (by show (256 * (t.val % 4) + C.val) % 128 = 64; omega)

/-- The reference's entry at a head's column, with the row named by its batch row and token. -/
theorem ref_entry (R : Fin 65536) (L : Fin 512) (b : Fin 32) (r : Fin 2048) (h : Fin 8) (d : Fin 64) (hb : R.val / 2048 = b.val) (hr : R.val % 2048 = r.val)
    (hh : L.val / 64 = h.val) (hd : L.val % 64 = d.val) (x : Fin 2048 → ℝ)
    (hx : ∀ k, (∑ n, aQ m c (ix4 b r h n) * aK m c (ix4 b k h n)) * FlashRef.scale = (x k : EReal)) :
    ∃ e : ℝ, result m c (ix2 R L) = softmax x e (fun k => aV m c (ix4 b k h d)) := by
  obtain rfl : b = ⟨R.val / 2048, by clear * - R; omega⟩ := Fin.ext hb.symm
  obtain rfl : r = ⟨R.val % 2048, by clear * - R; omega⟩ := Fin.ext hr.symm
  obtain rfl : h = ⟨L.val / 64, by clear * - L; omega⟩ := Fin.ext hh.symm
  obtain rfl : d = ⟨L.val % 64, by clear * - L; omega⟩ := Fin.ext hd.symm
  exact FlashRef.ref_at (aQ m c) (aK m c) (aV m c) R L x hx

theorem entry (hQ : ∀ i, ∃ x : ℝ, aQ m c i = (x : EReal)) (hK : ∀ i, ∃ x : ℝ, aK m c i = (x : EReal))
    (t : Fin cfg0.N) (ht : t.val < 128) (r : Fin 2048) (l : Fin 128) :
    block (F := Ideal) (iblk m c 0 t) (iblk m c 1 t) (iblk m c 2 t) (ix2 r l)
      = result m c (ix2 ⟨2048 * (t.val / 4) + r.val, by omega⟩ ⟨128 * (t.val % 4) + l.val, by omega⟩) := by
  obtain ⟨σ, hσ⟩ := scale_real
  choose q hq using hQ
  choose k hk using hK
  obtain ⟨h, hh⟩ : ∃ h : Fin 8, h.val = 2 * (t.val % 4) + l.val / 64 := ⟨⟨2 * (t.val % 4) + l.val / 64, by omega⟩, rfl⟩
  obtain ⟨g, hg⟩ : ∃ g : Nat, g = l.val / 64 * 128 := ⟨_, rfl⟩
  obtain ⟨e, he⟩ := ref_entry m c ⟨2048 * (t.val / 4) + r.val, by omega⟩ ⟨128 * (t.val % 4) + l.val, by omega⟩ ⟨t.val / 4, by omega⟩ r h ⟨l.val % 64, by omega⟩
    (by show (2048 * (t.val / 4) + r.val) / 2048 = t.val / 4; omega) (by show (2048 * (t.val / 4) + r.val) % 2048 = r.val; omega)
    (by show (128 * (t.val % 4) + l.val) / 64 = h.val; omega) (by show (128 * (t.val % 4) + l.val) % 64 = l.val % 64; omega) _
    (fun j => ref_score hσ (fun n => q (ix4 ⟨t.val / 4, by omega⟩ r h n)) (fun n => k (ix4 ⟨t.val / 4, by omega⟩ j h n)) _ _ (fun n => hq _) (fun n => hk _))
  rw [he, block_at (iblk m c 0 t) (iblk m c 1 t) (iblk m c 2 t) r l g hg
    (fun j => ∑ n, k (ix4 ⟨t.val / 4, by omega⟩ j h n) * (q (ix4 ⟨t.val / 4, by omega⟩ r h n) * σ * (1 / Real.log 2))) _
    (fun j => scores_agree σ (fun n => q (ix4 ⟨t.val / 4, by omega⟩ r h n)) (fun n => k (ix4 ⟨t.val / 4, by omega⟩ j h n))) (fun j => ?_)
    (fun j => vals_one m c t ht j _ (by show (g + 64) % 128 = 64; omega)) e]
  · refine congrArg (softmax _ e) (funext fun j => ?_)
    exact vals_row m c t ht j _ h _ (by show (256 * (t.val % 4) + (g + l.val % 64)) / 128 = h.val; omega) (by show (g + l.val % 64) % 128 = l.val % 64; omega)
  · refine (sum_cut _ (fun n => aK m c (ix4 ⟨t.val / 4, by omega⟩ j h n) * scaled (aQ m c) (ix4 ⟨t.val / 4, by omega⟩ r h n)) (fun n => ?_) (fun n hn => ?_)).trans
      (kernel_score hσ (fun n => q (ix4 ⟨t.val / 4, by omega⟩ r h n)) (fun n => k (ix4 ⟨t.val / 4, by omega⟩ j h n)) _ _ (fun n => ?_) (fun n => hk _))
    · exact congrArg₂ (fun y w : EReal => y * w)
        (lane_k m c t ht j _ n h (by show (256 * (t.val % 4) + (g + n.val)) / 128 = h.val; omega) (by show (g + n.val) % 128 = n.val; omega))
        (lane_q m c t ht r _ n h (by show (256 * (t.val % 4) + (g + n.val)) / 128 = h.val; omega) (by show (g + n.val) % 128 = n.val; omega))
    · rw [lane_none m c t ht j _ (by show ¬ (g + n.val) % 128 < 96; omega), zero_mul]
    · rw [scaled_at, hq]

end Cert.FlashIdeal.Out

end
-- ==== Proof.FlashValue.lean ====
/-
  The attention: the kernel's result array is the reference's, and the claims about the two programs.
-/
module

public import proofs.«01_k».proof.Proof.FlashEntry
public import proofs.«01_k».proof.Proof.Gen.AttentionIdeal.Run
public import proofs.«01_k».proof.Proof.Gen.Flash.Frame
public import proofs.«01_k».proof.Proof.Gen.AttentionIdeal
public import proofs.«01_k».proof.Proof.Gen.Pre_finite_qk
public import proofs.«01_k».proof.Defs
public import Idealize.ShloMosaic.Lib.Quiescent
public import Idealize.ShloMosaic.Lib.ReduceAll

@[expose] public section

set_option maxRecDepth 16384

noncomputable section

namespace Cert.FlashIdeal.Out

open Cert.FlashIdeal Cert.FlashIdeal.Gen Idealize.ShloMosaic Idealize.ShloMosaic.TcCoe Idealize.SL.Sem Idealize.ShloMosaic.Pointwise
open Idealize.ShloMosaic.Pipeline (Dat)

attribute [local instance] Cert.Pre_finite_qk.Gen.facts

/-- A number whose absolute value is below infinity is real. -/
theorem real_of_lt (x : EReal) (h : max x (-x) < ⊤) : ∃ r : ℝ, x = (r : EReal) := by
  induction x with
  | bot => exact absurd h (by simp)
  | coe r => exact ⟨r, rfl⟩
  | top => exact absurd h (by simp)

/-- The precondition's test of one element. -/
theorem real_of_test {S : Shape} (x y : FVec Ideal S .f32) (i : S.Idx) (hy : y i = (⊤ : EReal)) (h : cmpf .olt (Host.absf x) y i = 1#1) :
    ∃ r : ℝ, x i = (r : EReal) := by
  refine real_of_lt _ ?_
  have e : BitVec.ofBool (decide (max (x i) (-(x i)) < y i)) = 1#1 := h
  rw [hy] at e
  by_contra hn
  rw [decide_eq_false hn] at e
  exact absurd e (by decide)

theorem inf_at (i : Pre_finite_qk.S32x2048x8x96.Idx) :
    (broadcastInDim Pre_finite_qk.S32x2048x8x96 ![] Pre_finite_qk.Facts.bcast_S_S32x2048x8x96 (constant (F := Ideal) Pre_finite_qk.S_ .f32 0x7F800000#32)) i = (⊤ : EReal) := by
  show Ideal.ofBits .f32 0x7F800000#32 = ⊤
  simp [Ideal.ofBits, Ideal.ieee]

theorem both_real (x0 x1 : FVec Ideal S32x2048x8x96 .f32) (x2 : FVec Ideal S32x2048x8x64 .f32) (h : Pre_finite_qk.fn (F := Ideal) x0 x1 x2 = fun _ => 1#1) :
    (∀ i, ∃ r : ℝ, x0 i = (r : EReal)) ∧ ∀ i, ∃ r : ℝ, x1 i = (r : EReal) := by
  have h0 := congrFun h (fun a => a.elim0)
  dsimp only [Pre_finite_qk.fn] at h0
  obtain ⟨h1, h2⟩ := IntOp.andi_eq_one.1 h0
  haveI : Subsingleton Pre_finite_qk.S_.Idx := ⟨fun a b => funext fun d => d.elim0⟩
  exact ⟨fun i => real_of_test _ _ _ (inf_at i) (Host.reduce_andi_all _ _ _ _ _ h1 i), fun i => real_of_test _ _ _ (inf_at i) (Host.reduce_andi_all _ _ _ _ _ h2 i)⟩

variable (m : (ℓ : Loc nD τ sig) → Buf (Elt Ideal) ℓ) (c : Dev nD)

theorem flushed_eq (hQ : ∀ i, ∃ x : ℝ, aQ m c i = (x : EReal)) (hK : ∀ i, ∃ x : ℝ, aK m c i = (x : EReal)) (t : Fin cfg0.N) (hf : (cfg0.win 3).flush t = true) :
    (dats m 0 c).flushed 3 t = ((cfg0.win 3).blk t).view.read (Elt Ideal) (result m c) := by
  have ht : t.val < 128 := lt_of_lt_of_eq t.isLt Gen.N_0
  rw [Value.flushed3_A, out_eq]
  funext j
  obtain ⟨r, l, rfl⟩ : ∃ (r : Fin 2048) (l : Fin 128), j = ix2 r l := ⟨j 0, j 1, by
    funext a
    match a with
    | ⟨0, _⟩ => rfl
    | ⟨1, _⟩ => rfl⟩
  rw [View.read_apply]
  show block (F := Ideal) _ _ _ (ix2 r l) = result m c _
  refine (entry m c hQ hK t ht r l).trans (congrArg (result m c) ?_)
  funext a; apply Fin.ext
  match a with
  | ⟨0, _⟩ => show 2048 * (t.val / 4) + r.val = win0_3.index t 0 * 2048 + 1 * r.val; rw [(idx3 t).1]; omega
  | ⟨1, _⟩ => show 128 * (t.val % 4) + l.val = win0_3.index t 1 * 128 + 1 * l.val; rw [(idx3 t).2]; omega

/-- The 128 blocks tile the result. -/
theorem final (hQ : ∀ i, ∃ x : ℝ, aQ m c i = (x : EReal)) (hK : ∀ i, ∃ x : ℝ, aK m c i = (x : EReal)) : (dats m 0 c).arrAt 3 cfg0.N = result m c :=
  (dats m 0 c).arrAt_eq_of_cover 3 (result m c) (flushed_eq m c hQ hK) fun i => by
    have h0 : (i 0 : Nat) < 65536 := (i 0).isLt
    have h1 : (i 1 : Nat) < 512 := (i 1).isLt
    refine ⟨⟨(i 0 : Nat) / 2048 * 4 + (i 1 : Nat) / 128, by show _ < grid0.N; rw [Gen.N_0]; omega⟩, flush0_3 _, ?_⟩
    generalize ht : (⟨(i 0 : Nat) / 2048 * 4 + (i 1 : Nat) / 128, _⟩ : Fin cfg0.N) = t
    have hv : t.val = (i 0 : Nat) / 2048 * 4 + (i 1 : Nat) / 128 := by rw [← ht]
    show i ∈ ((View.whole main_v18).slice (win0_3.rect t)).set
    rw [View.set_slice_whole, Rect.mem_set_unit]
    intro a
    match a with
    | ⟨0, _⟩ => show win0_3.index t 0 * 2048 ≤ (i 0 : Nat) ∧ (i 0 : Nat) < win0_3.index t 0 * 2048 + 2048
                rw [(idx3 t).1]; omega
    | ⟨1, _⟩ => show win0_3.index t 1 * 128 ≤ (i 1 : Nat) ∧ (i 1 : Nat) < win0_3.index t 1 * 128 + 128
                rw [(idx3 t).2]; omega

end Cert.FlashIdeal.Out

namespace Cert.FlashClaims

open Idealize.ShloMosaic Idealize.ShloMosaic.TcCoe Idealize.SL.Sem

attribute [local instance] Cert.Flash.Gen.facts Cert.FlashIdeal.Gen.facts Cert.AttentionIdeal.Gen.facts Cert.Pre_finite_qk.Gen.facts

theorem frameKernel : Cert.quiescent_Flash := fun m ρ _ => Cert.Flash.Gen.frame m ρ
theorem frameIdeal : Cert.quiescent_FlashIdeal := fun m ρ _ => Cert.FlashIdeal.Gen.frame m ρ
theorem frameIdealPre : Cert.quiescent_FlashIdeal_pre_finite_qk := fun m ρ _ => Cert.FlashIdeal.Gen.frame m ρ
theorem frameRef : Cert.quiescent_AttentionIdeal := fun m ρ _ =>
  (θ_run _ _ _).mono (fun r h => ⟨fun c => (h c).2, sem_eq_zero_of_no_sems rfl r.2⟩) (Cert.AttentionIdeal.Value.run m ρ)
theorem frameRefPre : Cert.quiescent_AttentionIdeal_pre_finite_qk := fun m ρ _ => frameRef m ρ trivial

theorem equal : Cert.algebraic_FlashIdeal_AttentionIdeal_pre_finite_qk := fun m ρ m' ρ' hpre hag =>
  ⟨fun c => Cert.FlashIdeal.Out.result m c,
    (θ_run _ _ _).mono (fun r h c => ⟨(h c).1.trans (Cert.FlashIdeal.Out.final m c (Cert.FlashIdeal.Out.both_real _ _ _ (hpre c)).1 (Cert.FlashIdeal.Out.both_real _ _ _ (hpre c)).2), (h c).2⟩)
      (Cert.FlashIdeal.Value.run_blocks m ρ),
    (θ_run _ _ _).mono (fun r h c => ⟨(h c).1.trans (by
      obtain ⟨h0, h1, h2⟩ := hag c
      rw [Cert.AttentionIdeal.Read.val_main_v17_eq, h0, h1, h2]
      rfl), (h c).2⟩) (Cert.AttentionIdeal.Value.run m' ρ')⟩

end Cert.FlashClaims

end
-- ==== Proof.WholeReads.lean ====
/-
  A window that stages a whole array reads it in place.
-/
module

public import Idealize.ShloMosaic.Lib.Pointwise

@[expose] public section

noncomputable section

namespace Cert.WholeReads

open Idealize.ShloMosaic

/-- An array read at every index in its place is the array. -/
theorem read_self {A B : Nat} {φ : FTy} (x : FVec Ideal ⟨2, ![A, B]⟩ φ) (e : Shape.Idx ⟨2, ![A, B]⟩ → Shape.Idx ⟨2, ![A, B]⟩)
    (h0 : ∀ j, (e j 0).val = 0 * A + 1 * (j 0).val) (h1 : ∀ j, (e j 1).val = 0 * B + 1 * (j 1).val) : (fun j => x (e j)) = x := by
  funext j
  refine congrArg x (funext fun a => Fin.ext ?_)
  match a with
  | ⟨0, _⟩ => exact (h0 j).trans (by show 0 * A + 1 * (j 0).val = (j 0).val; omega)
  | ⟨1, _⟩ => exact (h1 j).trans (by show 0 * B + 1 * (j 1).val = (j 1).val; omega)

end Cert.WholeReads

end
-- ==== Proof.FfnMath.lean ====
/-
  The channel mixer as a function of rows: what one row of the result is, given the row itself and its neighbours.
-/
module

public import Idealize.ShloMosaic.PureOps.Ideal.Laws

@[expose] public section

noncomputable section

namespace Cert.FfnMath

open Idealize.ShloMosaic

/-- One row scaled by its root mean square and by the gains `g`. -/
def nrm (x g : Fin 1024 → EReal) (k : Fin 1024) : EReal :=
  x k * Ideal.rsqrt (Ideal.div (∑ k', x k' * x k') (Ideal.ofBits .f32 0x44800000#32) + Ideal.ofBits .f32 0x358637BD#32) * g k

/-- The exact Gelu, as the kernel writes it. -/
def gelu (c : EReal) : EReal :=
  Ideal.ofBits .f32 0x3F000000#32 * c * (1 + Ideal.erf (c * Ideal.ofBits .f32 0x3F3504F3#32))

/-- Hidden channel `n` of a row: the gate, convolved over three normalised rows, times the value. -/
def hid (hp hc hn : Fin 1024 → EReal) (wg wv : Fin 1024 → Fin 2816 → EReal) (cw : Fin 3 → Fin 2816 → EReal)
    (cb : Fin 2816 → EReal) (n : Fin 2816) : EReal :=
  gelu (cw 0 n * (∑ k, hp k * wg k n) + cw 1 n * (∑ k, hc k * wg k n) + cw 2 n * (∑ k, hn k * wg k n) + cb n)
    * ∑ k, hc k * wv k n

/-- The normalised row before row `R` of its sequence of `T` rows; zeros before the first. -/
def prev {N : Nat} (T : Nat) (X : Fin N → Fin 1024 → EReal) (g : Fin 1024 → EReal) (R : Fin N) (k : Fin 1024) : EReal :=
  if R.val % T = 0 then 0 else nrm (X ⟨R.val - 1, by have := R.isLt; omega⟩) g k

/-- The normalised row after row `R`; zeros after the last. -/
def next {N : Nat} (T : Nat) (X : Fin N → Fin 1024 → EReal) (g : Fin 1024 → EReal) (R : Fin N) (k : Fin 1024) : EReal :=
  if R.val % T = T - 1 then 0 else nrm (X ⟨min (R.val + 1) (N - 1), by have := R.isLt; omega⟩) g k

/-- Element `l` of row `R` of the result. -/
def out {N : Nat} (T : Nat) (X : Fin N → Fin 1024 → EReal) (g : Fin 1024 → EReal) (wg wv : Fin 1024 → Fin 2816 → EReal)
    (cw : Fin 3 → Fin 2816 → EReal) (cb : Fin 2816 → EReal) (wd : Fin 2816 → Fin 1024 → EReal)
    (R : Fin N) (l : Fin 1024) : EReal :=
  X R l + ∑ n, hid (prev T X g R) (nrm (X R) g) (next T X g R) wg wv cw cb n * wd n l

/-- The host's Gelu is the kernel's: the error function is odd. -/
theorem gelu_host (c : EReal) :
    Ideal.ofBits .f32 0x3F000000#32 * c * Ideal.erfc (-c * Ideal.ofBits .f32 0x3F3504F3#32) = gelu c := by
  rw [gelu, neg_mul, Ideal.erfc_neg]

/-- A product with a row that is zero under a condition is zero under that condition. -/
theorem sum_ite_mul (p : Prop) [Decidable p] (h : Fin 1024 → EReal) (w : Fin 1024 → EReal) :
    (∑ k, (if p then 0 else h k) * w k) = if p then 0 else ∑ k, h k * w k := by
  by_cases hp : p <;> simp [hp]

end Cert.FfnMath

end
-- ==== Proof.FfnOut.lean ====
/-
  What one grid point of the channel mixer's kernel leaves in its output block, as a function of the blocks it loads.
-/
module

public import proofs.«01_k».proof.Proof.Gen.FfnIdeal.Value
public import Idealize.ShloMosaic.Lib.Tactic

@[expose] public section

set_option maxRecDepth 16384

noncomputable section

namespace Cert.FfnIdeal.Out

open Cert.FfnIdeal Cert.FfnIdeal.Gen Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-- The normalised rows the body works on: eight of the tile before, the tile's 512, eight of the tile after; the
neighbours' rows times `fp` and `fn`. -/
def slab (fp fn : F .f32) (x0 : Vec F S512x1024 .f32) (x1 : Vec F S8x1024 .f32) (x2 : Vec F S8x1024 .f32) (x3 : Vec F S1x1024 .f32) : Vec F S528x1024 .bf16 :=
  View.canon (Val := Elt F) [⟨Rect.unit ![520, 0] ![8, 1024] inb_S528x1024_S8x1024_520_0, k0_pay10 (k0_pay9 fn (k0_pay4 x3) x2)⟩,
    ⟨Rect.unit ![8, 0] ![512, 1024] inb_S528x1024_S512x1024_8_0, k0_pay8 (k0_pay4 x3) x0⟩,
    ⟨Rect.unit ![0, 0] ![8, 1024] inb_S528x1024_S8x1024_0_0, k0_pay7 fp (k0_pay4 x3) (k0_pay5 x1) (k0_pay6 x1)⟩]

/-- The gate of the first 1280 channels, over the slab; the other columns of its buffer are not read. -/
def gate1 (h : Vec F S528x1024 .bf16) (x4 : Vec F S1024x2816 .bf16) : Vec F S528x1536 .f32 :=
  View.canon (Val := Elt F) [⟨Rect.unit ![0, 0] ![528, 1280] inb_S528x1536_S528x1280_0_0,
    k0_pay12 h (View.ld x4 (Rect.unit ![0, 0] ![1024, 1280] inb_S1024x2816_S1024x1280_0_0))⟩]

/-- The gate of the other 1536 channels. -/
def gate2 (h : Vec F S528x1024 .bf16) (x4 : Vec F S1024x2816 .bf16) : Vec F S528x1536 .f32 :=
  k0_pay16 h (View.ld x4 (Rect.unit ![0, 1280] ![1024, 1536] inb_S1024x2816_S1024x1536_0_1280))

/-- The row block after the first 1280 channels. -/
def acc1 (h : Vec F S528x1024 .bf16) (x0 : Vec F S512x1024 .f32) (x4 : Vec F S1024x2816 .bf16) (x5 : Vec F S1024x2816 .bf16) (x6 : Vec F S3x2816 .f32) (x7 : Vec F S1x2816 .f32) (x8 : Vec F S2816x1024 .bf16) : Vec F S512x1024 .f32 :=
  k0_pay15 (k0_pay11 x0)
    (k0_pay13 (View.ld h (Rect.unit ![8, 0] ![512, 1024] inb_S528x1024_S512x1024_8_0)) (View.ld x5 (Rect.unit ![0, 0] ![1024, 1280] inb_S1024x2816_S1024x1280_0_0)))
    (k0_pay14 (View.ld x6 (Rect.unit ![0, 0] ![3, 1280] inb_S3x2816_S3x1280_0_0))
      (View.ld (gate1 h x4) (Rect.unit ![7, 0] ![512, 1280] inb_S528x1536_S512x1280_7_0))
      (View.ld (gate1 h x4) (Rect.unit ![8, 0] ![512, 1280] inb_S528x1536_S512x1280_8_0))
      (View.ld (gate1 h x4) (Rect.unit ![9, 0] ![512, 1280] inb_S528x1536_S512x1280_9_0)))
    (View.ld x7 (Rect.unit ![0, 0] ![1, 1280] inb_S1x2816_S1x1280_0_0))
    (View.ld x8 (Rect.unit ![0, 0] ![1280, 1024] inb_S2816x1024_S1280x1024_0_0))

/-- The row block after all channels. -/
def acc2 (h : Vec F S528x1024 .bf16) (x0 : Vec F S512x1024 .f32) (x4 : Vec F S1024x2816 .bf16) (x5 : Vec F S1024x2816 .bf16) (x6 : Vec F S3x2816 .f32) (x7 : Vec F S1x2816 .f32) (x8 : Vec F S2816x1024 .bf16) : Vec F S512x1024 .f32 :=
  k0_pay1 (acc1 h x0 x4 x5 x6 x7 x8)
    (k0_pay17 (View.ld h (Rect.unit ![8, 0] ![512, 1024] inb_S528x1024_S512x1024_8_0)) (View.ld x5 (Rect.unit ![0, 1280] ![1024, 1536] inb_S1024x2816_S1024x1536_0_1280)))
    (k0_pay18 (View.ld x6 (Rect.unit ![0, 1280] ![3, 1536] inb_S3x2816_S3x1536_0_1280)))
    (k0_pay19 (View.ld x6 (Rect.unit ![0, 1280] ![3, 1536] inb_S3x2816_S3x1536_0_1280))
      (View.ld (gate2 h x4) (Rect.unit ![7, 0] ![512, 1536] inb_S528x1536_S512x1536_7_0)))
    (k0_pay20 (View.ld x6 (Rect.unit ![0, 1280] ![3, 1536] inb_S3x2816_S3x1536_0_1280)))
    (View.ld (gate2 h x4) (Rect.unit ![8, 0] ![512, 1536] inb_S528x1536_S512x1536_8_0))
    (View.ld (gate2 h x4) (Rect.unit ![9, 0] ![512, 1536] inb_S528x1536_S512x1536_9_0))
    (View.ld x7 (Rect.unit ![0, 1280] ![1, 1536] inb_S1x2816_S1x1536_0_1280))
    (View.ld x8 (Rect.unit ![1280, 0] ![1536, 1024] inb_S2816x1024_S1536x1024_1280_0))

/-- The output block a grid point leaves, of the blocks it loads. -/
theorem out_eq (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1024x2816 .bf16) (harg5 : arg5.IsWhole) (arg6 : Memref sig .tc .vmem S1024x2816 .bf16) (harg6 : arg6.IsWhole) (arg7 : Memref sig .tc .vmem S3x2816 .f32) (harg7 : arg7.IsWhole) (arg8 : Memref sig .tc .vmem S1x2816 .f32) (harg8 : arg8.IsWhole) (arg9 : Memref sig .tc .vmem S2816x1024 .bf16) (harg9 : arg9.IsWhole) (arg10 : Memref sig .tc .vmem S512x1024 .f32) (harg10 : arg10.IsWhole) (arg11 : Memref sig .tc .vmem S528x1024 .bf16) (harg11 : arg11.IsWhole) (arg12 : Memref sig .tc .vmem S528x1536 .f32) (harg12 : arg12.IsWhole)
    (x0 : Vec F S512x1024 .f32) (x1 : Vec F S8x1024 .f32) (x2 : Vec F S8x1024 .f32) (x3 : Vec F S1x1024 .f32) (x4 : Vec F S1024x2816 .bf16) (x5 : Vec F S1024x2816 .bf16) (x6 : Vec F S3x2816 .f32) (x7 : Vec F S1x2816 .f32) (x8 : Vec F S2816x1024 .bf16) :
    out0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 = acc2 (slab (k0_pay2 i) (k0_pay3 i) x0 x1 x2 x3) x0 x4 x5 x6 x7 x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8)]
  unfold kernelRun0_A
  dsimp only
  rw [View.canon_unit_zero hz]
  sl_unfold_words
  simp only [View.readAt_eq_ld, harg1.read_unread, harg2.read_unread, harg3.read_unread, harg4.read_unread, harg5.read_unread, harg6.read_unread, harg7.read_unread, harg8.read_unread, harg9.read_unread]
  simp only [View.readCov_eq_canon']
  have e0 : View.ld x0 (Rect.unit ![0, 0] ![512, 1024] inb_S512x1024_S512x1024_0_0) = x0 := View.ld_unit_zero (S := S512x1024) hz _ _
  have e1 : View.ld x1 (Rect.unit ![0, 0] ![8, 1024] inb_S8x1024_S8x1024_0_0) = x1 := View.ld_unit_zero (S := S8x1024) hz _ _
  have e2 : View.ld x2 (Rect.unit ![0, 0] ![8, 1024] inb_S8x1024_S8x1024_0_0) = x2 := View.ld_unit_zero (S := S8x1024) hz _ _
  have e3 : View.ld x3 (Rect.unit ![0, 0] ![1, 1024] inb_S1x1024_S1x1024_0_0) = x3 := View.ld_unit_zero (S := S1x1024) hz _ _
  have eh (h : Vec F S528x1024 .bf16) : (fun j => h ((Rect.unit ![0, 0] ![528, 1024] inb_S528x1024_S528x1024_0_0).idx j)) = h := View.ld_unit_zero (S := S528x1024) hz _ _
  have eg (w : Vec F S528x1536 .f32) (L : List (View.Piece (Elt F) S528x1536 .f32)) :
      View.canon ((⟨Rect.unit ![0, 0] ![528, 1536] inb_S528x1536_S528x1536_0_0, w⟩ : View.Piece (Elt F) S528x1536 .f32) :: L) = w :=
    View.canon_cons_unit_zero (S := S528x1536) hz _ w L
  simp only [e0, e1, e2, e3, eh, eg]
  rfl

end Cert.FfnIdeal.Out

end
-- ==== Proof.FfnBlock.lean ====
/-
  The kernel's output block at an index, over the extended reals: the row's channels, summed over both halves.
-/
module

public import Idealize.ShloMosaic.Lib.Pointwise
public import proofs.«01_k».proof.Proof.FfnMath
public import proofs.«01_k».proof.Proof.FfnOut

@[expose] public section

set_option maxRecDepth 16384

noncomputable section

namespace Cert.FfnIdeal.Out

open Cert.FfnIdeal Cert.FfnIdeal.Gen Idealize.ShloMosaic Idealize.ShloMosaic.Pointwise Cert.FfnMath

variable (h : FVec Ideal S528x1024 .bf16) (x0 : FVec Ideal S512x1024 .f32) (x1 x2 : FVec Ideal S8x1024 .f32) (x3 : FVec Ideal S1x1024 .f32)
  (x4 x5 : FVec Ideal S1024x2816 .bf16) (x6 : FVec Ideal S3x2816 .f32) (x7 : FVec Ideal S1x2816 .f32) (x8 : FVec Ideal S2816x1024 .bf16)

/-! ## The block of a slab -/

theorem gate1_at (p : Fin 528) (n : Fin 1536) (hn : n.val < 1280) :
    gate1 (F := Ideal) h x4 (ix2 p n) = ∑ k, h (ix2 p k) * x4 (ix2 k ⟨n.val, by omega⟩) := by
  unfold gate1
  have e : (ix2 p n : S528x1536.Idx) = (Rect.unit ![0, 0] ![528, 1280] inb_S528x1536_S528x1280_0_0).emb (ix2 p ⟨n.val, hn⟩) := by
    funext a; apply Fin.ext
    match a with
    | ⟨0, _⟩ => show p.val = 0 + 1 * p.val; omega
    | ⟨1, _⟩ => show n.val = 0 + 1 * n.val; omega
  rw [e, View.canon_cons_emb]
  pointwise [k0_pay12]

theorem gate2_at (p : Fin 528) (n : Fin 1536) :
    gate2 (F := Ideal) h x4 (ix2 p n) = ∑ k, h (ix2 p k) * x4 (ix2 k ⟨1280 + n.val, by omega⟩) := by
  pointwise [gate2, k0_pay16]

/-- Row `p` of the slab. -/
def hrow (p : Nat) (hp : p < 528) (k : Fin 1024) : EReal := h (ix2 ⟨p, hp⟩ k)
def wAt (w : FVec Ideal S1024x2816 .bf16) (k : Fin 1024) (n : Fin 2816) : EReal := w (ix2 k n)
def cwAt (a : Fin 3) (n : Fin 2816) : EReal := x6 (ix2 a n)
def cbAt (n : Fin 2816) : EReal := x7 (ix2 0 n)
def wdAt (n : Fin 2816) (l : Fin 1024) : EReal := x8 (ix2 n l)

/-- What channel `n` adds to element `(r, l)`. -/
def term (r : Fin 512) (l : Fin 1024) (n : Fin 2816) : EReal :=
  hid (hrow h (7 + r.val) (by omega)) (hrow h (8 + r.val) (by omega)) (hrow h (9 + r.val) (by omega))
    (wAt x4) (wAt x5) (cwAt x6) (cbAt x7) n * wdAt x8 n l

theorem acc1_at (r : Fin 512) (l : Fin 1024) :
    acc1 (F := Ideal) h x0 x4 x5 x6 x7 x8 (ix2 r l)
      = x0 (ix2 r l) + ∑ n : Fin 1280, term h x4 x5 x6 x7 x8 r l ⟨n.val, by omega⟩ := by
  pointwise [acc1, k0_pay15, k0_pay14, k0_pay13, k0_pay11]
  refine congrArg (x0 (ix2 r l) + ·) (Finset.sum_congr rfl fun n _ => ?_)
  rw [gate1_at _ _ _ _ n.isLt, gate1_at _ _ _ _ n.isLt, gate1_at _ _ _ _ n.isLt]
  simp only [term, hid, gelu, hrow, wAt, cwAt, cbAt, wdAt, Ideal.erf_def]

theorem acc2_at (r : Fin 512) (l : Fin 1024) :
    acc2 (F := Ideal) h x0 x4 x5 x6 x7 x8 (ix2 r l) = x0 (ix2 r l) + ∑ n, term h x4 x5 x6 x7 x8 r l n := by
  have e := Fin.sum_univ_add (a := 1280) (b := 1536) (fun n => term h x4 x5 x6 x7 x8 r l n)
  refine Eq.trans ?_ (congrArg (fun z => x0 (ix2 r l) + z) e.symm)
  refine Eq.trans ?_ (add_assoc _ _ _)
  pointwise [acc2, k0_pay1, k0_pay17, k0_pay18, k0_pay19, k0_pay20]
  rw [acc1_at]
  refine congrArg₂ (fun y z : EReal => y + z) rfl (Finset.sum_congr rfl fun n _ => ?_)
  rw [gate2_at, gate2_at, gate2_at]
  simp only [term, hid, gelu, hrow, wAt, cwAt, cbAt, wdAt, Ideal.erf_def]
  rfl

/-! ## The slab's rows -/

/-- The mark of the rows before the tile: zero at the first tile of a sequence. -/
theorem flagPrev (i : grid0.Coords) : k0_pay2 (F := Ideal) i = (if (i 0).val % 4 = 0 then 0 else 1 : EReal) := by
  unfold k0_pay2
  generalize i 0 = n
  refine Eq.trans (b := (((if n.val % 4 = 0 then 0 else 1 : ℤ) : ℝ) : EReal)) (congrArg (fun z : ℤ => ((z : ℝ) : EReal)) ?_) ?_
  · revert n; decide +kernel
  · split <;> simp

/-- The mark of the rows after the tile: zero at the last tile of a sequence. -/
theorem flagNext (i : grid0.Coords) : k0_pay3 (F := Ideal) i = (if (i 0).val % 4 = 4 - 1 then 0 else 1 : EReal) := by
  unfold k0_pay3
  generalize i 0 = n
  refine Eq.trans (b := (((if n.val % 4 = 3 then 0 else 1 : ℤ) : ℝ) : EReal)) (congrArg (fun z : ℤ => ((z : ℝ) : EReal)) ?_) ?_
  · revert n; decide +kernel
  · split <;> simp

def gAt (k : Fin 1024) : EReal := x3 (ix2 0 k)

theorem slab_mid (fp fn : EReal) (p : Nat) (r : Fin 512) (hp : p = 8 + r.val) (k : Fin 1024) :
    hrow (slab (F := Ideal) fp fn x0 x1 x2 x3) p (by omega) k = nrm (fun k => x0 (ix2 r k)) (gAt x3) k := by
  subst hp
  unfold hrow slab
  have e : (ix2 ⟨8 + r.val, by omega⟩ k : S528x1024.Idx) = (Rect.unit ![8, 0] ![512, 1024] inb_S528x1024_S512x1024_8_0).emb (ix2 r k) := by
    funext a; apply Fin.ext
    match a with
    | ⟨0, _⟩ => show 8 + r.val = 8 + 1 * r.val; omega
    | ⟨1, _⟩ => show k.val = 0 + 1 * k.val; omega
  rw [View.canon_cons_of_not_mem, e, View.canon_cons_emb]
  · pointwise [k0_pay8, k0_pay4]
    rfl
  · rw [Rect.mem_set_unit]
    intro hc
    have := (hc 0).1
    have h1 : 520 ≤ 8 + r.val := this
    omega

theorem slab_lo (fp fn : EReal) (p : Nat) (q : Fin 8) (hp : p = q.val) (k : Fin 1024) :
    hrow (slab (F := Ideal) fp fn x0 x1 x2 x3) p (by omega) k = nrm (fun k => x1 (ix2 q k)) (gAt x3) k * fp := by
  subst hp
  unfold hrow slab
  have e : (ix2 ⟨q.val, by omega⟩ k : S528x1024.Idx) = (Rect.unit ![0, 0] ![8, 1024] inb_S528x1024_S8x1024_0_0).emb (ix2 q k) := by
    funext a; apply Fin.ext
    match a with
    | ⟨0, _⟩ => show q.val = 0 + 1 * q.val; omega
    | ⟨1, _⟩ => show k.val = 0 + 1 * k.val; omega
  rw [View.canon_cons_of_not_mem, View.canon_cons_of_not_mem, e, View.canon_cons_emb]
  · pointwise [k0_pay7, k0_pay4, k0_pay5, k0_pay6]
    rfl
  · rw [Rect.mem_set_unit]
    intro hc
    have := (hc 0).1
    have h1 : 8 ≤ q.val := this
    omega
  · rw [Rect.mem_set_unit]
    intro hc
    have := (hc 0).1
    have h1 : 520 ≤ q.val := this
    omega

theorem slab_hi (fp fn : EReal) (p : Nat) (q : Fin 8) (hp : p = 520 + q.val) (k : Fin 1024) :
    hrow (slab (F := Ideal) fp fn x0 x1 x2 x3) p (by omega) k = nrm (fun k => x2 (ix2 q k)) (gAt x3) k * fn := by
  subst hp
  unfold hrow slab
  have e : (ix2 ⟨520 + q.val, by omega⟩ k : S528x1024.Idx) = (Rect.unit ![520, 0] ![8, 1024] inb_S528x1024_S8x1024_520_0).emb (ix2 q k) := by
    funext a; apply Fin.ext
    match a with
    | ⟨0, _⟩ => show 520 + q.val = 520 + 1 * q.val; omega
    | ⟨1, _⟩ => show k.val = 0 + 1 * k.val; omega
  rw [e, View.canon_cons_emb]
  pointwise [k0_pay10, k0_pay9, k0_pay4]
  rfl

/-- The row of a tile within its sequence of `P` tiles. -/
theorem row_mod (P t r : Nat) (hr : r < 512) : (512 * t + r) % (512 * P) = r + 512 * (t % P) := by
  rw [Nat.mod_mul]
  congr 1
  · omega
  · rw [show (512 * t + r) / 512 = t by omega]

/-- The block of tile `t`, where the three loaded row blocks are the tile's rows and its neighbours', of sequences of
`P` tiles. -/
theorem block_at {N : Nat} (P : Nat) (hP : 0 < P) (fp fn : EReal) (X : Fin N → Fin 1024 → EReal) (t : Nat) (ht : 512 * t + 512 ≤ N)
    (hfp : fp = if t % P = 0 then 0 else 1) (hfn : fn = if t % P = P - 1 then 0 else 1)
    (h0 : ∀ (r : Fin 512) k, x0 (ix2 r k) = X ⟨512 * t + r.val, by omega⟩ k)
    (h1 : t % P ≠ 0 → ∀ k, x1 (ix2 ⟨7, by omega⟩ k) = X ⟨512 * t - 1, by omega⟩ k)
    (h2 : t % P ≠ P - 1 → ∀ k, x2 (ix2 ⟨0, by omega⟩ k) = X ⟨min (512 * t + 512) (N - 1), by omega⟩ k)
    (r : Fin 512) (l : Fin 1024) :
    acc2 (F := Ideal) (slab (F := Ideal) fp fn x0 x1 x2 x3) x0 x4 x5 x6 x7 x8 (ix2 r l)
      = out (512 * P) X (gAt x3) (wAt x4) (wAt x5) (cwAt x6) (cbAt x7) (wdAt x8) ⟨512 * t + r.val, by omega⟩ l := by
  have hr := r.isLt
  have hm := row_mod P t r.val hr
  have htP : t % P < P := Nat.mod_lt _ hP
  have ep : hrow (slab (F := Ideal) fp fn x0 x1 x2 x3) (7 + r.val) (by omega) = prev (512 * P) X (gAt x3) ⟨512 * t + r.val, by omega⟩ := by
    funext k
    unfold prev
    dsimp only
    rw [hm]
    by_cases hr0 : r.val = 0
    · rw [slab_lo x0 x1 x2 x3 fp fn _ ⟨7, by omega⟩ (by show 7 + r.val = 7; omega), hfp]
      by_cases h4 : t % P = 0
      · rw [if_pos h4, if_pos (by omega), mul_zero]
      · rw [if_neg h4, if_neg (by omega), mul_one]
        have e : (fun k => x1 (ix2 ⟨7, by omega⟩ k)) = X ⟨512 * t + r.val - 1, by omega⟩ := by
          funext k; rw [h1 h4]; exact congrArg (fun R => X R k) (Fin.ext (by show 512 * t - 1 = 512 * t + r.val - 1; omega))
        rw [e]
    · rw [slab_mid x0 x1 x2 x3 fp fn _ ⟨r.val - 1, by omega⟩ (by show 7 + r.val = 8 + (r.val - 1); omega), if_neg (by omega)]
      have e : (fun k => x0 (ix2 ⟨r.val - 1, by omega⟩ k)) = X ⟨512 * t + r.val - 1, by omega⟩ := by
        funext k; rw [h0]; exact congrArg (fun R => X R k) (Fin.ext (by show 512 * t + (r.val - 1) = 512 * t + r.val - 1; omega))
      rw [e]
  have ec : hrow (slab (F := Ideal) fp fn x0 x1 x2 x3) (8 + r.val) (by omega) = nrm (X ⟨512 * t + r.val, by omega⟩) (gAt x3) := by
    funext k
    rw [slab_mid x0 x1 x2 x3 fp fn _ r rfl]
    have e : (fun k => x0 (ix2 r k)) = X ⟨512 * t + r.val, by omega⟩ := by funext k; rw [h0]
    rw [e]
  have en : hrow (slab (F := Ideal) fp fn x0 x1 x2 x3) (9 + r.val) (by omega) = next (512 * P) X (gAt x3) ⟨512 * t + r.val, by omega⟩ := by
    funext k
    unfold next
    dsimp only
    rw [hm]
    by_cases hr0 : r.val = 511
    · rw [slab_hi x0 x1 x2 x3 fp fn _ ⟨0, by omega⟩ (by show 9 + r.val = 520 + 0; omega), hfn]
      by_cases h4 : t % P = P - 1
      · rw [if_pos h4, if_pos (by omega), mul_zero]
      · rw [if_neg h4, if_neg (by omega), mul_one]
        have e : (fun k => x2 (ix2 ⟨0, by omega⟩ k)) = X ⟨min (512 * t + r.val + 1) (N - 1), by omega⟩ := by
          funext k; rw [h2 h4]; exact congrArg (fun R => X R k) (Fin.ext (by show min (512 * t + 512) (N - 1) = min (512 * t + r.val + 1) (N - 1); omega))
        rw [e]
    · rw [slab_mid x0 x1 x2 x3 fp fn _ ⟨r.val + 1, by omega⟩ (by show 9 + r.val = 8 + (r.val + 1); omega), if_neg (by omega)]
      have e : (fun k => x0 (ix2 ⟨r.val + 1, by omega⟩ k)) = X ⟨min (512 * t + r.val + 1) (N - 1), by omega⟩ := by
        funext k; rw [h0]; exact congrArg (fun R => X R k) (Fin.ext (by show 512 * t + (r.val + 1) = min (512 * t + r.val + 1) (N - 1); omega))
      rw [e]
  rw [acc2_at, h0]
  unfold out term
  rw [ep, ec, en]

end Cert.FfnIdeal.Out

end
-- ==== Proof.FfnRef.lean ====
/-
  The reference's result, row by row: `FfnMath.out` of the reference's arguments.
-/
module

public import proofs.«01_k».proof.Proof.Gen.ConvFfnIdeal.Read
public import Idealize.ShloMosaic.Lib.Pointwise
public import proofs.«01_k».proof.Proof.FfnMath

@[expose] public section

set_option maxRecDepth 16384

noncomputable section

namespace Cert.FfnRef

open Cert.ConvFfnIdeal Cert.ConvFfnIdeal.Read Idealize.ShloMosaic Idealize.ShloMosaic.Pointwise Cert.FfnMath

variable (x0 : FVec Ideal S32x2048x1024 .f32) (x1 : FVec Ideal S1x1024 .f32) (x2 : FVec Ideal S1x1024x5632 .f32)
  (x3 : FVec Ideal S1x3x2816 .f32) (x4 : FVec Ideal S1x2816 .f32) (x5 : FVec Ideal S1x2816x1024 .f32)

/-- Row `R` of the batch's sequences laid end to end. -/
def rowsOf (R : Fin 65536) (k : Fin 1024) : EReal :=
  x0 (ix3 ⟨R.val / 2048, by have := R.isLt; omega⟩ ⟨R.val % 2048, by omega⟩ k)
def gain (k : Fin 1024) : EReal := x1 (ix2 0 k)
def upGate (k : Fin 1024) (n : Fin 2816) : EReal := x2 (ix3 0 k ⟨n.val, by have := n.isLt; omega⟩)
def upVal (k : Fin 1024) (n : Fin 2816) : EReal := x2 (ix3 0 k ⟨2816 + n.val, by have := n.isLt; omega⟩)
def taps (a : Fin 3) (n : Fin 2816) : EReal := x3 (ix3 0 a n)
def bias (n : Fin 2816) : EReal := x4 (ix2 0 n)
def down (n : Fin 2816) (l : Fin 1024) : EReal := x5 (ix3 0 n l)

/-- The integer zero the host pads with, as a number. -/
theorem sitofp_zero : (FloatOps.sitofp (F := Ideal) .f32 (0#32) : EReal) = 0 := by
  show (((0#32).toInt : ℝ) : EReal) = 0
  simp

/-- The normalised rows. -/
theorem v13_at (R : Fin 65536) (b : Fin 32) (t : Fin 2048) (hb : b.val = R.val / 2048) (ht : t.val = R.val % 2048) (k : Fin 1024) :
    val_main_v13 (F := Ideal) x0 x1 (ix3 b t k) = nrm (rowsOf x0 R) (gain x1) k := by
  have e : ∀ k, x0 (ix3 b t k) = rowsOf x0 R k := fun k => by
    unfold rowsOf; exact congrArg₂ (fun b t => x0 (ix3 b t k)) (Fin.ext hb) (Fin.ext ht)
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  simp only [e]
  rfl

/-- The gate before the convolution. -/
theorem v16_at (R : Fin 65536) (b : Fin 32) (t : Fin 2048) (hb : b.val = R.val / 2048) (ht : t.val = R.val % 2048) (n : Fin 2816) :
    val_main_v16 (F := Ideal) x0 x1 x2 (ix3 b t n) = ∑ k, nrm (rowsOf x0 R) (gain x1) k * upGate x2 k n := by
  pointwise [val_main_v16, val_main_v15, val_main_v14]
  exact Finset.sum_congr rfl fun k _ => by rw [v13_at x0 x1 R b t hb ht]; rfl

/-- The value. -/
theorem v17_at (R : Fin 65536) (b : Fin 32) (t : Fin 2048) (hb : b.val = R.val / 2048) (ht : t.val = R.val % 2048) (n : Fin 2816) :
    val_main_v17 (F := Ideal) x0 x1 x2 (ix3 b t n) = ∑ k, nrm (rowsOf x0 R) (gain x1) k * upVal x2 k n := by
  pointwise [val_main_v17, val_main_v15, val_main_v14]
  exact Finset.sum_congr rfl fun k _ => by rw [v13_at x0 x1 R b t hb ht]; rfl

/-- The gate shifted one row down. -/
theorem v22_at (R : Fin 65536) (b : Fin 32) (t : Fin 2048) (hb : b.val = R.val / 2048) (ht : t.val = R.val % 2048) (n : Fin 2816) :
    val_main_v22 (F := Ideal) x0 x1 x2 (ix3 b t n) = ∑ k, prev 2048 (rowsOf x0) (gain x1) R k * upGate x2 k n := by
  pointwise [val_main_v22, val_main_v21, val_main_call0_v0]
  unfold prev
  have hR := R.isLt
  rw [sum_ite_mul]
  by_cases h0 : R.val % 2048 = 0
  · rw [if_pos h0, dif_neg (by omega)]
    simp only [val_main_c]
    exact sitofp_zero
  · rw [if_neg h0, dif_pos (by omega)]
    exact v16_at x0 x1 x2 ⟨R.val - 1, by omega⟩ b _ (by show b.val = (R.val - 1) / 2048; omega) (by show t.val - 1 = (R.val - 1) % 2048; omega) n

/-- The gate shifted one row up. -/
theorem v35_at (R : Fin 65536) (b : Fin 32) (t : Fin 2048) (hb : b.val = R.val / 2048) (ht : t.val = R.val % 2048) (n : Fin 2816) :
    val_main_v35 (F := Ideal) x0 x1 x2 (ix3 b t n) = ∑ k, next 2048 (rowsOf x0) (gain x1) R k * upGate x2 k n := by
  pointwise [val_main_v35, val_main_v34, val_main_call1_v0]
  unfold next
  have hR := R.isLt
  rw [sum_ite_mul]
  by_cases h0 : R.val % 2048 = 2048 - 1
  · rw [if_pos h0, dif_neg (by omega)]
    simp only [val_main_c_2]
    exact sitofp_zero
  · rw [if_neg h0, dif_pos (by omega)]
    exact v16_at x0 x1 x2 ⟨min (R.val + 1) 65535, by omega⟩ b _ (by show b.val = min (R.val + 1) 65535 / 2048; omega)
      (by show 1 + t.val = min (R.val + 1) 65535 % 2048; omega) n

/-- The activated gate. -/
theorem v50_at (b : Fin 32) (t : Fin 2048) (n : Fin 2816) :
    val_main_v50 (F := Ideal) x0 x1 x2 x3 x4 (ix3 b t n)
      = gelu (taps x3 0 n * val_main_v22 (F := Ideal) x0 x1 x2 (ix3 b t n) + taps x3 1 n * val_main_v16 (F := Ideal) x0 x1 x2 (ix3 b t n)
          + taps x3 2 n * val_main_v35 (F := Ideal) x0 x1 x2 (ix3 b t n) + bias x4 n) := by
  pointwise [val_main_v50, val_main_v49, val_main_v48, val_main_v47, val_main_v46, val_main_v45, val_main_v44, val_main_v43,
    val_main_v42, val_main_v41, val_main_v40, val_main_v39, val_main_v38, val_main_v37, val_main_v36, val_main_v33,
    val_main_v32, val_main_v31, val_main_v30, val_main_v29, val_main_v28, val_main_v27, val_main_v26, val_main_v25,
    val_main_v24, val_main_v23, val_main_v20, val_main_v19, val_main_v18, val_main_cst_3, val_main_cst_4]
  exact gelu_host _

/-- The reference's result at row `R`, element `l`. -/
theorem ref_at (R : Fin 65536) (l : Fin 1024) :
    val_main_v55 (F := Ideal) x0 x1 x2 x3 x4 x5 (ix2 R l)
      = out 2048 (rowsOf x0) (gain x1) (upGate x2) (upVal x2) (taps x3) (bias x4) (down x5) R l := by
  pointwise [val_main_v55, val_main_v54, val_main_v53, val_main_v52, val_main_v51]
  unfold out
  congr 1
  refine Finset.sum_congr rfl fun n _ => ?_
  rw [v50_at, v17_at x0 x1 x2 R _ _ rfl rfl, v22_at x0 x1 x2 R _ _ rfl rfl, v16_at x0 x1 x2 R _ _ rfl rfl, v35_at x0 x1 x2 R _ _ rfl rfl]
  rfl

end Cert.FfnRef

end
-- ==== Proof.FfnHost.lean ====
/-
  What the host code before the kernel hands it, read at an index of the arguments.
-/
module

public import Idealize.ShloMosaic.Lib.Pointwise
public import proofs.«01_k».proof.Proof.WholeReads
public import proofs.«01_k».proof.Proof.FfnBlock
public import proofs.«01_k».proof.Proof.FfnRef

@[expose] public section

set_option maxRecDepth 16384

noncomputable section

namespace Cert.FfnIdeal.Out

open Cert.FfnIdeal Cert.FfnIdeal.Gen Idealize.ShloMosaic Idealize.ShloMosaic.TcCoe Idealize.SL.Sem Idealize.ShloMosaic.Pointwise Idealize.ShloMosaic.StableHlo

variable (m : (ℓ : Loc nD τ sig) → Buf (Elt Ideal) ℓ) (c : Dev nD)

/-- The layer's argument arrays on one device. -/
def aX : FVec Ideal S32x2048x1024 .f32 := m ((c : Thread nD τ).loc main_arg0)
def aG : FVec Ideal S1x1024 .f32 := m ((c : Thread nD τ).loc main_arg1)
def aUp : FVec Ideal S1x1024x5632 .f32 := m ((c : Thread nD τ).loc main_arg2)
def aCw : FVec Ideal S1x3x2816 .f32 := m ((c : Thread nD τ).loc main_arg3)
def aCb : FVec Ideal S1x2816 .f32 := m ((c : Thread nD τ).loc main_arg4)
def aDn : FVec Ideal S1x2816x1024 .f32 := m ((c : Thread nD τ).loc main_arg5)

theorem V12 : V m c main_v12 = (shapeCast S65536x1024 (aX m c) shapeCasts_S32x2048x1024_S65536x1024 : FVec Ideal S65536x1024 .f32) := by
  dsimp only [V, hostOps0]; after_results_simp; rfl
theorem V5 : V m c main_v5 = (shapeCast S1x1024 (shapeCast S1024 (aG m c) shapeCasts_S1x1024_S1024) shapeCasts_S1024_S1x1024 : FVec Ideal S1x1024 .f32) := by
  dsimp only [V, hostOps0]; after_results_simp; rfl
theorem V9 : V m c main_v9 = (truncf .bf16 (extractStridedSlice S1024x2816 ![0, 0] (shapeCast S1024x5632 (aUp m c) shapeCasts_S1x1024x5632_S1024x5632) slices_S1024x5632_S1024x2816_0_0) bitsLt_bf16_f32 : FVec Ideal S1024x2816 .bf16) := by
  dsimp only [V, hostOps0]; after_results_simp; rfl
theorem V11 : V m c main_v11 = (truncf .bf16 (extractStridedSlice S1024x2816 ![0, 2816] (shapeCast S1024x5632 (aUp m c) shapeCasts_S1x1024x5632_S1024x5632) slices_S1024x5632_S1024x2816_0_2816) bitsLt_bf16_f32 : FVec Ideal S1024x2816 .bf16) := by
  dsimp only [V, hostOps0]; after_results_simp; rfl
theorem V2 : V m c main_v2 = (shapeCast S3x2816 (aCw m c) shapeCasts_S1x3x2816_S3x2816 : FVec Ideal S3x2816 .f32) := by
  dsimp only [V, hostOps0]; after_results_simp; rfl
theorem V6 : V m c main_v6 = (shapeCast S1x2816 (shapeCast S2816 (aCb m c) shapeCasts_S1x2816_S2816) shapeCasts_S2816_S1x2816 : FVec Ideal S1x2816 .f32) := by
  dsimp only [V, hostOps0]; after_results_simp; rfl
theorem V7 : V m c main_v7 = (truncf .bf16 (shapeCast S2816x1024 (aDn m c) shapeCasts_S1x2816x1024_S2816x1024) bitsLt_bf16_f32 : FVec Ideal S2816x1024 .bf16) := by
  dsimp only [V, hostOps0]; after_results_simp; rfl

/-! ## Each window's block -/

/-- The block index of every window whose block moves, at every point. -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 64 * t.val - 1 ∧ win0_1.index t 1 = 0 :=
  (by decide +kernel : ∀ t : Fin grid0.N, win0_1.index t 0 = 64 * t.val - 1 ∧ win0_1.index t 1 = 0)
theorem idx2 : ∀ t : Fin cfg0.N, win0_2.index t 0 = min (64 * t.val + 64) 8191 ∧ win0_2.index t 1 = 0 :=
  (by decide +kernel : ∀ t : Fin grid0.N, win0_2.index t 0 = min (64 * t.val + 64) 8191 ∧ win0_2.index t 1 = 0)
theorem idx9 : ∀ t : Fin cfg0.N, win0_9.index t 0 = t.val ∧ win0_9.index t 1 = 0 :=
  (by decide +kernel : ∀ t : Fin grid0.N, win0_9.index t 0 = t.val ∧ win0_9.index t 1 = 0)
theorem coord0 : ∀ t : Fin cfg0.N, (grid0.coords t 0).val = t.val :=
  (by decide +kernel : ∀ t : Fin grid0.N, (grid0.coords t 0).val = t.val)

/-- A row of the input, as an index of the reshaped array. -/
theorem rows_at (R : Fin 65536) (k : Fin 1024) (i : S65536x1024.Idx) (h0 : (i 0).val = R.val) (h1 : (i 1).val = k.val) :
    (shapeCast S65536x1024 (aX m c) shapeCasts_S32x2048x1024_S65536x1024 : FVec Ideal S65536x1024 .f32) i = FfnRef.rowsOf (aX m c) R k := by
  obtain rfl : i = ix2 R k := by
    funext a; apply Fin.ext
    match a with
    | ⟨0, _⟩ => exact h0
    | ⟨1, _⟩ => exact h1
  pointwise []
  rfl

theorem blk0 (t : Fin cfg0.N) (ht : t.val < 128) (r : Fin 512) (k : Fin 1024) :
    (iblk m c 0 t : FVec Ideal S512x1024 .f32) (ix2 r k) = FfnRef.rowsOf (aX m c) ⟨512 * t.val + r.val, by omega⟩ k := by
  unfold iblk; rw [View.read_apply]
  show V m c main_v12 _ = _
  rw [V12]
  refine rows_at m c _ _ _ ?_ ?_
  · show win0_0.index t 0 * 512 + 1 * r.val = 512 * t.val + r.val
    rw [(idx0 t).1]; omega
  · show win0_0.index t 1 * 1024 + 1 * k.val = k.val
    rw [(idx0 t).2]; omega

theorem blk1 (t : Fin cfg0.N) (ht : t.val < 128) (hf : t.val % 4 ≠ 0) (q : Fin 8) (hq : q.val = 7) (k : Fin 1024) :
    (iblk m c 1 t : FVec Ideal S8x1024 .f32) (ix2 q k) = FfnRef.rowsOf (aX m c) ⟨512 * t.val - 1, by omega⟩ k := by
  unfold iblk; rw [View.read_apply]
  show V m c main_v12 _ = _
  rw [V12]
  refine rows_at m c _ _ _ ?_ ?_
  · show win0_1.index t 0 * 8 + 1 * q.val = 512 * t.val - 1
    rw [(idx1 t).1]; omega
  · show win0_1.index t 1 * 1024 + 1 * k.val = k.val
    rw [(idx1 t).2]; omega

theorem blk2 (t : Fin cfg0.N) (ht : t.val < 128) (hf : t.val % 4 ≠ 3) (q : Fin 8) (hq : q.val = 0) (k : Fin 1024) :
    (iblk m c 2 t : FVec Ideal S8x1024 .f32) (ix2 q k) = FfnRef.rowsOf (aX m c) ⟨min (512 * t.val + 512) 65535, by omega⟩ k := by
  unfold iblk; rw [View.read_apply]
  show V m c main_v12 _ = _
  rw [V12]
  refine rows_at m c _ _ _ ?_ ?_
  · show win0_2.index t 0 * 8 + 1 * q.val = min (512 * t.val + 512) 65535
    rw [(idx2 t).1]; omega
  · show win0_2.index t 1 * 1024 + 1 * k.val = k.val
    rw [(idx2 t).2]; omega

/-! The other windows stage whole arrays. -/

theorem whole3 (t : Fin cfg0.N) : (iblk m c 3 t : FVec Ideal S1x1024 .f32) = V m c main_v5 :=
  WholeReads.read_self (φ := .f32) (V m c main_v5) _ (fun _ => rfl) (fun _ => rfl)
theorem whole4 (t : Fin cfg0.N) : (iblk m c 4 t : FVec Ideal S1024x2816 .bf16) = V m c main_v9 :=
  WholeReads.read_self (φ := .bf16) (V m c main_v9) _ (fun _ => rfl) (fun _ => rfl)
theorem whole5 (t : Fin cfg0.N) : (iblk m c 5 t : FVec Ideal S1024x2816 .bf16) = V m c main_v11 :=
  WholeReads.read_self (φ := .bf16) (V m c main_v11) _ (fun _ => rfl) (fun _ => rfl)
theorem whole6 (t : Fin cfg0.N) : (iblk m c 6 t : FVec Ideal S3x2816 .f32) = V m c main_v2 :=
  WholeReads.read_self (φ := .f32) (V m c main_v2) _ (fun _ => rfl) (fun _ => rfl)
theorem whole7 (t : Fin cfg0.N) : (iblk m c 7 t : FVec Ideal S1x2816 .f32) = V m c main_v6 :=
  WholeReads.read_self (φ := .f32) (V m c main_v6) _ (fun _ => rfl) (fun _ => rfl)
theorem whole8 (t : Fin cfg0.N) : (iblk m c 8 t : FVec Ideal S2816x1024 .bf16) = V m c main_v7 :=
  WholeReads.read_self (φ := .bf16) (V m c main_v7) _ (fun _ => rfl) (fun _ => rfl)

/-! The prepared weights, of the arguments they are made from. -/

def prepGain (g : FVec Ideal S1x1024 .f32) : FVec Ideal S1x1024 .f32 :=
  shapeCast S1x1024 (shapeCast S1024 g shapeCasts_S1x1024_S1024) shapeCasts_S1024_S1x1024
def prepGate (u : FVec Ideal S1x1024x5632 .f32) : FVec Ideal S1024x2816 .bf16 :=
  truncf .bf16 (extractStridedSlice S1024x2816 ![0, 0] (shapeCast S1024x5632 u shapeCasts_S1x1024x5632_S1024x5632) slices_S1024x5632_S1024x2816_0_0) bitsLt_bf16_f32
def prepVal (u : FVec Ideal S1x1024x5632 .f32) : FVec Ideal S1024x2816 .bf16 :=
  truncf .bf16 (extractStridedSlice S1024x2816 ![0, 2816] (shapeCast S1024x5632 u shapeCasts_S1x1024x5632_S1024x5632) slices_S1024x5632_S1024x2816_0_2816) bitsLt_bf16_f32
def prepTaps (w : FVec Ideal S1x3x2816 .f32) : FVec Ideal S3x2816 .f32 := shapeCast S3x2816 w shapeCasts_S1x3x2816_S3x2816
def prepBias (b : FVec Ideal S1x2816 .f32) : FVec Ideal S1x2816 .f32 :=
  shapeCast S1x2816 (shapeCast S2816 b shapeCasts_S1x2816_S2816) shapeCasts_S2816_S1x2816
def prepDown (w : FVec Ideal S1x2816x1024 .f32) : FVec Ideal S2816x1024 .bf16 :=
  truncf .bf16 (shapeCast S2816x1024 w shapeCasts_S1x2816x1024_S2816x1024) bitsLt_bf16_f32

theorem prepGain_at (a : FVec Ideal S1x1024 .f32) : gAt (prepGain a) = FfnRef.gain a := by
  funext k
  pointwise [gAt, prepGain]
  rfl
theorem prepGate_at (a : FVec Ideal S1x1024x5632 .f32) : wAt (prepGate a) = FfnRef.upGate a := by
  funext k n
  pointwise [wAt, prepGate]
  rfl
theorem prepVal_at (a : FVec Ideal S1x1024x5632 .f32) : wAt (prepVal a) = FfnRef.upVal a := by
  funext k n
  pointwise [wAt, prepVal]
  rfl
theorem prepTaps_at (a : FVec Ideal S1x3x2816 .f32) : cwAt (prepTaps a) = FfnRef.taps a := by
  funext a n
  pointwise [cwAt, prepTaps]
  rfl
theorem prepBias_at (a : FVec Ideal S1x2816 .f32) : cbAt (prepBias a) = FfnRef.bias a := by
  funext n
  pointwise [cbAt, prepBias]
  rfl
theorem prepDown_at (a : FVec Ideal S1x2816x1024 .f32) : wdAt (prepDown a) = FfnRef.down a := by
  funext n l
  pointwise [wdAt, prepDown]
  rfl

theorem blk3 (t : Fin cfg0.N) : gAt (iblk m c 3 t : FVec Ideal S1x1024 .f32) = FfnRef.gain (aG m c) := by
  rw [whole3, V5]; exact prepGain_at _
theorem blk4 (t : Fin cfg0.N) : wAt (iblk m c 4 t : FVec Ideal S1024x2816 .bf16) = FfnRef.upGate (aUp m c) := by
  rw [whole4, V9]; exact prepGate_at _
theorem blk5 (t : Fin cfg0.N) : wAt (iblk m c 5 t : FVec Ideal S1024x2816 .bf16) = FfnRef.upVal (aUp m c) := by
  rw [whole5, V11]; exact prepVal_at _
theorem blk6 (t : Fin cfg0.N) : cwAt (iblk m c 6 t : FVec Ideal S3x2816 .f32) = FfnRef.taps (aCw m c) := by
  rw [whole6, V2]; exact prepTaps_at _
theorem blk7 (t : Fin cfg0.N) : cbAt (iblk m c 7 t : FVec Ideal S1x2816 .f32) = FfnRef.bias (aCb m c) := by
  rw [whole7, V6]; exact prepBias_at _
theorem blk8 (t : Fin cfg0.N) : wdAt (iblk m c 8 t : FVec Ideal S2816x1024 .bf16) = FfnRef.down (aDn m c) := by
  rw [whole8, V7]; exact prepDown_at _

end Cert.FfnIdeal.Out

end
-- ==== Proof.FfnValue.lean ====
/-
  The channel mixer: the kernel's result array is the reference's, and the claims about the two programs.
-/
module

public import proofs.«01_k».proof.Proof.FfnHost
public import proofs.«01_k».proof.Proof.Gen.ConvFfnIdeal.Run
public import proofs.«01_k».proof.Proof.Gen.Ffn.Frame
public import proofs.«01_k».proof.Proof.Gen.ConvFfnIdeal
public import proofs.«01_k».proof.Defs
public import Idealize.ShloMosaic.Lib.Quiescent

@[expose] public section

set_option maxRecDepth 16384

noncomputable section

namespace Cert.FfnIdeal.Out

open Cert.FfnIdeal Cert.FfnIdeal.Gen Idealize.ShloMosaic Idealize.ShloMosaic.TcCoe Idealize.SL.Sem Idealize.ShloMosaic.Pointwise
open Idealize.ShloMosaic.Pipeline (Dat)

variable (m : (ℓ : Loc nD τ sig) → Buf (Elt Ideal) ℓ) (c : Dev nD)

/-- The reference's result on the kernel's arguments. -/
def result : FVec Ideal S65536x1024 .f32 :=
  ConvFfnIdeal.Read.val_main_v55 (F := Ideal) (aX m c) (aG m c) (aUp m c) (aCw m c) (aCb m c) (aDn m c)

theorem flushed_eq (t : Fin cfg0.N) (hf : (cfg0.win 9).flush t = true) :
    (dats m 0 c).flushed 9 t = ((cfg0.win 9).blk t).view.read (Elt Ideal) (result m c) := by
  have ht : t.val < 128 := lt_of_lt_of_eq t.isLt Gen.N_0
  rw [Value.flushed9_A, out_eq]
  funext j
  obtain ⟨r, l, rfl⟩ : ∃ (r : Fin 512) (l : Fin 1024), j = ix2 r l := ⟨j 0, j 1, by
    funext a
    match a with
    | ⟨0, _⟩ => rfl
    | ⟨1, _⟩ => rfl⟩
  rw [View.read_apply]
  show acc2 (F := Ideal) _ _ _ _ _ _ _ (ix2 r l) = result m c _
  rw [block_at _ _ _ _ _ _ _ _ _ 4 (by omega) _ _ (FfnRef.rowsOf (aX m c)) t.val (by omega)
    (by rw [flagPrev, coord0 t]) (by rw [flagNext, coord0 t]) (fun r k => blk0 m c t ht r k)
    (fun h k => blk1 m c t ht h _ rfl k) (fun h k => blk2 m c t ht h _ rfl k), blk3, blk4, blk5, blk6, blk7, blk8]
  refine (FfnRef.ref_at _ _ _ _ _ _ _ _).symm.trans (congrArg (result m c) ?_)
  funext a; apply Fin.ext
  match a with
  | ⟨0, _⟩ => show 512 * t.val + r.val = win0_9.index t 0 * 512 + 1 * r.val; rw [(idx9 t).1]; omega
  | ⟨1, _⟩ => show l.val = win0_9.index t 1 * 1024 + 1 * l.val; rw [(idx9 t).2]; omega

/-- The 128 blocks tile the result. -/
theorem final : (dats m 0 c).arrAt 9 cfg0.N = result m c :=
  (dats m 0 c).arrAt_eq_of_cover 9 (result m c) (flushed_eq m c) fun i => by
    have h0 : (i 0 : Nat) < 65536 := (i 0).isLt
    have h1 : (i 1 : Nat) < 1024 := (i 1).isLt
    refine ⟨⟨(i 0 : Nat) / 512, by show _ < grid0.N; rw [Gen.N_0]; omega⟩, flush0_9 _, ?_⟩
    generalize ht : (⟨(i 0 : Nat) / 512, _⟩ : Fin cfg0.N) = t
    have hv : t.val = (i 0 : Nat) / 512 := by rw [← ht]
    show i ∈ ((View.whole main_v13).slice (win0_9.rect t)).set
    rw [View.set_slice_whole, Rect.mem_set_unit]
    intro a
    match a with
    | ⟨0, _⟩ => show win0_9.index t 0 * 512 ≤ (i 0 : Nat) ∧ (i 0 : Nat) < win0_9.index t 0 * 512 + 512
                rw [(idx9 t).1]; omega
    | ⟨1, _⟩ => show win0_9.index t 1 * 1024 ≤ (i 1 : Nat) ∧ (i 1 : Nat) < win0_9.index t 1 * 1024 + 1024
                rw [(idx9 t).2]; omega

end Cert.FfnIdeal.Out

namespace Cert.FfnClaims

open Idealize.ShloMosaic Idealize.ShloMosaic.TcCoe Idealize.SL.Sem

attribute [local instance] Cert.Ffn.Gen.facts Cert.FfnIdeal.Gen.facts Cert.ConvFfnIdeal.Gen.facts

theorem frameKernel : Cert.quiescent_Ffn := fun m ρ _ => Cert.Ffn.Gen.frame m ρ
theorem frameIdeal : Cert.quiescent_FfnIdeal := fun m ρ _ => Cert.FfnIdeal.Gen.frame m ρ
theorem frameRef : Cert.quiescent_ConvFfnIdeal := fun m ρ _ =>
  (θ_run _ _ _).mono (fun r h => ⟨fun c => (h c).2, sem_eq_zero_of_no_sems rfl r.2⟩) (Cert.ConvFfnIdeal.Value.run m ρ)

theorem equal : Cert.algebraic_FfnIdeal_ConvFfnIdeal := fun m ρ m' ρ' _ hag =>
  ⟨fun c => Cert.FfnIdeal.Out.result m c,
    (θ_run _ _ _).mono (fun r h c => ⟨(h c).1.trans (Cert.FfnIdeal.Out.final m c), (h c).2⟩) (Cert.FfnIdeal.Value.run_blocks m ρ),
    (θ_run _ _ _).mono (fun r h c => ⟨(h c).1.trans (by
      obtain ⟨h0, h1, h2, h3, h4, h5⟩ := hag c
      rw [Cert.ConvFfnIdeal.Read.val_main_v55_eq, h0, h1, h2, h3, h4, h5]
      rfl), (h c).2⟩) (Cert.ConvFfnIdeal.Value.run m' ρ')⟩

end Cert.FfnClaims

end
-- ==== Proof.FfnSampleOut.lean ====
/-
  What one grid point of the channel mixer's kernel at the sample's shapes leaves in its output block: the function of the
  loaded blocks it computes at the batch's, with its own marks for a sequence's ends.
-/
module

public import proofs.«01_k».proof.Proof.Gen.FfnSampleIdeal.Value
public import proofs.«01_k».proof.Proof.FfnOut
public import Idealize.ShloMosaic.Lib.Tactic

@[expose] public section

set_option maxRecDepth 16384

noncomputable section

namespace Cert.FfnSampleIdeal.Out

open Cert.FfnSampleIdeal Cert.FfnSampleIdeal.Gen Idealize.ShloMosaic Idealize.ShloMosaic.TcCoe Idealize.SL.Sem
open Idealize.ShloMosaic.Pipeline (Dat)

variable {F : FTy → Type} [FloatOps F]

theorem out_eq (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1024x2816 .bf16) (harg5 : arg5.IsWhole) (arg6 : Memref sig .tc .vmem S1024x2816 .bf16) (harg6 : arg6.IsWhole) (arg7 : Memref sig .tc .vmem S3x2816 .f32) (harg7 : arg7.IsWhole) (arg8 : Memref sig .tc .vmem S1x2816 .f32) (harg8 : arg8.IsWhole) (arg9 : Memref sig .tc .vmem S2816x1024 .bf16) (harg9 : arg9.IsWhole) (arg10 : Memref sig .tc .vmem S512x1024 .f32) (harg10 : arg10.IsWhole) (arg11 : Memref sig .tc .vmem S528x1024 .bf16) (harg11 : arg11.IsWhole) (arg12 : Memref sig .tc .vmem S528x1536 .f32) (harg12 : arg12.IsWhole)
    (x0 : Vec F S512x1024 .f32) (x1 : Vec F S8x1024 .f32) (x2 : Vec F S8x1024 .f32) (x3 : Vec F S1x1024 .f32) (x4 : Vec F S1024x2816 .bf16) (x5 : Vec F S1024x2816 .bf16) (x6 : Vec F S3x2816 .f32) (x7 : Vec F S1x2816 .f32) (x8 : Vec F S2816x1024 .bf16) :
    out0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 = FfnIdeal.Out.acc2 (FfnIdeal.Out.slab (k0_pay2 i) (k0_pay3 i) x0 x1 x2 x3) x0 x4 x5 x6 x7 x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8)]
  unfold kernelRun0_A
  dsimp only
  rw [View.canon_unit_zero FfnIdeal.Out.hz]
  sl_unfold_words
  simp only [View.readAt_eq_ld, harg1.read_unread, harg2.read_unread, harg3.read_unread, harg4.read_unread, harg5.read_unread, harg6.read_unread, harg7.read_unread, harg8.read_unread, harg9.read_unread]
  simp only [View.readCov_eq_canon']
  have e0 : View.ld x0 (Rect.unit ![0, 0] ![512, 1024] inb_S512x1024_S512x1024_0_0) = x0 := View.ld_unit_zero (S := S512x1024) FfnIdeal.Out.hz _ _
  have e1 : View.ld x1 (Rect.unit ![0, 0] ![8, 1024] inb_S8x1024_S8x1024_0_0) = x1 := View.ld_unit_zero (S := S8x1024) FfnIdeal.Out.hz _ _
  have e2 : View.ld x2 (Rect.unit ![0, 0] ![8, 1024] inb_S8x1024_S8x1024_0_0) = x2 := View.ld_unit_zero (S := S8x1024) FfnIdeal.Out.hz _ _
  have e3 : View.ld x3 (Rect.unit ![0, 0] ![1, 1024] inb_S1x1024_S1x1024_0_0) = x3 := View.ld_unit_zero (S := S1x1024) FfnIdeal.Out.hz _ _
  have eh (h : Vec F S528x1024 .bf16) : (fun j => h ((Rect.unit ![0, 0] ![528, 1024] inb_S528x1024_S528x1024_0_0).idx j)) = h := View.ld_unit_zero (S := S528x1024) FfnIdeal.Out.hz _ _
  have eg (w : Vec F S528x1536 .f32) (L : List (View.Piece (Elt F) S528x1536 .f32)) :
      View.canon ((⟨Rect.unit ![0, 0] ![528, 1536] inb_S528x1536_S528x1536_0_0, w⟩ : View.Piece (Elt F) S528x1536 .f32) :: L) = w :=
    View.canon_cons_unit_zero (S := S528x1536) FfnIdeal.Out.hz _ w L
  simp only [e0, e1, e2, e3, eh, eg]
  rfl

end Cert.FfnSampleIdeal.Out

end
-- ==== Proof.FfnSampleRef.lean ====
/-
  The reference's result at the sample's shapes, row by row: `FfnMath.out` of the reference's arguments.
-/
module

public import proofs.«01_k».proof.Proof.Gen.ConvFfnSampleIdeal.Read
public import Idealize.ShloMosaic.Lib.Pointwise
public import proofs.«01_k».proof.Proof.FfnRef

@[expose] public section

set_option maxRecDepth 16384

noncomputable section

namespace Cert.FfnSampleRef

open Cert.ConvFfnSampleIdeal Cert.ConvFfnSampleIdeal.Read Idealize.ShloMosaic Idealize.ShloMosaic.Pointwise Cert.FfnMath
open Cert.FfnRef (gain upGate upVal taps bias down sitofp_zero)

variable (x0 : FVec Ideal S4x8192x1024 .f32) (x1 : FVec Ideal S1x1024 .f32) (x2 : FVec Ideal S1x1024x5632 .f32)
  (x3 : FVec Ideal S1x3x2816 .f32) (x4 : FVec Ideal S1x2816 .f32) (x5 : FVec Ideal S1x2816x1024 .f32)

/-- Row `R` of the sample's sequences laid end to end. -/
def rowsOf (R : Fin 32768) (k : Fin 1024) : EReal :=
  x0 (ix3 ⟨R.val / 8192, by have := R.isLt; omega⟩ ⟨R.val % 8192, by omega⟩ k)
/-- The normalised rows. -/
theorem v13_at (R : Fin 32768) (b : Fin 4) (t : Fin 8192) (hb : b.val = R.val / 8192) (ht : t.val = R.val % 8192) (k : Fin 1024) :
    val_main_v13 (F := Ideal) x0 x1 (ix3 b t k) = nrm (rowsOf x0 R) (gain x1) k := by
  have e : ∀ k, x0 (ix3 b t k) = rowsOf x0 R k := fun k => by
    unfold rowsOf; exact congrArg₂ (fun b t => x0 (ix3 b t k)) (Fin.ext hb) (Fin.ext ht)
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  simp only [e]
  rfl

/-- The gate before the convolution. -/
theorem v16_at (R : Fin 32768) (b : Fin 4) (t : Fin 8192) (hb : b.val = R.val / 8192) (ht : t.val = R.val % 8192) (n : Fin 2816) :
    val_main_v16 (F := Ideal) x0 x1 x2 (ix3 b t n) = ∑ k, nrm (rowsOf x0 R) (gain x1) k * upGate x2 k n := by
  pointwise [val_main_v16, val_main_v15, val_main_v14]
  exact Finset.sum_congr rfl fun k _ => by rw [v13_at x0 x1 R b t hb ht]; rfl

/-- The value. -/
theorem v17_at (R : Fin 32768) (b : Fin 4) (t : Fin 8192) (hb : b.val = R.val / 8192) (ht : t.val = R.val % 8192) (n : Fin 2816) :
    val_main_v17 (F := Ideal) x0 x1 x2 (ix3 b t n) = ∑ k, nrm (rowsOf x0 R) (gain x1) k * upVal x2 k n := by
  pointwise [val_main_v17, val_main_v15, val_main_v14]
  exact Finset.sum_congr rfl fun k _ => by rw [v13_at x0 x1 R b t hb ht]; rfl

/-- The gate shifted one row down. -/
theorem v22_at (R : Fin 32768) (b : Fin 4) (t : Fin 8192) (hb : b.val = R.val / 8192) (ht : t.val = R.val % 8192) (n : Fin 2816) :
    val_main_v22 (F := Ideal) x0 x1 x2 (ix3 b t n) = ∑ k, prev 8192 (rowsOf x0) (gain x1) R k * upGate x2 k n := by
  pointwise [val_main_v22, val_main_v21, val_main_call0_v0]
  unfold prev
  have hR := R.isLt
  rw [sum_ite_mul]
  by_cases h0 : R.val % 8192 = 0
  · rw [if_pos h0, dif_neg (by omega)]
    simp only [val_main_c]
    exact sitofp_zero
  · rw [if_neg h0, dif_pos (by omega)]
    exact v16_at x0 x1 x2 ⟨R.val - 1, by omega⟩ b _ (by show b.val = (R.val - 1) / 8192; omega) (by show t.val - 1 = (R.val - 1) % 8192; omega) n

/-- The gate shifted one row up. -/
theorem v35_at (R : Fin 32768) (b : Fin 4) (t : Fin 8192) (hb : b.val = R.val / 8192) (ht : t.val = R.val % 8192) (n : Fin 2816) :
    val_main_v35 (F := Ideal) x0 x1 x2 (ix3 b t n) = ∑ k, next 8192 (rowsOf x0) (gain x1) R k * upGate x2 k n := by
  pointwise [val_main_v35, val_main_v34, val_main_call1_v0]
  unfold next
  have hR := R.isLt
  rw [sum_ite_mul]
  by_cases h0 : R.val % 8192 = 8192 - 1
  · rw [if_pos h0, dif_neg (by omega)]
    simp only [val_main_c_2]
    exact sitofp_zero
  · rw [if_neg h0, dif_pos (by omega)]
    exact v16_at x0 x1 x2 ⟨min (R.val + 1) 32767, by omega⟩ b _ (by show b.val = min (R.val + 1) 32767 / 8192; omega)
      (by show 1 + t.val = min (R.val + 1) 32767 % 8192; omega) n

/-- The activated gate. -/
theorem v50_at (b : Fin 4) (t : Fin 8192) (n : Fin 2816) :
    val_main_v50 (F := Ideal) x0 x1 x2 x3 x4 (ix3 b t n)
      = gelu (taps x3 0 n * val_main_v22 (F := Ideal) x0 x1 x2 (ix3 b t n) + taps x3 1 n * val_main_v16 (F := Ideal) x0 x1 x2 (ix3 b t n)
          + taps x3 2 n * val_main_v35 (F := Ideal) x0 x1 x2 (ix3 b t n) + bias x4 n) := by
  pointwise [val_main_v50, val_main_v49, val_main_v48, val_main_v47, val_main_v46, val_main_v45, val_main_v44, val_main_v43,
    val_main_v42, val_main_v41, val_main_v40, val_main_v39, val_main_v38, val_main_v37, val_main_v36, val_main_v33,
    val_main_v32, val_main_v31, val_main_v30, val_main_v29, val_main_v28, val_main_v27, val_main_v26, val_main_v25,
    val_main_v24, val_main_v23, val_main_v20, val_main_v19, val_main_v18, val_main_cst_3, val_main_cst_4]
  exact gelu_host _

/-- The reference's result at row `R`, element `l`. -/
theorem ref_at (R : Fin 32768) (l : Fin 1024) :
    val_main_v55 (F := Ideal) x0 x1 x2 x3 x4 x5 (ix2 R l)
      = out 8192 (rowsOf x0) (gain x1) (upGate x2) (upVal x2) (taps x3) (bias x4) (down x5) R l := by
  pointwise [val_main_v55, val_main_v54, val_main_v53, val_main_v52, val_main_v51]
  unfold out
  congr 1
  refine Finset.sum_congr rfl fun n _ => ?_
  rw [v50_at, v17_at x0 x1 x2 R _ _ rfl rfl, v22_at x0 x1 x2 R _ _ rfl rfl, v16_at x0 x1 x2 R _ _ rfl rfl, v35_at x0 x1 x2 R _ _ rfl rfl]
  rfl

end Cert.FfnSampleRef

end
-- ==== Proof.FfnSampleHost.lean ====
/-
  What the host code before the kernel at the sample's shapes hands it, read at an index of the arguments.
-/
module

public import Idealize.ShloMosaic.Lib.Pointwise
public import proofs.«01_k».proof.Proof.WholeReads
public import proofs.«01_k».proof.Proof.FfnHost
public import proofs.«01_k».proof.Proof.FfnSampleOut
public import proofs.«01_k».proof.Proof.FfnSampleRef

@[expose] public section

set_option maxRecDepth 16384

noncomputable section

namespace Cert.FfnSampleIdeal.Out

open Cert.FfnSampleIdeal Cert.FfnSampleIdeal.Gen Idealize.ShloMosaic Idealize.ShloMosaic.TcCoe Idealize.SL.Sem Idealize.ShloMosaic.Pointwise Idealize.ShloMosaic.StableHlo

variable (m : (ℓ : Loc nD τ sig) → Buf (Elt Ideal) ℓ) (c : Dev nD)

/-- The layer's argument arrays on one device. -/
def aX : FVec Ideal S4x8192x1024 .f32 := m ((c : Thread nD τ).loc main_arg0)
def aG : FVec Ideal S1x1024 .f32 := m ((c : Thread nD τ).loc main_arg1)
def aUp : FVec Ideal S1x1024x5632 .f32 := m ((c : Thread nD τ).loc main_arg2)
def aCw : FVec Ideal S1x3x2816 .f32 := m ((c : Thread nD τ).loc main_arg3)
def aCb : FVec Ideal S1x2816 .f32 := m ((c : Thread nD τ).loc main_arg4)
def aDn : FVec Ideal S1x2816x1024 .f32 := m ((c : Thread nD τ).loc main_arg5)

theorem V12 : V m c main_v12 = (shapeCast S32768x1024 (aX m c) shapeCasts_S4x8192x1024_S32768x1024 : FVec Ideal S32768x1024 .f32) := by
  dsimp only [V, hostOps0]; after_results_simp; rfl
theorem V5 : V m c main_v5 = (shapeCast S1x1024 (shapeCast S1024 (aG m c) shapeCasts_S1x1024_S1024) shapeCasts_S1024_S1x1024 : FVec Ideal S1x1024 .f32) := by
  dsimp only [V, hostOps0]; after_results_simp; rfl
theorem V9 : V m c main_v9 = (truncf .bf16 (extractStridedSlice S1024x2816 ![0, 0] (shapeCast S1024x5632 (aUp m c) shapeCasts_S1x1024x5632_S1024x5632) slices_S1024x5632_S1024x2816_0_0) bitsLt_bf16_f32 : FVec Ideal S1024x2816 .bf16) := by
  dsimp only [V, hostOps0]; after_results_simp; rfl
theorem V11 : V m c main_v11 = (truncf .bf16 (extractStridedSlice S1024x2816 ![0, 2816] (shapeCast S1024x5632 (aUp m c) shapeCasts_S1x1024x5632_S1024x5632) slices_S1024x5632_S1024x2816_0_2816) bitsLt_bf16_f32 : FVec Ideal S1024x2816 .bf16) := by
  dsimp only [V, hostOps0]; after_results_simp; rfl
theorem V2 : V m c main_v2 = (shapeCast S3x2816 (aCw m c) shapeCasts_S1x3x2816_S3x2816 : FVec Ideal S3x2816 .f32) := by
  dsimp only [V, hostOps0]; after_results_simp; rfl
theorem V6 : V m c main_v6 = (shapeCast S1x2816 (shapeCast S2816 (aCb m c) shapeCasts_S1x2816_S2816) shapeCasts_S2816_S1x2816 : FVec Ideal S1x2816 .f32) := by
  dsimp only [V, hostOps0]; after_results_simp; rfl
theorem V7 : V m c main_v7 = (truncf .bf16 (shapeCast S2816x1024 (aDn m c) shapeCasts_S1x2816x1024_S2816x1024) bitsLt_bf16_f32 : FVec Ideal S2816x1024 .bf16) := by
  dsimp only [V, hostOps0]; after_results_simp; rfl

/-! ## Each window's block -/

/-- The block index of every window whose block moves, at every point. -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 64 * t.val - 1 ∧ win0_1.index t 1 = 0 :=
  (by decide +kernel : ∀ t : Fin grid0.N, win0_1.index t 0 = 64 * t.val - 1 ∧ win0_1.index t 1 = 0)
theorem idx2 : ∀ t : Fin cfg0.N, win0_2.index t 0 = min (64 * t.val + 64) 4095 ∧ win0_2.index t 1 = 0 :=
  (by decide +kernel : ∀ t : Fin grid0.N, win0_2.index t 0 = min (64 * t.val + 64) 4095 ∧ win0_2.index t 1 = 0)
theorem idx9 : ∀ t : Fin cfg0.N, win0_9.index t 0 = t.val ∧ win0_9.index t 1 = 0 :=
  (by decide +kernel : ∀ t : Fin grid0.N, win0_9.index t 0 = t.val ∧ win0_9.index t 1 = 0)
theorem coord0 : ∀ t : Fin cfg0.N, (grid0.coords t 0).val = t.val :=
  (by decide +kernel : ∀ t : Fin grid0.N, (grid0.coords t 0).val = t.val)

/-- The mark of the rows before the tile: zero at the first tile of a sequence. -/
theorem flagPrev (i : grid0.Coords) : k0_pay2 (F := Ideal) i = (if (i 0).val % 16 = 0 then 0 else 1 : EReal) := by
  unfold k0_pay2
  generalize i 0 = n
  refine Eq.trans (b := (((if n.val % 16 = 0 then 0 else 1 : ℤ) : ℝ) : EReal)) (congrArg (fun z : ℤ => ((z : ℝ) : EReal)) ?_) ?_
  · revert n; decide +kernel
  · split <;> simp

/-- The mark of the rows after the tile: zero at the last tile of a sequence. -/
theorem flagNext (i : grid0.Coords) : k0_pay3 (F := Ideal) i = (if (i 0).val % 16 = 16 - 1 then 0 else 1 : EReal) := by
  unfold k0_pay3
  generalize i 0 = n
  refine Eq.trans (b := (((if n.val % 16 = 15 then 0 else 1 : ℤ) : ℝ) : EReal)) (congrArg (fun z : ℤ => ((z : ℝ) : EReal)) ?_) ?_
  · revert n; decide +kernel
  · split <;> simp

/-- A row of the input, as an index of the reshaped array. -/
theorem rows_at (R : Fin 32768) (k : Fin 1024) (i : S32768x1024.Idx) (h0 : (i 0).val = R.val) (h1 : (i 1).val = k.val) :
    (shapeCast S32768x1024 (aX m c) shapeCasts_S4x8192x1024_S32768x1024 : FVec Ideal S32768x1024 .f32) i = FfnSampleRef.rowsOf (aX m c) R k := by
  obtain rfl : i = ix2 R k := by
    funext a; apply Fin.ext
    match a with
    | ⟨0, _⟩ => exact h0
    | ⟨1, _⟩ => exact h1
  pointwise []
  rfl

theorem blk0 (t : Fin cfg0.N) (ht : t.val < 64) (r : Fin 512) (k : Fin 1024) :
    (iblk m c 0 t : FVec Ideal S512x1024 .f32) (ix2 r k) = FfnSampleRef.rowsOf (aX m c) ⟨512 * t.val + r.val, by omega⟩ k := by
  unfold iblk; rw [View.read_apply]
  show V m c main_v12 _ = _
  rw [V12]
  refine rows_at m c _ _ _ ?_ ?_
  · show win0_0.index t 0 * 512 + 1 * r.val = 512 * t.val + r.val
    rw [(idx0 t).1]; omega
  · show win0_0.index t 1 * 1024 + 1 * k.val = k.val
    rw [(idx0 t).2]; omega

theorem blk1 (t : Fin cfg0.N) (ht : t.val < 64) (hf : t.val % 16 ≠ 0) (q : Fin 8) (hq : q.val = 7) (k : Fin 1024) :
    (iblk m c 1 t : FVec Ideal S8x1024 .f32) (ix2 q k) = FfnSampleRef.rowsOf (aX m c) ⟨512 * t.val - 1, by omega⟩ k := by
  unfold iblk; rw [View.read_apply]
  show V m c main_v12 _ = _
  rw [V12]
  refine rows_at m c _ _ _ ?_ ?_
  · show win0_1.index t 0 * 8 + 1 * q.val = 512 * t.val - 1
    rw [(idx1 t).1]; omega
  · show win0_1.index t 1 * 1024 + 1 * k.val = k.val
    rw [(idx1 t).2]; omega

theorem blk2 (t : Fin cfg0.N) (ht : t.val < 64) (hf : t.val % 16 ≠ 15) (q : Fin 8) (hq : q.val = 0) (k : Fin 1024) :
    (iblk m c 2 t : FVec Ideal S8x1024 .f32) (ix2 q k) = FfnSampleRef.rowsOf (aX m c) ⟨min (512 * t.val + 512) 32767, by omega⟩ k := by
  unfold iblk; rw [View.read_apply]
  show V m c main_v12 _ = _
  rw [V12]
  refine rows_at m c _ _ _ ?_ ?_
  · show win0_2.index t 0 * 8 + 1 * q.val = min (512 * t.val + 512) 32767
    rw [(idx2 t).1]; omega
  · show win0_2.index t 1 * 1024 + 1 * k.val = k.val
    rw [(idx2 t).2]; omega

/-! The other windows stage whole arrays. -/

theorem whole3 (t : Fin cfg0.N) : (iblk m c 3 t : FVec Ideal S1x1024 .f32) = V m c main_v5 :=
  WholeReads.read_self (φ := .f32) (V m c main_v5) _ (fun _ => rfl) (fun _ => rfl)
theorem whole4 (t : Fin cfg0.N) : (iblk m c 4 t : FVec Ideal S1024x2816 .bf16) = V m c main_v9 :=
  WholeReads.read_self (φ := .bf16) (V m c main_v9) _ (fun _ => rfl) (fun _ => rfl)
theorem whole5 (t : Fin cfg0.N) : (iblk m c 5 t : FVec Ideal S1024x2816 .bf16) = V m c main_v11 :=
  WholeReads.read_self (φ := .bf16) (V m c main_v11) _ (fun _ => rfl) (fun _ => rfl)
theorem whole6 (t : Fin cfg0.N) : (iblk m c 6 t : FVec Ideal S3x2816 .f32) = V m c main_v2 :=
  WholeReads.read_self (φ := .f32) (V m c main_v2) _ (fun _ => rfl) (fun _ => rfl)
theorem whole7 (t : Fin cfg0.N) : (iblk m c 7 t : FVec Ideal S1x2816 .f32) = V m c main_v6 :=
  WholeReads.read_self (φ := .f32) (V m c main_v6) _ (fun _ => rfl) (fun _ => rfl)
theorem whole8 (t : Fin cfg0.N) : (iblk m c 8 t : FVec Ideal S2816x1024 .bf16) = V m c main_v7 :=
  WholeReads.read_self (φ := .bf16) (V m c main_v7) _ (fun _ => rfl) (fun _ => rfl)

theorem blk3 (t : Fin cfg0.N) : FfnIdeal.Out.gAt (iblk m c 3 t : FVec Ideal S1x1024 .f32) = FfnRef.gain (aG m c) := by
  rw [whole3, V5]; exact FfnIdeal.Out.prepGain_at _
theorem blk4 (t : Fin cfg0.N) : FfnIdeal.Out.wAt (iblk m c 4 t : FVec Ideal S1024x2816 .bf16) = FfnRef.upGate (aUp m c) := by
  rw [whole4, V9]; exact FfnIdeal.Out.prepGate_at _
theorem blk5 (t : Fin cfg0.N) : FfnIdeal.Out.wAt (iblk m c 5 t : FVec Ideal S1024x2816 .bf16) = FfnRef.upVal (aUp m c) := by
  rw [whole5, V11]; exact FfnIdeal.Out.prepVal_at _
theorem blk6 (t : Fin cfg0.N) : FfnIdeal.Out.cwAt (iblk m c 6 t : FVec Ideal S3x2816 .f32) = FfnRef.taps (aCw m c) := by
  rw [whole6, V2]; exact FfnIdeal.Out.prepTaps_at _
theorem blk7 (t : Fin cfg0.N) : FfnIdeal.Out.cbAt (iblk m c 7 t : FVec Ideal S1x2816 .f32) = FfnRef.bias (aCb m c) := by
  rw [whole7, V6]; exact FfnIdeal.Out.prepBias_at _
theorem blk8 (t : Fin cfg0.N) : FfnIdeal.Out.wdAt (iblk m c 8 t : FVec Ideal S2816x1024 .bf16) = FfnRef.down (aDn m c) := by
  rw [whole8, V7]; exact FfnIdeal.Out.prepDown_at _

end Cert.FfnSampleIdeal.Out

end
-- ==== Proof.FfnSampleValue.lean ====
/-
  The channel mixer at the sample's shapes: the kernel's result array is the reference's, and the claims about the two programs.
-/
module

public import proofs.«01_k».proof.Proof.FfnSampleHost
public import proofs.«01_k».proof.Proof.Gen.ConvFfnSampleIdeal.Run
public import proofs.«01_k».proof.Proof.Gen.FfnSample.Frame
public import proofs.«01_k».proof.Proof.Gen.ConvFfnSampleIdeal
public import proofs.«01_k».proof.Defs
public import Idealize.ShloMosaic.Lib.Quiescent

@[expose] public section

set_option maxRecDepth 16384

noncomputable section

namespace Cert.FfnSampleIdeal.Out

open Cert.FfnSampleIdeal Cert.FfnSampleIdeal.Gen Idealize.ShloMosaic Idealize.ShloMosaic.TcCoe Idealize.SL.Sem Idealize.ShloMosaic.Pointwise
open Idealize.ShloMosaic.Pipeline (Dat)

variable (m : (ℓ : Loc nD τ sig) → Buf (Elt Ideal) ℓ) (c : Dev nD)

/-- The reference's result on the kernel's arguments. -/
def result : FVec Ideal S32768x1024 .f32 :=
  ConvFfnSampleIdeal.Read.val_main_v55 (F := Ideal) (aX m c) (aG m c) (aUp m c) (aCw m c) (aCb m c) (aDn m c)

theorem flushed_eq (t : Fin cfg0.N) (hf : (cfg0.win 9).flush t = true) :
    (dats m 0 c).flushed 9 t = ((cfg0.win 9).blk t).view.read (Elt Ideal) (result m c) := by
  have ht : t.val < 64 := lt_of_lt_of_eq t.isLt Gen.N_0
  rw [Value.flushed9_A, out_eq]
  funext j
  obtain ⟨r, l, rfl⟩ : ∃ (r : Fin 512) (l : Fin 1024), j = ix2 r l := ⟨j 0, j 1, by
    funext a
    match a with
    | ⟨0, _⟩ => rfl
    | ⟨1, _⟩ => rfl⟩
  rw [View.read_apply]
  show FfnIdeal.Out.acc2 (F := Ideal) _ _ _ _ _ _ _ (ix2 r l) = result m c _
  rw [FfnIdeal.Out.block_at _ _ _ _ _ _ _ _ _ 16 (by omega) _ _ (FfnSampleRef.rowsOf (aX m c)) t.val (by omega)
    (by rw [flagPrev, coord0 t]) (by rw [flagNext, coord0 t]) (fun r k => blk0 m c t ht r k)
    (fun h k => blk1 m c t ht h _ rfl k) (fun h k => blk2 m c t ht h _ rfl k), blk3, blk4, blk5, blk6, blk7, blk8]
  refine (FfnSampleRef.ref_at _ _ _ _ _ _ _ _).symm.trans (congrArg (result m c) ?_)
  funext a; apply Fin.ext
  match a with
  | ⟨0, _⟩ => show 512 * t.val + r.val = win0_9.index t 0 * 512 + 1 * r.val; rw [(idx9 t).1]; omega
  | ⟨1, _⟩ => show l.val = win0_9.index t 1 * 1024 + 1 * l.val; rw [(idx9 t).2]; omega

/-- The 64 blocks tile the result. -/
theorem final : (dats m 0 c).arrAt 9 cfg0.N = result m c :=
  (dats m 0 c).arrAt_eq_of_cover 9 (result m c) (flushed_eq m c) fun i => by
    have h0 : (i 0 : Nat) < 32768 := (i 0).isLt
    have h1 : (i 1 : Nat) < 1024 := (i 1).isLt
    refine ⟨⟨(i 0 : Nat) / 512, by show _ < grid0.N; rw [Gen.N_0]; omega⟩, flush0_9 _, ?_⟩
    generalize ht : (⟨(i 0 : Nat) / 512, _⟩ : Fin cfg0.N) = t
    have hv : t.val = (i 0 : Nat) / 512 := by rw [← ht]
    show i ∈ ((View.whole main_v13).slice (win0_9.rect t)).set
    rw [View.set_slice_whole, Rect.mem_set_unit]
    intro a
    match a with
    | ⟨0, _⟩ => show win0_9.index t 0 * 512 ≤ (i 0 : Nat) ∧ (i 0 : Nat) < win0_9.index t 0 * 512 + 512
                rw [(idx9 t).1]; omega
    | ⟨1, _⟩ => show win0_9.index t 1 * 1024 ≤ (i 1 : Nat) ∧ (i 1 : Nat) < win0_9.index t 1 * 1024 + 1024
                rw [(idx9 t).2]; omega

end Cert.FfnSampleIdeal.Out

namespace Cert.FfnSampleClaims

open Idealize.ShloMosaic Idealize.ShloMosaic.TcCoe Idealize.SL.Sem

attribute [local instance] Cert.FfnSample.Gen.facts Cert.FfnSampleIdeal.Gen.facts Cert.ConvFfnSampleIdeal.Gen.facts

theorem frameKernel : Cert.quiescent_FfnSample := fun m ρ _ => Cert.FfnSample.Gen.frame m ρ
theorem frameIdeal : Cert.quiescent_FfnSampleIdeal := fun m ρ _ => Cert.FfnSampleIdeal.Gen.frame m ρ
theorem frameRef : Cert.quiescent_ConvFfnSampleIdeal := fun m ρ _ =>
  (θ_run _ _ _).mono (fun r h => ⟨fun c => (h c).2, sem_eq_zero_of_no_sems rfl r.2⟩) (Cert.ConvFfnSampleIdeal.Value.run m ρ)

theorem equal : Cert.algebraic_FfnSampleIdeal_ConvFfnSampleIdeal := fun m ρ m' ρ' _ hag =>
  ⟨fun c => Cert.FfnSampleIdeal.Out.result m c,
    (θ_run _ _ _).mono (fun r h c => ⟨(h c).1.trans (Cert.FfnSampleIdeal.Out.final m c), (h c).2⟩) (Cert.FfnSampleIdeal.Value.run_blocks m ρ),
    (θ_run _ _ _).mono (fun r h c => ⟨(h c).1.trans (by
      obtain ⟨h0, h1, h2, h3, h4, h5⟩ := hag c
      rw [Cert.ConvFfnSampleIdeal.Read.val_main_v55_eq, h0, h1, h2, h3, h4, h5]
      rfl), (h c).2⟩) (Cert.ConvFfnSampleIdeal.Value.run m' ρ')⟩

end Cert.FfnSampleClaims

end
-- ==== Proof.MergeMath.lean ====
/-
  The merge of the three branches as a function of rows: what one row of the result is, given that row of every branch.
-/
module

public import Idealize.ShloMosaic.PureOps.Ideal.Laws

@[expose] public section

noncomputable section

namespace Cert.MergeMath

open Idealize.ShloMosaic

/-- The logistic function. -/
def sigm (z : EReal) : EReal :=
  Ideal.div 1 (1 + Ideal.exp (-z))

/-- Channel `n` of a gate of a row `h`. -/
def gate (h : Fin 1024 → EReal) (w : Fin 1024 → Fin 1024 → EReal) (n : Fin 1024) : EReal := sigm (∑ k, h k * w k n)

/-- Channel `j` of head `g` among the 512. -/
def cell (g : Fin 8) (j : Fin 64) : Fin 512 := ⟨64 * g.val + j.val, by omega⟩
/-- The head a channel belongs to. -/
def head (n : Fin 512) : Fin 8 := ⟨n.val / 64, by omega⟩

theorem head_cell (g : Fin 8) (j : Fin 64) : head (cell g j) = g := Fin.ext (by show (64 * g.val + j.val) / 64 = g.val; omega)

/-- The mean over a channel's head. -/
def mean (y : Fin 512 → EReal) (n : Fin 512) : EReal :=
  Ideal.div (∑ j, y (cell (head n) j)) (Ideal.ofBits .f32 0x42800000#32)

/-- A channel less its head's mean. -/
def dev (y : Fin 512 → EReal) (n : Fin 512) : EReal := y n - mean y n

/-- A row normed within each head, scaled by `lg` and shifted by `lb`. -/
def normed (y lg lb : Fin 512 → EReal) (n : Fin 512) : EReal :=
  dev y n * Ideal.rsqrt (mean (fun k => dev y k * dev y k) n + Ideal.ofBits .f32 0x3A27C5AC#32) * lg n + lb n

/-- Element `l` of a row of the result. -/
def out (x h : Fin 1024 → EReal) (oa oc y g7 : Fin 512 → EReal) (wg0 wg1 wg2 : Fin 1024 → Fin 1024 → EReal)
    (wa wb wc : Fin 512 → Fin 1024 → EReal) (wo : Fin 1024 → Fin 1024 → EReal) (lg lb : Fin 512 → EReal) (l : Fin 1024) : EReal :=
  x l + ∑ n, (gate h wg0 n * (∑ k, oa k * wa k n) + gate h wg1 n * (∑ k, normed y lg lb k * g7 k * wb k n)
    + gate h wg2 n * (∑ k, oc k * wc k n)) * wo n l

/-- A sum over all channels, each times the mark of being in the head of `n`, is the sum over that head. -/
theorem masked_sum (y : Fin 512 → EReal) (n : Fin 512) :
    (∑ k : Fin 512, y k * (if k.val / 64 = n.val / 64 then 1 else 0)) = ∑ j, y (cell (head n) j) := by
  simp only [mul_ite, mul_one, mul_zero]
  rw [← Finset.sum_filter]
  refine Finset.sum_nbij' (fun k => (⟨k.val % 64, by omega⟩ : Fin 64)) (fun j => cell (head n) j) ?_ ?_ ?_ ?_ ?_
  · intro k _; exact Finset.mem_univ _
  · intro j _
    rw [Finset.mem_filter]
    exact ⟨Finset.mem_univ _, congrArg Fin.val (head_cell (head n) j)⟩
  · intro k hk
    have h := (Finset.mem_filter.1 hk).2
    exact Fin.ext (by show 64 * (n.val / 64) + k.val % 64 = k.val; omega)
  · intro j _
    exact Fin.ext (by show (64 * (n.val / 64) + j.val) % 64 = j.val; omega)
  · intro k hk
    have h := (Finset.mem_filter.1 hk).2
    exact congrArg y (Fin.ext (by show k.val = 64 * (n.val / 64) + k.val % 64; omega))

/-- The word of 64. -/
theorem word64 : Ideal.ofBits .f32 0x42800000#32 = ((64 : ℝ) : EReal) := by
  simp [Ideal.ofBits, Ideal.ieee]
  rw [← EReal.coe_mul]
  norm_num
/-- The word of a sixty-fourth. -/
theorem word64th : Ideal.ofBits .f32 0x3C800000#32 = ((1 / 64 : ℝ) : EReal) := by
  simp [Ideal.ofBits, Ideal.ieee]
  rw [← EReal.coe_mul]
  norm_num

/-- The kernel's mean: the masked sum times a sixty-fourth. -/
theorem masked_mean (y : Fin 512 → EReal) (s : Fin 512 → Fin 512 → EReal)
    (hs : ∀ k n, s k n = if k.val / 64 = n.val / 64 then 1 else 0) (n : Fin 512) :
    (∑ k, y k * s k n) * Ideal.ofBits .f32 0x3C800000#32 = mean y n := by
  simp only [hs]
  rw [masked_sum, mean, word64, word64th, Ideal.div_coe (by norm_num)]

end Cert.MergeMath

end
-- ==== Proof.MergeBlock.lean ====
/-
  The merge kernel's output block at an index, over the extended reals.
-/
module

public import Idealize.ShloMosaic.Lib.Pointwise
public import proofs.«01_k».proof.Proof.MergeMath
public import proofs.«01_k».proof.Proof.Gen.MergeIdeal.Value

@[expose] public section

set_option maxRecDepth 16384

noncomputable section

namespace Cert.MergeIdeal.Out

open Cert.MergeIdeal Cert.MergeIdeal.Gen Idealize.ShloMosaic Idealize.ShloMosaic.Pointwise Cert.MergeMath

variable (x0 : FVec Ideal S512x1024 .f32) (x1 : FVec Ideal S512x1024 .bf16) (x2 : FVec Ideal S512x512 .bf16)
  (x3 x4 x5 x6 : FVec Ideal S512x512 .f32) (x7 : FVec Ideal S512x512 .bf16) (x8 : FVec Ideal S1024x3072 .bf16)
  (x9 x10 x11 : FVec Ideal S512x1024 .bf16) (x12 : FVec Ideal S1024x1024 .bf16) (x13 x14 : FVec Ideal S1x512 .f32)
  (x15 : FVec Ideal S512x512 .bf16)

theorem hz : (![0, 0] : Fin 2 → Nat) = fun _ => 0 := funext fun a => by fin_cases a <;> rfl

theorem ld0 {e : EltTy} (x : Vec Ideal S512x1024 e) : View.ld (Val := Elt Ideal) x r0_0 = x := View.ld_unit_zero (S := S512x1024) hz _ _
theorem ld1 {e : EltTy} (x : Vec Ideal S512x512 e) : View.ld (Val := Elt Ideal) x r0_1 = x := View.ld_unit_zero (S := S512x512) hz _ _
theorem ld5 {e : EltTy} (x : Vec Ideal S1x512 e) : View.ld (Val := Elt Ideal) x r0_5 = x := View.ld_unit_zero (S := S1x512) hz _ _
theorem ld6 {e : EltTy} (x : Vec Ideal S1024x1024 e) : View.ld (Val := Elt Ideal) x r0_6 = x := View.ld_unit_zero (S := S1024x1024) hz _ _

/-- The three gates' weights: the three spans of 1024 columns. -/
def wg (o : Nat) (ho : o + 1024 ≤ 3072) (k n : Fin 1024) : EReal := x8 (ix2 k ⟨o + n.val, by have := n.isLt; omega⟩)

/-- A weight matrix by its two indices. -/
def mat (w : FVec Ideal S1024x1024 .bf16) (k n : Fin 1024) : EReal := w (ix2 k n)

theorem wg0_eq : mat (View.ld (Val := Elt Ideal) (e' := .bf16) x8 r0_2) = wg x8 0 (by omega) := by
  funext k n
  refine congrArg x8 (funext fun a => Fin.ext ?_)
  match a with
  | ⟨0, _⟩ => show 0 + 1 * k.val = k.val; omega
  | ⟨1, _⟩ => show 0 + 1 * n.val = 0 + n.val; omega
theorem wg1_eq : mat (View.ld (Val := Elt Ideal) (e' := .bf16) x8 r0_4) = wg x8 1024 (by omega) := by
  funext k n
  refine congrArg x8 (funext fun a => Fin.ext ?_)
  match a with
  | ⟨0, _⟩ => show 0 + 1 * k.val = k.val; omega
  | ⟨1, _⟩ => show 1024 + 1 * n.val = 1024 + n.val; omega
theorem wg2_eq : mat (View.ld (Val := Elt Ideal) (e' := .bf16) x8 r0_3) = wg x8 2048 (by omega) := by
  funext k n
  refine congrArg x8 (funext fun a => Fin.ext ?_)
  match a with
  | ⟨0, _⟩ => show 0 + 1 * k.val = k.val; omega
  | ⟨1, _⟩ => show 2048 + 1 * n.val = 2048 + n.val; omega

/-- Row `r` of the time mixing's sum. -/
def ysum (r k : Fin 512) : EReal := x3 (ix2 r k) + x4 (ix2 r k) + x5 (ix2 r k)

/-- The mask marks the pairs of channels in one head. -/
def Marks : Prop := ∀ k n : Fin 512, x15 (ix2 k n) = (if k.val / 64 = n.val / 64 then 1 else 0 : EReal)

theorem dev_at (hs : Marks x15) (r n : Fin 512) : k0_pay5 (F := Ideal) x15 x3 x4 x5 (ix2 r n) = dev (ysum x3 x4 x5 r) n := by
  pointwise [k0_pay5, k0_pay3]
  rw [dev]
  refine congrArg (ysum x3 x4 x5 r n - ·) ?_
  exact masked_mean (ysum x3 x4 x5 r) (fun k n => x15 (ix2 k n)) hs n

theorem normed_at (hs : Marks x15) (r n : Fin 512) :
    k0_pay9 (F := Ideal) (k0_pay3 x15) (k0_pay5 x15 x3 x4 x5) (k0_pay6 x15 x3 x4 x5) (constant S512x512 .f32 0x00000000#32) x13 (ix2 r n)
      + x14 (ix2 0 n) = normed (ysum x3 x4 x5 r) (fun k => x13 (ix2 0 k)) (fun k => x14 (ix2 0 k)) n := by
  pointwise [k0_pay9, k0_pay6, k0_pay3]
  simp only [dev_at x3 x4 x5 x15 hs]
  rw [normed, ← masked_mean (fun k => dev (ysum x3 x4 x5 r) k * dev (ysum x3 x4 x5 r) k) (fun k n => x15 (ix2 k n)) hs n]

/-- The first and the third branch's part of the merged row. -/
theorem outer_at (w0 w2 : FVec Ideal S1024x1024 .bf16) (r : Fin 512) (n : Fin 1024) :
    k0_pay7 (F := Ideal) (k0_pay2 x1) (k0_pay4 x1 w0 x2 x9) w2 x7 x11 (ix2 r n)
      = gate (fun k => x1 (ix2 r k)) (mat w0) n * (∑ k, x2 (ix2 r k) * x9 (ix2 k n))
        + gate (fun k => x1 (ix2 r k)) (mat w2) n * (∑ k, x7 (ix2 r k) * x11 (ix2 k n)) := by
  pointwise [k0_pay7, k0_pay4, k0_pay2]
  simp only [zero_sub]
  rfl

/-- The second branch's gate. -/
theorem inner_at (w1 : FVec Ideal S1024x1024 .bf16) (r : Fin 512) (n : Fin 1024) :
    k0_pay8 (F := Ideal) (k0_pay2 x1) w1 (ix2 r n) = gate (fun k => x1 (ix2 r k)) (mat w1) n := by
  pointwise [k0_pay8, k0_pay2]
  simp only [zero_sub]
  rfl

/-- The stored block, of the gates' three weight matrices. -/
theorem stored_at (hs : Marks x15) (w0 w1 w2 : FVec Ideal S1024x1024 .bf16) (r : Fin 512) (l : Fin 1024) :
    k0_pay1 (F := Ideal) (k0_pay7 (k0_pay2 x1) (k0_pay4 x1 w0 x2 x9) w2 x7 x11) (k0_pay8 (k0_pay2 x1) w1)
        (k0_pay9 (k0_pay3 x15) (k0_pay5 x15 x3 x4 x5) (k0_pay6 x15 x3 x4 x5) (constant S512x512 .f32 0x00000000#32) x13) x14 x6 x10 x0 x12 (ix2 r l)
      = out (fun k => x0 (ix2 r k)) (fun k => x1 (ix2 r k)) (fun k => x2 (ix2 r k)) (fun k => x7 (ix2 r k)) (ysum x3 x4 x5 r)
          (fun k => x6 (ix2 r k)) (mat w0) (mat w1) (mat w2)
          (fun k n => x9 (ix2 k n)) (fun k n => x10 (ix2 k n)) (fun k n => x11 (ix2 k n)) (fun k n => x12 (ix2 k n))
          (fun k => x13 (ix2 0 k)) (fun k => x14 (ix2 0 k)) l := by
  pointwise [k0_pay1]
  refine congrArg (x0 (ix2 r l) + ·) (Finset.sum_congr rfl fun n _ => ?_)
  refine congrArg (· * x12 (ix2 n l)) ?_
  rw [outer_at, inner_at, add_right_comm]
  refine congrArg₂ (fun y z : EReal => y + z) (congrArg₂ (fun y z : EReal => y + z) rfl ?_) rfl
  refine congrArg (gate _ _ n * ·) (Finset.sum_congr rfl fun k _ => ?_)
  rw [normed_at x3 x4 x5 x13 x14 x15 hs]

/-- The output block at `(r, l)`. -/
theorem block_at (hs : Marks x15) (r : Fin 512) (l : Fin 1024) :
    out0_16 (F := Ideal) x0 x1 x2 x3 x4 x5 x6 x7 x8 x9 x10 x11 x12 x13 x14 x15 (ix2 r l)
      = out (fun k => x0 (ix2 r k)) (fun k => x1 (ix2 r k)) (fun k => x2 (ix2 r k)) (fun k => x7 (ix2 r k)) (ysum x3 x4 x5 r)
          (fun k => x6 (ix2 r k)) (wg x8 0 (by omega)) (wg x8 1024 (by omega)) (wg x8 2048 (by omega))
          (fun k n => x9 (ix2 k n)) (fun k n => x10 (ix2 k n)) (fun k n => x11 (ix2 k n)) (fun k n => x12 (ix2 k n))
          (fun k => x13 (ix2 0 k)) (fun k => x14 (ix2 0 k)) l := by
  unfold out0_16 k0_pay10
  rw [View.canon_unit_zero hz]
  simp only [ld0, ld1, ld5, ld6]
  refine (stored_at x0 x1 x2 x3 x4 x5 x6 x7 x9 x10 x11 x12 x13 x14 x15 hs _ _ _ r l).trans ?_
  rw [wg0_eq, wg1_eq, wg2_eq]

end Cert.MergeIdeal.Out

end
-- ==== Proof.MergeRef.lean ====
/-
  The merge's reference result, row by row: `MergeMath.out` of the reference's arguments.
-/
module

public import proofs.«01_k».proof.Proof.Gen.GatedMergeIdeal.Read
public import Idealize.ShloMosaic.Lib.Pointwise
public import proofs.«01_k».proof.Proof.MergeMath

@[expose] public section

set_option maxRecDepth 16384

noncomputable section

namespace Cert.MergeRef

open Cert.GatedMergeIdeal Cert.GatedMergeIdeal.Read Idealize.ShloMosaic Idealize.ShloMosaic.Pointwise Cert.MergeMath

variable (x0 x1 : FVec Ideal S32x2048x1024 .f32) (x2 : FVec Ideal S32x2048x512 .f32) (x3 x4 x5 : FVec Ideal S32x2048x8x64 .f32)
  (x6 x7 : FVec Ideal S32x2048x512 .f32) (x8 : FVec Ideal S1x1024x6176 .f32) (x9 x10 x11 : FVec Ideal S1x512x1024 .f32)
  (x12 : FVec Ideal S1x1024x1024 .f32) (x13 x14 : FVec Ideal S1x512 .f32)

/-- Row `R` of the batch's sequences laid end to end. -/
def rows (x : FVec Ideal S32x2048x1024 .f32) (R : Fin 65536) (k : Fin 1024) : EReal :=
  x (ix3 ⟨R.val / 2048, by have := R.isLt; omega⟩ ⟨R.val % 2048, by omega⟩ k)
def rows' (x : FVec Ideal S32x2048x512 .f32) (R : Fin 65536) (k : Fin 512) : EReal :=
  x (ix3 ⟨R.val / 2048, by have := R.isLt; omega⟩ ⟨R.val % 2048, by omega⟩ k)
/-- The same of an array kept by heads. -/
def heads (x : FVec Ideal S32x2048x8x64 .f32) (R : Fin 65536) (k : Fin 512) : EReal :=
  x (ix4 ⟨R.val / 2048, by have := R.isLt; omega⟩ ⟨R.val % 2048, by omega⟩ (head k) ⟨k.val % 64, by omega⟩)
def ysum (R : Fin 65536) (k : Fin 512) : EReal := heads x3 R k + heads x4 R k + heads x5 R k
/-- The weights of the gate whose columns begin at `o` of the 3072. -/
def wg (o : Nat) (ho : o + 1024 ≤ 3072) (k n : Fin 1024) : EReal := x8 (ix3 0 k ⟨3104 + o + n.val, by have := n.isLt; omega⟩)
def proj (w : FVec Ideal S1x512x1024 .f32) (k : Fin 512) (n : Fin 1024) : EReal := w (ix3 0 k n)
def wout (k n : Fin 1024) : EReal := x12 (ix3 0 k n)
def vec (v : FVec Ideal S1x512 .f32) (k : Fin 512) : EReal := v (ix2 0 k)

/-- Gate `g`'s channel `n`. -/
theorem gates_at (R : Fin 65536) (b : Fin 32) (t : Fin 2048) (hb : b.val = R.val / 2048) (ht : t.val = R.val % 2048)
    (g : Fin 3) (n : Fin 1024) (o : Nat) (ho : o + 1024 ≤ 3072) (hg : o = g.val * 1024) :
    val_main_v9 (F := Ideal) x1 x8 (ix4 b t g n) = gate (rows x1 R) (wg x8 o ho) n := by
  pointwise [val_main_v9, val_main_v8, val_main_v7, val_main_v6, val_main_v5, val_main_v4, val_main_v3, val_main_v2, val_main_v1,
    val_main_v0, val_main_cst, val_main_cst_0]
  unfold gate sigm
  refine congrArg (fun z : EReal => Ideal.div 1 (1 + Ideal.exp (-z))) (Finset.sum_congr rfl fun k _ => ?_)
  refine congrArg₂ (fun y z : EReal => y * z) ?_ ?_
  · unfold rows; exact congrArg₂ (fun b t => x1 (ix3 b t k)) (Fin.ext hb) (Fin.ext ht)
  · unfold wg; exact congrArg (fun q => x8 (ix3 0 k q)) (Fin.ext (by show 3104 + (g.val * 1024 + n.val) = 3104 + o + n.val; omega))

/-- The time mixing's sum, kept by heads. -/
theorem y_at (R : Fin 65536) (b : Fin 32) (t : Fin 2048) (hb : b.val = R.val / 2048) (ht : t.val = R.val % 2048)
    (g : Fin 8) (j : Fin 64) :
    x3 (ix4 b t g j) + x4 (ix4 b t g j) + x5 (ix4 b t g j) = ysum x3 x4 x5 R (cell g j) := by
  have e (x : FVec Ideal S32x2048x8x64 .f32) : x (ix4 b t g j) = heads x R (cell g j) := by
    unfold heads
    rw [head_cell]
    obtain rfl : b = ⟨R.val / 2048, by clear * - R; omega⟩ := Fin.ext hb
    obtain rfl : t = ⟨R.val % 2048, by clear * - R; omega⟩ := Fin.ext ht
    exact congrArg (fun q => x (ix4 _ _ g q)) (Fin.ext (by show j.val = (64 * g.val + j.val) % 64; omega))
  exact congrArg₂ (fun y z : EReal => y + z) (congrArg₂ (fun y z : EReal => y + z) (e x3) (e x4)) (e x5)

/-- A channel less its head's mean. -/
theorem dev_at (R : Fin 65536) (b : Fin 32) (t : Fin 2048) (hb : b.val = R.val / 2048) (ht : t.val = R.val % 2048)
    (g : Fin 8) (j : Fin 64) :
    val_main_v17 (F := Ideal) x3 x4 x5 (ix4 b t g j) = dev (ysum x3 x4 x5 R) (cell g j) := by
  pointwise [val_main_v17, val_main_v16, val_main_v15, val_main_v14, val_main_v13, val_main_v12, val_main_v11, val_main_v10, val_main_cst_1, val_main_cst_2]
  simp only [y_at x3 x4 x5 R b t hb ht]
  unfold dev mean
  rw [head_cell]

/-- The normed, scaled and shifted row. -/
theorem normed_at (R : Fin 65536) (b : Fin 32) (t : Fin 2048) (hb : b.val = R.val / 2048) (ht : t.val = R.val % 2048) (k : Fin 512) :
    val_main_v38 (F := Ideal) x3 x4 x5 x13 x14 (ix3 b t k) = normed (ysum x3 x4 x5 R) (vec x13) (vec x14) k := by
  pointwise [val_main_v38, val_main_v37, val_main_v36, val_main_v35, val_main_v34, val_main_v33, val_main_v32, val_main_v31, val_main_v30,
    val_main_v29, val_main_v28, val_main_v27, val_main_v26, val_main_v25, val_main_v22, val_main_v21, val_main_v20, val_main_v19, val_main_v18,
    val_main_cst_3, val_main_cst_4, val_main_cst_5]
  have e : val_main_v24 (F := Ideal) x3 x4 x5 = val_main_v17 (F := Ideal) x3 x4 x5 := rfl
  have hk : cell (head k) ⟨k.val % 64, by omega⟩ = k := Fin.ext (by show 64 * (k.val / 64) + k.val % 64 = k.val; omega)
  rw [e]
  simp only [dev_at x3 x4 x5 R b t hb ht]
  unfold normed mean
  exact congrArg (fun q => dev (ysum x3 x4 x5 R) q * _ * _ + _) hk

/-- The reference's result at row `R`, element `l`. -/
theorem ref_at (R : Fin 65536) (l : Fin 1024) :
    val_main_v60 (F := Ideal) x0 x1 x2 x3 x4 x5 x6 x7 x8 x9 x10 x11 x12 x13 x14 (ix2 R l)
      = out (rows x0 R) (rows x1 R) (rows' x2 R) (rows' x7 R) (ysum x3 x4 x5 R) (rows' x6 R) (wg x8 0 (by omega)) (wg x8 1024 (by omega))
          (wg x8 2048 (by omega)) (proj x9) (proj x10) (proj x11) (wout x12) (vec x13) (vec x14) l := by
  pointwise [val_main_v60, val_main_v59, val_main_v58, val_main_v57, val_main_v56, val_main_v55, val_main_v54, val_main_v53, val_main_v52,
    val_main_v51, val_main_v50, val_main_v49, val_main_v48, val_main_v47, val_main_v46, val_main_v45, val_main_v44, val_main_v43, val_main_v42,
    val_main_v41, val_main_v40, val_main_v39]
  have hn := normed_at x3 x4 x5 x13 x14 R ⟨R.val / 2048, by clear * - R; omega⟩ ⟨R.val % 2048, by clear * - R; omega⟩ rfl rfl
  have hg := gates_at x1 x8 R ⟨R.val / 2048, by clear * - R; omega⟩ ⟨R.val % 2048, by clear * - R; omega⟩ rfl rfl
  simp only [hn, hg 0 _ 0 (by omega) rfl, hg 1 _ 1024 (by omega) rfl, hg 2 _ 2048 (by omega) rfl]
  rfl

end Cert.MergeRef

end
-- ==== Proof.MergeHost.lean ====
/-
  What the host code before the merge kernel hands it, read at an index of the arguments.
-/
module

public import Idealize.ShloMosaic.Lib.Pointwise
public import proofs.«01_k».proof.Proof.WholeReads
public import proofs.«01_k».proof.Proof.MergeBlock
public import proofs.«01_k».proof.Proof.MergeRef

@[expose] public section

set_option maxRecDepth 16384

noncomputable section

namespace Cert.MergeIdeal.Out

open Cert.MergeIdeal Cert.MergeIdeal.Gen Idealize.ShloMosaic Idealize.ShloMosaic.TcCoe Idealize.SL.Sem Idealize.ShloMosaic.Pointwise Idealize.ShloMosaic.StableHlo

variable (m : (ℓ : Loc nD τ sig) → Buf (Elt Ideal) ℓ) (c : Dev nD)

/-- The layer's argument arrays on one device. -/
def aX : FVec Ideal S32x2048x1024 .f32 := m ((c : Thread nD τ).loc main_arg0)
def aH : FVec Ideal S32x2048x1024 .f32 := m ((c : Thread nD τ).loc main_arg1)
def aOa : FVec Ideal S32x2048x512 .f32 := m ((c : Thread nD τ).loc main_arg2)
def aYf : FVec Ideal S32x2048x8x64 .f32 := m ((c : Thread nD τ).loc main_arg3)
def aYb : FVec Ideal S32x2048x8x64 .f32 := m ((c : Thread nD τ).loc main_arg4)
def aBo : FVec Ideal S32x2048x8x64 .f32 := m ((c : Thread nD τ).loc main_arg5)
def aG7 : FVec Ideal S32x2048x512 .f32 := m ((c : Thread nD τ).loc main_arg6)
def aOc : FVec Ideal S32x2048x512 .f32 := m ((c : Thread nD τ).loc main_arg7)
def aIn : FVec Ideal S1x1024x6176 .f32 := m ((c : Thread nD τ).loc main_arg8)
def aWa : FVec Ideal S1x512x1024 .f32 := m ((c : Thread nD τ).loc main_arg9)
def aWb : FVec Ideal S1x512x1024 .f32 := m ((c : Thread nD τ).loc main_arg10)
def aWc : FVec Ideal S1x512x1024 .f32 := m ((c : Thread nD τ).loc main_arg11)
def aWo : FVec Ideal S1x1024x1024 .f32 := m ((c : Thread nD τ).loc main_arg12)
def aLg : FVec Ideal S1x512 .f32 := m ((c : Thread nD τ).loc main_arg13)
def aLb : FVec Ideal S1x512 .f32 := m ((c : Thread nD τ).loc main_arg14)

/-- Sequences laid end to end. -/
def flat (x : FVec Ideal S32x2048x1024 .f32) : FVec Ideal S65536x1024 .f32 := shapeCast S65536x1024 x shapeCasts_S32x2048x1024_S65536x1024
def flat' (x : FVec Ideal S32x2048x512 .f32) : FVec Ideal S65536x512 .f32 := shapeCast S65536x512 x shapeCasts_S32x2048x512_S65536x512
def flatHeads (x : FVec Ideal S32x2048x8x64 .f32) : FVec Ideal S65536x512 .f32 := shapeCast S65536x512 x shapeCasts_S32x2048x8x64_S65536x512
/-- A branch's weights, and a scale, as the kernel takes them. -/
def weights (w : FVec Ideal S1x512x1024 .f32) : FVec Ideal S512x1024 .bf16 :=
  truncf .bf16 (shapeCast S512x1024 w shapeCasts_S1x512x1024_S512x1024) bitsLt_bf16_f32
def scale (v : FVec Ideal S1x512 .f32) : FVec Ideal S1x512 .f32 :=
  shapeCast S1x512 (shapeCast S512 v shapeCasts_S1x512_S512) shapeCasts_S512_S1x512
/-- The number of each channel's head. -/
def hidx : IVec S512 32 := Host.shrsi (iotaInDim S512 32 0) (broadcastInDim S512 ![] bcast_S_S512 (constantI S_ 32 6#32))
/-- The mask of the pairs of channels in one head. -/
def seg : FVec Ideal S512x512 .bf16 :=
  truncf .bf16 (uitofp .f32 (cmpi .eq
    (broadcastInDim S512x512 ![0, 1] bcast_S512x1_S512x512_0_1 (broadcastInDim S512x1 ![0] bcast_S512_S512x1_0 hidx))
    (broadcastInDim S512x512 ![0, 1] bcast_S1x512_S512x512_0_1 (broadcastInDim S1x512 ![1] bcast_S512_S1x512_1 hidx)))) bitsLt_bf16_f32

theorem V25 : V m c main_v25 = flat (aX m c) := by dsimp only [V, hostOps0]; after_results_simp; rfl
theorem V27 : V m c main_v27 = (truncf .bf16 (flat (aH m c)) bitsLt_bf16_f32 : FVec Ideal S65536x1024 .bf16) := by
  dsimp only [V, hostOps0]; after_results_simp; rfl
theorem V29 : V m c main_v29 = (truncf .bf16 (flat' (aOa m c)) bitsLt_bf16_f32 : FVec Ideal S65536x512 .bf16) := by
  dsimp only [V, hostOps0]; after_results_simp; rfl
theorem V30 : V m c main_v30 = flatHeads (aYf m c) := by dsimp only [V, hostOps0]; after_results_simp; rfl
theorem V31 : V m c main_v31 = flatHeads (aYb m c) := by dsimp only [V, hostOps0]; after_results_simp; rfl
theorem V32 : V m c main_v32 = flatHeads (aBo m c) := by dsimp only [V, hostOps0]; after_results_simp; rfl
theorem V33 : V m c main_v33 = flat' (aG7 m c) := by dsimp only [V, hostOps0]; after_results_simp; rfl
theorem V35 : V m c main_v35 = (truncf .bf16 (flat' (aOc m c)) bitsLt_bf16_f32 : FVec Ideal S65536x512 .bf16) := by
  dsimp only [V, hostOps0]; after_results_simp; rfl
theorem V8 : V m c main_v8 = (truncf .bf16 (extractStridedSlice S1024x3072 ![0, 3104] (shapeCast S1024x6176 (aIn m c) shapeCasts_S1x1024x6176_S1024x6176) slices_S1024x6176_S1024x3072_0_3104) bitsLt_bf16_f32 : FVec Ideal S1024x3072 .bf16) := by
  dsimp only [V, hostOps0]; after_results_simp; rfl
theorem V21 : V m c main_v21 = weights (aWa m c) := by dsimp only [V, hostOps0]; after_results_simp; rfl
theorem V22 : V m c main_v22 = weights (aWb m c) := by dsimp only [V, hostOps0]; after_results_simp; rfl
theorem V23 : V m c main_v23 = weights (aWc m c) := by dsimp only [V, hostOps0]; after_results_simp; rfl
theorem V24 : V m c main_v24 = (truncf .bf16 (shapeCast S1024x1024 (aWo m c) shapeCasts_S1x1024x1024_S1024x1024) bitsLt_bf16_f32 : FVec Ideal S1024x1024 .bf16) := by
  dsimp only [V, hostOps0]; after_results_simp; rfl
theorem V9 : V m c main_v9 = scale (aLg m c) := by dsimp only [V, hostOps0]; after_results_simp; rfl
theorem V10 : V m c main_v10 = scale (aLb m c) := by dsimp only [V, hostOps0]; after_results_simp; rfl
theorem V20 : V m c main_v20 = seg := by dsimp only [V, hostOps0]; after_results_simp; rfl

/-! ## The prepared arrays at an index -/

theorem flat_at (x : FVec Ideal S32x2048x1024 .f32) (R : Fin 65536) (k : Fin 1024) (i : S65536x1024.Idx) (h0 : (i 0).val = R.val) (h1 : (i 1).val = k.val) :
    flat x i = MergeRef.rows x R k := by
  obtain rfl : i = ix2 R k := by
    funext a; apply Fin.ext
    match a with
    | ⟨0, _⟩ => exact h0
    | ⟨1, _⟩ => exact h1
  pointwise [flat]
  rfl
theorem flat'_at (x : FVec Ideal S32x2048x512 .f32) (R : Fin 65536) (k : Fin 512) (i : S65536x512.Idx) (h0 : (i 0).val = R.val) (h1 : (i 1).val = k.val) :
    flat' x i = MergeRef.rows' x R k := by
  obtain rfl : i = ix2 R k := by
    funext a; apply Fin.ext
    match a with
    | ⟨0, _⟩ => exact h0
    | ⟨1, _⟩ => exact h1
  pointwise [flat']
  rfl
theorem flatHeads_at (x : FVec Ideal S32x2048x8x64 .f32) (R : Fin 65536) (k : Fin 512) (i : S65536x512.Idx) (h0 : (i 0).val = R.val) (h1 : (i 1).val = k.val) :
    flatHeads x i = MergeRef.heads x R k := by
  obtain rfl : i = ix2 R k := by
    funext a; apply Fin.ext
    match a with
    | ⟨0, _⟩ => exact h0
    | ⟨1, _⟩ => exact h1
  pointwise [flatHeads]
  rfl

theorem shift_six : ∀ k : Fin 512, IntOp.shrsi .host (BitVec.ofNat 32 k.val) 6#32 = BitVec.ofNat 32 (k.val / 64) := by decide +kernel

theorem hidx_at (k : Fin 512) : hidx (ix1 k) = BitVec.ofNat 32 (k.val / 64) := by
  pointwise [hidx]
  exact shift_six k

theorem same_head : ∀ g h : Fin 8, (IntOp.cmpi .eq (BitVec.ofNat 32 g.val) (BitVec.ofNat 32 h.val)).toNat = if g.val = h.val then 1 else 0 := by
  decide +kernel

/-- The mask marks the pairs of channels in one head. -/
theorem seg_at : Marks seg := by
  intro k n
  pointwise [seg]
  simp only [hidx_at]
  refine (congrArg (fun q : Nat => ((q : ℝ) : EReal)) (same_head (MergeMath.head k) (MergeMath.head n))).trans ?_
  show (((if k.val / 64 = n.val / 64 then 1 else 0 : Nat) : ℝ) : EReal) = _
  split <;> simp

/-! ## Each window's block -/

/-- The block index of the windows whose block moves with the grid, and of those that stage a whole array. -/
theorem idx0 : ∀ t : Fin cfg0.N, win0_0.index t 0 = t.val ∧ win0_0.index t 1 = 0 :=
  (by decide +kernel : ∀ t : Fin grid0.N, win0_0.index t 0 = t.val ∧ win0_0.index t 1 = 0)

theorem row_idx (t : Fin cfg0.N) (r : Fin 512) : win0_0.index t 0 * 512 + 1 * r.val = 512 * t.val + r.val := by
  rw [(idx0 t).1]; omega
theorem col_idx (t : Fin cfg0.N) (n k : Nat) : win0_0.index t 1 * n + 1 * k = k := by
  rw [(idx0 t).2]; omega

variable (t : Fin cfg0.N) (ht : t.val < 128) (r : Fin 512)

theorem blk0 (k : Fin 1024) : (iblk m c 0 t : FVec Ideal S512x1024 .f32) (ix2 r k) = MergeRef.rows (aX m c) ⟨512 * t.val + r.val, by omega⟩ k := by
  unfold iblk; rw [View.read_apply]
  show V m c main_v25 _ = _
  rw [V25]
  exact flat_at _ _ _ _ (row_idx t r) (col_idx t _ k.val)
theorem blk1 (k : Fin 1024) : (iblk m c 1 t : FVec Ideal S512x1024 .bf16) (ix2 r k) = MergeRef.rows (aH m c) ⟨512 * t.val + r.val, by omega⟩ k := by
  unfold iblk; rw [View.read_apply]
  show V m c main_v27 _ = _
  rw [V27]
  exact flat_at _ _ _ _ (row_idx t r) (col_idx t _ k.val)
theorem blk2 (k : Fin 512) : (iblk m c 2 t : FVec Ideal S512x512 .bf16) (ix2 r k) = MergeRef.rows' (aOa m c) ⟨512 * t.val + r.val, by omega⟩ k := by
  unfold iblk; rw [View.read_apply]
  show V m c main_v29 _ = _
  rw [V29]
  exact flat'_at _ _ _ _ (row_idx t r) (col_idx t _ k.val)
theorem blk3 (k : Fin 512) : (iblk m c 3 t : FVec Ideal S512x512 .f32) (ix2 r k) = MergeRef.heads (aYf m c) ⟨512 * t.val + r.val, by omega⟩ k := by
  unfold iblk; rw [View.read_apply]
  show V m c main_v30 _ = _
  rw [V30]
  exact flatHeads_at _ _ _ _ (row_idx t r) (col_idx t _ k.val)
theorem blk4 (k : Fin 512) : (iblk m c 4 t : FVec Ideal S512x512 .f32) (ix2 r k) = MergeRef.heads (aYb m c) ⟨512 * t.val + r.val, by omega⟩ k := by
  unfold iblk; rw [View.read_apply]
  show V m c main_v31 _ = _
  rw [V31]
  exact flatHeads_at _ _ _ _ (row_idx t r) (col_idx t _ k.val)
theorem blk5 (k : Fin 512) : (iblk m c 5 t : FVec Ideal S512x512 .f32) (ix2 r k) = MergeRef.heads (aBo m c) ⟨512 * t.val + r.val, by omega⟩ k := by
  unfold iblk; rw [View.read_apply]
  show V m c main_v32 _ = _
  rw [V32]
  exact flatHeads_at _ _ _ _ (row_idx t r) (col_idx t _ k.val)
theorem blk6 (k : Fin 512) : (iblk m c 6 t : FVec Ideal S512x512 .f32) (ix2 r k) = MergeRef.rows' (aG7 m c) ⟨512 * t.val + r.val, by omega⟩ k := by
  unfold iblk; rw [View.read_apply]
  show V m c main_v33 _ = _
  rw [V33]
  exact flat'_at _ _ _ _ (row_idx t r) (col_idx t _ k.val)
theorem blk7 (k : Fin 512) : (iblk m c 7 t : FVec Ideal S512x512 .bf16) (ix2 r k) = MergeRef.rows' (aOc m c) ⟨512 * t.val + r.val, by omega⟩ k := by
  unfold iblk; rw [View.read_apply]
  show V m c main_v35 _ = _
  rw [V35]
  exact flat'_at _ _ _ _ (row_idx t r) (col_idx t _ k.val)

/-! The other windows stage whole arrays. -/

theorem whole8 : (iblk m c 8 t : FVec Ideal S1024x3072 .bf16) = V m c main_v8 :=
  WholeReads.read_self (φ := .bf16) (V m c main_v8) _ (fun _ => rfl) (fun _ => rfl)
theorem whole9 : (iblk m c 9 t : FVec Ideal S512x1024 .bf16) = V m c main_v21 :=
  WholeReads.read_self (φ := .bf16) (V m c main_v21) _ (fun _ => rfl) (fun _ => rfl)
theorem whole10 : (iblk m c 10 t : FVec Ideal S512x1024 .bf16) = V m c main_v22 :=
  WholeReads.read_self (φ := .bf16) (V m c main_v22) _ (fun _ => rfl) (fun _ => rfl)
theorem whole11 : (iblk m c 11 t : FVec Ideal S512x1024 .bf16) = V m c main_v23 :=
  WholeReads.read_self (φ := .bf16) (V m c main_v23) _ (fun _ => rfl) (fun _ => rfl)
theorem whole12 : (iblk m c 12 t : FVec Ideal S1024x1024 .bf16) = V m c main_v24 :=
  WholeReads.read_self (φ := .bf16) (V m c main_v24) _ (fun _ => rfl) (fun _ => rfl)
theorem whole13 : (iblk m c 13 t : FVec Ideal S1x512 .f32) = V m c main_v9 :=
  WholeReads.read_self (φ := .f32) (V m c main_v9) _ (fun _ => rfl) (fun _ => rfl)
theorem whole14 : (iblk m c 14 t : FVec Ideal S1x512 .f32) = V m c main_v10 :=
  WholeReads.read_self (φ := .f32) (V m c main_v10) _ (fun _ => rfl) (fun _ => rfl)
theorem whole15 : (iblk m c 15 t : FVec Ideal S512x512 .bf16) = V m c main_v20 :=
  WholeReads.read_self (φ := .bf16) (V m c main_v20) _ (fun _ => rfl) (fun _ => rfl)

/-- The gates' weights: the last 3072 columns of the input projection. -/
theorem blk8 (o : Nat) (ho : o + 1024 ≤ 3072) : wg (iblk m c 8 t : FVec Ideal S1024x3072 .bf16) o ho = MergeRef.wg (aIn m c) o ho := by
  funext k n
  rw [whole8, V8]
  pointwise [wg]
  exact congrArg (fun q => aIn m c (ix3 0 k q)) (Fin.ext (by show 3104 + (o + n.val) = 3104 + o + n.val; omega))

theorem weights_at (w : FVec Ideal S1x512x1024 .f32) : (fun k n => weights w (ix2 k n)) = MergeRef.proj w := by
  funext k n
  pointwise [weights]
  rfl
theorem scale_at (v : FVec Ideal S1x512 .f32) : (fun k => scale v (ix2 0 k)) = MergeRef.vec v := by
  funext k
  pointwise [scale]
  rfl

theorem blk9 : (fun k n => (iblk m c 9 t : FVec Ideal S512x1024 .bf16) (ix2 k n)) = MergeRef.proj (aWa m c) := by
  rw [whole9, V21]; exact weights_at _
theorem blk10 : (fun k n => (iblk m c 10 t : FVec Ideal S512x1024 .bf16) (ix2 k n)) = MergeRef.proj (aWb m c) := by
  rw [whole10, V22]; exact weights_at _
theorem blk11 : (fun k n => (iblk m c 11 t : FVec Ideal S512x1024 .bf16) (ix2 k n)) = MergeRef.proj (aWc m c) := by
  rw [whole11, V23]; exact weights_at _
theorem blk12 : (fun k n => (iblk m c 12 t : FVec Ideal S1024x1024 .bf16) (ix2 k n)) = MergeRef.wout (aWo m c) := by
  funext k n
  rw [whole12, V24]
  pointwise []
  rfl
theorem blk13 : (fun k => (iblk m c 13 t : FVec Ideal S1x512 .f32) (ix2 0 k)) = MergeRef.vec (aLg m c) := by
  rw [whole13, V9]; exact scale_at _
theorem blk14 : (fun k => (iblk m c 14 t : FVec Ideal S1x512 .f32) (ix2 0 k)) = MergeRef.vec (aLb m c) := by
  rw [whole14, V10]; exact scale_at _
theorem blk15 : Marks (iblk m c 15 t : FVec Ideal S512x512 .bf16) := by
  rw [whole15, V20]; exact seg_at

end Cert.MergeIdeal.Out

end
-- ==== Proof.MergeValue.lean ====
/-
  The merge: the kernel's result array is the reference's, and the claims about the two programs.
-/
module

public import proofs.«01_k».proof.Proof.MergeHost
public import proofs.«01_k».proof.Proof.Gen.GatedMergeIdeal.Run
public import proofs.«01_k».proof.Proof.Gen.Merge.Frame
public import proofs.«01_k».proof.Proof.Gen.GatedMergeIdeal
public import proofs.«01_k».proof.Defs
public import Idealize.ShloMosaic.Lib.Quiescent

@[expose] public section

set_option maxRecDepth 16384

noncomputable section

namespace Cert.MergeIdeal.Out

open Cert.MergeIdeal Cert.MergeIdeal.Gen Idealize.ShloMosaic Idealize.ShloMosaic.TcCoe Idealize.SL.Sem Idealize.ShloMosaic.Pointwise
open Idealize.ShloMosaic.Pipeline (Dat)

variable (m : (ℓ : Loc nD τ sig) → Buf (Elt Ideal) ℓ) (c : Dev nD)

/-- The reference's result on the kernel's arguments. -/
def result : FVec Ideal S65536x1024 .f32 :=
  GatedMergeIdeal.Read.val_main_v60 (F := Ideal) (aX m c) (aH m c) (aOa m c) (aYf m c) (aYb m c) (aBo m c) (aG7 m c) (aOc m c)
    (aIn m c) (aWa m c) (aWb m c) (aWc m c) (aWo m c) (aLg m c) (aLb m c)

theorem idx16 (t : Fin cfg0.N) : win0_16.index t 0 = t.val ∧ win0_16.index t 1 = 0 := idx0 t

theorem flushed_eq (t : Fin cfg0.N) (hf : (cfg0.win 16).flush t = true) :
    (dats m 0 c).flushed 16 t = ((cfg0.win 16).blk t).view.read (Elt Ideal) (result m c) := by
  have ht : t.val < 128 := lt_of_lt_of_eq t.isLt Gen.N_0
  rw [Value.flushed16]
  funext j
  obtain ⟨r, l, rfl⟩ : ∃ (r : Fin 512) (l : Fin 1024), j = ix2 r l := ⟨j 0, j 1, by
    funext a
    match a with
    | ⟨0, _⟩ => rfl
    | ⟨1, _⟩ => rfl⟩
  rw [View.read_apply]
  show out0_16 (F := Ideal) _ _ _ _ _ _ _ _ _ _ _ _ _ _ _ _ (ix2 r l) = result m c _
  rw [block_at _ _ _ _ _ _ _ _ _ _ _ _ _ _ _ _ (blk15 m c t), blk8, blk8, blk8, blk9, blk10, blk11, blk12, blk13, blk14]
  have ey : ysum (iblk m c 3 t : FVec Ideal S512x512 .f32) (iblk m c 4 t : FVec Ideal S512x512 .f32) (iblk m c 5 t : FVec Ideal S512x512 .f32) r
      = MergeRef.ysum (aYf m c) (aYb m c) (aBo m c) ⟨512 * t.val + r.val, by omega⟩ := by
    funext k
    unfold ysum MergeRef.ysum
    rw [blk3 m c t ht, blk4 m c t ht, blk5 m c t ht]
  rw [ey]
  simp only [blk0 m c t ht, blk1 m c t ht, blk2 m c t ht, blk6 m c t ht, blk7 m c t ht]
  refine (MergeRef.ref_at _ _ _ _ _ _ _ _ _ _ _ _ _ _ _ _ _).symm.trans (congrArg (result m c) ?_)
  funext a; apply Fin.ext
  match a with
  | ⟨0, _⟩ => show 512 * t.val + r.val = win0_16.index t 0 * 512 + 1 * r.val; rw [(idx16 t).1]; omega
  | ⟨1, _⟩ => show l.val = win0_16.index t 1 * 1024 + 1 * l.val; rw [(idx16 t).2]; omega

/-- The 128 blocks tile the result. -/
theorem final : (dats m 0 c).arrAt 16 cfg0.N = result m c :=
  (dats m 0 c).arrAt_eq_of_cover 16 (result m c) (flushed_eq m c) fun i => by
    have h0 : (i 0 : Nat) < 65536 := (i 0).isLt
    have h1 : (i 1 : Nat) < 1024 := (i 1).isLt
    refine ⟨⟨(i 0 : Nat) / 512, by show _ < grid0.N; rw [Gen.N_0]; omega⟩, flush0_16 _, ?_⟩
    generalize ht : (⟨(i 0 : Nat) / 512, _⟩ : Fin cfg0.N) = t
    have hv : t.val = (i 0 : Nat) / 512 := by rw [← ht]
    show i ∈ ((View.whole main_v36).slice (win0_16.rect t)).set
    rw [View.set_slice_whole, Rect.mem_set_unit]
    intro a
    match a with
    | ⟨0, _⟩ => show win0_16.index t 0 * 512 ≤ (i 0 : Nat) ∧ (i 0 : Nat) < win0_16.index t 0 * 512 + 512
                rw [(idx16 t).1]; omega
    | ⟨1, _⟩ => show win0_16.index t 1 * 1024 ≤ (i 1 : Nat) ∧ (i 1 : Nat) < win0_16.index t 1 * 1024 + 1024
                rw [(idx16 t).2]; omega

end Cert.MergeIdeal.Out

namespace Cert.MergeClaims

open Idealize.ShloMosaic Idealize.ShloMosaic.TcCoe Idealize.SL.Sem

attribute [local instance] Cert.Merge.Gen.facts Cert.MergeIdeal.Gen.facts Cert.GatedMergeIdeal.Gen.facts

theorem frameKernel : Cert.quiescent_Merge := fun m ρ _ => Cert.Merge.Gen.frame m ρ
theorem frameIdeal : Cert.quiescent_MergeIdeal := fun m ρ _ => Cert.MergeIdeal.Gen.frame m ρ
theorem frameRef : Cert.quiescent_GatedMergeIdeal := fun m ρ _ =>
  (θ_run _ _ _).mono (fun r h => ⟨fun c => (h c).2, sem_eq_zero_of_no_sems rfl r.2⟩) (Cert.GatedMergeIdeal.Value.run m ρ)

theorem equal : Cert.algebraic_MergeIdeal_GatedMergeIdeal := fun m ρ m' ρ' _ hag =>
  ⟨fun c => Cert.MergeIdeal.Out.result m c,
    (θ_run _ _ _).mono (fun r h c => ⟨(h c).1.trans (Cert.MergeIdeal.Out.final m c), (h c).2⟩) (Cert.MergeIdeal.Value.run_blocks m ρ),
    (θ_run _ _ _).mono (fun r h c => ⟨(h c).1.trans (by
      obtain ⟨h0, h1, h2, h3, h4, h5, h6, h7, h8, h9, h10, h11, h12, h13, h14⟩ := hag c
      rw [Cert.GatedMergeIdeal.Read.val_main_v60_eq, h0, h1, h2, h3, h4, h5, h6, h7, h8, h9, h10, h11, h12, h13, h14]
      rfl), (h c).2⟩) (Cert.GatedMergeIdeal.Value.run m' ρ')⟩

end Cert.MergeClaims

end
-- ==== Proof.HeadPieces.lean ====
/-
  A block of four heads' columns written head by head, read at an index.
-/
module

public import Idealize.ShloMosaic.Lib.Pointwise

@[expose] public section

set_option maxRecDepth 16384

noncomputable section

namespace Cert.HeadPieces

open Idealize.ShloMosaic Idealize.ShloMosaic.Pointwise

/-- The columns of one head. -/
theorem inside {n : Nat} {e : EltTy} (o : Nat) (h : ∀ a, (![0, o] : Fin 2 → Nat) a + (![n, 128] : Fin 2 → Nat) a ≤ (⟨2, ![n, 512]⟩ : Shape).size a)
    (w : Vec Ideal ⟨2, ![n, 128]⟩ e) (L : List (View.Piece (Elt Ideal) ⟨2, ![n, 512]⟩ e)) (r : Fin n) (C : Fin 512) (j : Fin 128) (hC : C.val = o + j.val) :
    View.canon ((⟨Rect.unit (s := ⟨2, ![n, 512]⟩) ![0, o] ![n, 128] h, w⟩ : View.Piece (Elt Ideal) ⟨2, ![n, 512]⟩ e) :: L) (ix2 r C) = w (ix2 r j) := by
  have e' : (ix2 r C : (⟨2, ![n, 512]⟩ : Shape).Idx) = (Rect.unit (s := ⟨2, ![n, 512]⟩) ![0, o] ![n, 128] h).emb (ix2 r j) := by
    funext a; apply Fin.ext
    match a with
    | ⟨0, _⟩ => show r.val = 0 + 1 * r.val; omega
    | ⟨1, _⟩ => show C.val = o + 1 * j.val; omega
  rw [e', View.canon_cons_emb]

/-- The columns of the heads below. -/
theorem below {n : Nat} {e : EltTy} (o : Nat) (h : ∀ a, (![0, o] : Fin 2 → Nat) a + (![n, 128] : Fin 2 → Nat) a ≤ (⟨2, ![n, 512]⟩ : Shape).size a)
    (w : Vec Ideal ⟨2, ![n, 128]⟩ e) (L : List (View.Piece (Elt Ideal) ⟨2, ![n, 512]⟩ e)) (r : Fin n) (C : Fin 512) (hC : C.val < o) :
    View.canon ((⟨Rect.unit (s := ⟨2, ![n, 512]⟩) ![0, o] ![n, 128] h, w⟩ : View.Piece (Elt Ideal) ⟨2, ![n, 512]⟩ e) :: L) (ix2 r C) = View.canon L (ix2 r C) := by
  refine View.canon_cons_of_not_mem _ _ ?_
  rw [Rect.mem_set_unit]
  intro hc
  have h1 : o ≤ C.val := (hc 1).1
  omega

/-- All four heads: a property of each head's columns is one of the block's. -/
theorem four {n : Nat} {e : EltTy} (h0 h1 h2 h3) (w0 w1 w2 w3 : Vec Ideal ⟨2, ![n, 128]⟩ e) (P : Fin 512 → (Elt Ideal e) → Prop) (r : Fin n)
    (p0 : ∀ j : Fin 128, P ⟨0 + j.val, by omega⟩ (w0 (ix2 r j))) (p1 : ∀ j : Fin 128, P ⟨128 + j.val, by omega⟩ (w1 (ix2 r j)))
    (p2 : ∀ j : Fin 128, P ⟨256 + j.val, by omega⟩ (w2 (ix2 r j))) (p3 : ∀ j : Fin 128, P ⟨384 + j.val, by omega⟩ (w3 (ix2 r j))) (C : Fin 512) :
    P C (View.canon [(⟨Rect.unit (s := ⟨2, ![n, 512]⟩) ![0, 384] ![n, 128] h3, w3⟩ : View.Piece (Elt Ideal) ⟨2, ![n, 512]⟩ e),
      ⟨Rect.unit (s := ⟨2, ![n, 512]⟩) ![0, 256] ![n, 128] h2, w2⟩, ⟨Rect.unit (s := ⟨2, ![n, 512]⟩) ![0, 128] ![n, 128] h1, w1⟩,
      ⟨Rect.unit (s := ⟨2, ![n, 512]⟩) ![0, 0] ![n, 128] h0, w0⟩] (ix2 r C)) := by
  obtain ⟨g, j, hg, hC⟩ : ∃ (g : Nat) (j : Fin 128), g < 4 ∧ C.val = 128 * g + j.val := ⟨C.val / 128, ⟨C.val % 128, by omega⟩, by omega, by
    show C.val = 128 * (C.val / 128) + C.val % 128; omega⟩
  rcases (by omega : g = 3 ∨ g = 2 ∨ g = 1 ∨ g = 0) with rfl | rfl | rfl | rfl
  · rw [inside 384 h3 w3 _ r C j (by omega)]
    exact (Fin.ext (by show C.val = 384 + j.val; omega) : C = ⟨384 + j.val, by omega⟩) ▸ p3 j
  · rw [below 384 h3 w3 _ r C (by omega), inside 256 h2 w2 _ r C j (by omega)]
    exact (Fin.ext (by show C.val = 256 + j.val; omega) : C = ⟨256 + j.val, by omega⟩) ▸ p2 j
  · rw [below 384 h3 w3 _ r C (by omega), below 256 h2 w2 _ r C (by omega), inside 128 h1 w1 _ r C j (by omega)]
    exact (Fin.ext (by show C.val = 128 + j.val; omega) : C = ⟨128 + j.val, by omega⟩) ▸ p1 j
  · rw [below 384 h3 w3 _ r C (by omega), below 256 h2 w2 _ r C (by omega), below 128 h1 w1 _ r C (by omega), inside 0 h0 w0 _ r C j (by omega)]
    exact (Fin.ext (by show C.val = 0 + j.val; omega) : C = ⟨0 + j.val, by omega⟩) ▸ p0 j

end Cert.HeadPieces

end
-- ==== Proof.XattnMath.lean ====
/-
  The memory attention over the extended reals: a head's normed query, its scores, and the softmax they weigh the
  values with.
-/
module

public import Idealize.ShloMosaic.Lib.Pointwise
public import proofs.«01_k».proof.Proof.FlashMath

@[expose] public section

noncomputable section

namespace Cert.XattnMath

open Idealize.ShloMosaic

/-- The reciprocal root of a head's mean square. -/
def rs (x : Fin 128 → EReal) : EReal :=
  Ideal.rsqrt (Ideal.div (∑ j, x j * x j) (Ideal.ofBits .f32 0x43000000#32) + Ideal.ofBits .f32 0x358637BD#32)

/-- A head's row, normed and times the gain. -/
def normed (x g : Fin 128 → EReal) (j : Fin 128) : EReal := x j * rs x * g j

def score (x g y : Fin 128 → EReal) : EReal := ∑ j, normed x g j * y j

/-- The greatest score, from -inf up. -/
def top (s : Fin 256 → EReal) : EReal := Finset.univ.fold max ⊥ s

/-- The values weighted by the exponentials of the scores, over the sum of the exponentials. -/
def att (s v : Fin 256 → EReal) : EReal := Ideal.div (∑ k, Ideal.exp (s k - top s) * v k) (∑ k, Ideal.exp (s k - top s))

/-- The factor of the scores, as the program spells it. -/
def scale : EReal := Ideal.ofBits .f32 0x3DB504F3#32

theorem scale_real : ∃ σ : ℝ, 0 ≤ σ ∧ scale = (σ : EReal) := by
  unfold scale
  show ∃ σ : ℝ, 0 ≤ σ ∧ Ideal.ieee 8 23 (0x3DB504F3#32) = (σ : EReal)
  unfold Ideal.ieee
  dsimp only
  rw [if_neg (by decide), if_neg (by decide)]
  refine ⟨_, ?_, rfl⟩
  rw [if_neg (by decide)]
  positivity

theorem width : Ideal.ofBits .f32 0x43000000#32 = ((128 : ℝ) : EReal) := by
  simp [Ideal.ofBits, Ideal.ieee]
  rw [← EReal.coe_mul]
  norm_num

theorem eps_real : ∃ ε : ℝ, 0 < ε ∧ Ideal.ofBits .f32 0x358637BD#32 = (ε : EReal) := by
  show ∃ ε : ℝ, 0 < ε ∧ Ideal.ieee 8 23 (0x358637BD#32) = (ε : EReal)
  unfold Ideal.ieee
  dsimp only
  rw [if_neg (by decide), if_neg (by decide)]
  refine ⟨_, ?_, rfl⟩
  rw [if_neg (by decide)]
  positivity

/-- The factor on the gain is the factor on the score. -/
theorem score_scaled (x g y : Fin 128 → EReal) : score x (fun j => g j * scale) y = score x g y * scale := by
  obtain ⟨σ, h0, hσ⟩ := scale_real
  unfold score normed
  rw [hσ, mul_comm, FlashMath.mul_sum_of_nonneg _ _ σ h0]
  exact Finset.sum_congr rfl fun j _ => by dsimp only; ac_rfl

/-! ## Real numbers -/

def Real' (x : EReal) : Prop := ∃ r : ℝ, x = (r : EReal)

theorem Real'.mul {x y : EReal} (hx : Real' x) (hy : Real' y) : Real' (x * y) := by
  obtain ⟨a, rfl⟩ := hx; obtain ⟨b, rfl⟩ := hy
  exact ⟨a * b, (EReal.coe_mul a b).symm⟩

theorem Real'.sum {ι : Type*} (P : Finset ι) (f : ι → EReal) (h : ∀ i, Real' (f i)) : Real' (∑ i ∈ P, f i) := by
  choose a ha using h
  exact ⟨∑ i ∈ P, a i, by rw [FlashMath.coe_sum]; exact Finset.sum_congr rfl fun i _ => ha i⟩

theorem rs_real (x : Fin 128 → EReal) (h : ∀ j, Real' (x j)) : Real' (rs x) := by
  obtain ⟨ε, hε, e⟩ := eps_real
  choose a ha using h
  have hs : ∑ j, x j * x j = ((∑ j, a j * a j : ℝ) : EReal) := by
    rw [FlashMath.coe_sum]
    exact Finset.sum_congr rfl fun j _ => by rw [ha, EReal.coe_mul]
  have hp : 0 < (∑ j, a j * a j) * (1 / 128) + ε :=
    add_pos_of_nonneg_of_pos (mul_nonneg (Finset.sum_nonneg fun j _ => mul_self_nonneg _) (by norm_num)) hε
  unfold rs
  rw [hs, e, width, Ideal.div_coe (by norm_num), ← EReal.coe_mul, ← EReal.coe_add, Ideal.rsqrt_coe, if_neg (not_lt.2 hp.le), if_neg hp.ne']
  exact ⟨_, rfl⟩

theorem score_real (x g y : Fin 128 → EReal) (hx : ∀ j, Real' (x j)) (hg : ∀ j, Real' (g j)) (hy : ∀ j, Real' (y j)) : Real' (score x g y) :=
  Real'.sum _ _ fun j => (((hx j).mul (rs_real x hx)).mul (hg j)).mul (hy j)

/-- Where the scores are real, dividing each weight is dividing the sum. -/
theorem att_eq (s v : Fin 256 → EReal) (h : ∀ k, Real' (s k)) :
    att s v = ∑ k, v k * Ideal.div (Ideal.exp (s k - top s)) (∑ j, Ideal.exp (s j - top s)) := by
  choose a ha using h
  obtain rfl : s = fun k => (a k : EReal) := funext ha
  obtain ⟨M, hM⟩ := FlashMath.sup_coe Finset.univ ⟨0, Finset.mem_univ _⟩ a
  have ht : top (fun k => (a k : EReal)) = (M : EReal) := hM
  have pe (k : Fin 256) : Ideal.exp ((a k : EReal) - M) = ((Real.exp (a k - M) : ℝ) : EReal) := by
    rw [← EReal.coe_sub, Ideal.exp_coe]
  have hE : (∑ j, Ideal.exp ((a j : EReal) - M)) = ((∑ j, Real.exp (a j - M) : ℝ) : EReal) := by
    rw [FlashMath.coe_sum]
    exact Finset.sum_congr rfl fun k _ => pe k
  have hpos : 0 < ∑ j, Real.exp (a j - M) := Finset.sum_pos (fun k _ => Real.exp_pos _) ⟨0, Finset.mem_univ _⟩
  unfold att
  rw [ht, hE, Ideal.div_coe hpos.ne', mul_comm, FlashMath.mul_sum_of_nonneg _ _ _ (by positivity)]
  refine Finset.sum_congr rfl fun k _ => ?_
  rw [Ideal.div_coe hpos.ne']
  ac_rfl

end Cert.XattnMath

end
-- ==== Proof.XattnOut.lean ====
/-
  The memory attention's output block at an index, over the extended reals: one head's chain read once, for all
  four heads.
-/
module

public import Idealize.ShloMosaic.Lib.Pointwise
public import proofs.«01_k».proof.Proof.MaxReads
public import proofs.«01_k».proof.Proof.HeadPieces
public import proofs.«01_k».proof.Proof.XattnMath
public import proofs.«01_k».proof.Proof.Gen.XattnIdeal.Value

@[expose] public section

set_option maxRecDepth 16384

noncomputable section

namespace Cert.XattnIdeal.Out

open Cert.XattnIdeal Cert.XattnIdeal.Gen Idealize.ShloMosaic Idealize.ShloMosaic.Pointwise Cert.XattnMath

variable {F : FTy → Type} [FloatOps F]

/-- A head's scores of a block of rows. -/
def scores (x : FVec F S512x128 .f32) (g : FVec F S1x128 .f32) (k : FVec F S256x128 .bf16) : FVec F S512x256 .f32 :=
  matmul dot_S512x128_S256x128_S512x256_1_1_0_0_n_n none
    (truncf .bf16 (mulf (mulf x (broadcastTo S512x128 (rsqrt (addf (divf
      (shapeCast S512x1 (multiReduction .add [1] S512 (mulf x x) 0x00000000#32 reduces_S512x128_S512 (.inl rfl) rfl) shapeCasts_S512_S512x1)
      (broadcast S512x1 (Scalar.ofBits .f32 0x43000000#32))) (broadcast S512x1 (Scalar.ofBits .f32 0x358637BD#32)))) broadcasts_S512x1_S512x128))
      (broadcastTo S512x128 (shapeCast S1x128 g shapeCasts_S1x128_S1x128) broadcasts_S1x128_S512x128)) bitsLt_bf16_f32)
    (shapeCast S256x128 k shapeCasts_S256x128_S256x128) (constant S512x256 .f32 0x00000000#32)

/-- The exponentials of the scores over each row's greatest. -/
def exps (s : FVec F S512x256 .f32) : FVec F S512x256 .f32 :=
  exp (subf s (broadcastTo S512x256 (shapeCast S512x1 (multiReduction .maximumf [1] S512 s 0xFF800000#32 reduces_S512x256_S512 (.inl rfl) rfl) shapeCasts_S512_S512x1)
    broadcasts_S512x1_S512x256))

/-- The weighted values over the weights' sums. -/
def quots (p : FVec F S512x256 .f32) (v : FVec F S256x128 .bf16) : FVec F S512x128 .bf16 :=
  truncf .bf16 (divf
    (matmul dot_S512x256_S256x128_S512x128_1_0_0_1_n_n none (truncf .bf16 p bitsLt_bf16_f32) (shapeCast S256x128 v shapeCasts_S256x128_S256x128) (constant S512x128 .f32 0x00000000#32))
    (broadcastTo S512x128 (shapeCast S512x1 (multiReduction .add [1] S512 p 0x00000000#32 reduces_S512x256_S512 (.inl rfl) rfl) shapeCasts_S512_S512x1) broadcasts_S512x1_S512x128))
    bitsLt_bf16_f32

section
variable (x0 : FVec F S512x1024 .bf16) (x1 : FVec F S1024x512 .bf16) (q : FVec F S512x512 .f32) (g : FVec F S1x128 .f32) (k v : FVec F S256x128 .bf16)

theorem head0 : k0_pay3 x0 x1 g k v = quots (exps (scores (extractStridedSlice S512x128 ![0, 0] (k0_pay2 x0 x1) slices_S512x512_o0_0_S512x128) g k)) v := rfl

theorem head1 : k0_pay4 q g k v = quots (exps (scores (extractStridedSlice S512x128 ![0, 128] q slices_S512x512_o0_128_S512x128) g k)) v := rfl

theorem head2 : k0_pay8 (k0_pay5 q) (k0_pay6 g) (k0_pay7 q) k v
    = quots (exps (scores (extractStridedSlice S512x128 ![0, 256] q slices_S512x512_o0_256_S512x128) g k)) v := rfl

theorem head3 : k0_pay1 (k0_pay9 g) (k0_pay10 q) k v = quots (exps (scores (extractStridedSlice S512x128 ![0, 384] q slices_S512x512_o0_384_S512x128) g k)) v := rfl
end

/-! ## At an index -/

section
variable (x : FVec Ideal S512x128 .f32) (g : FVec Ideal S1x128 .f32) (k v : FVec Ideal S256x128 .bf16) (s p : FVec Ideal S512x256 .f32)

theorem scores_at (r : Fin 512) (i : Fin 256) :
    scores (F := Ideal) x g k (ix2 r i) = score (fun j => x (ix2 r j)) (fun j => g (ix2 0 j)) (fun j => k (ix2 i j)) := by
  pointwise [scores, score, normed, rs]

theorem bot32 : Ideal.ofBits FTy.f32 0xFF800000#32 = ⊥ := by simp [Ideal.ofBits, Ideal.ieee]

theorem exps_at (r : Fin 512) (i : Fin 256) : exps (F := Ideal) s (ix2 r i) = Ideal.exp (s (ix2 r i) - top fun j => s (ix2 r j)) := by
  unfold exps
  generalize hM : multiReduction (F := Ideal) .maximumf [1] S512 s 0xFF800000#32 reduces_S512x256_S512 (.inl rfl) rfl = M
  have e : M (ix1 r) = top fun j => s (ix2 r j) := by
    rw [← hM]
    refine (MaxReads.row _ _ _ _ _ r).trans ?_
    rw [bot32]; rfl
  rw [← e]
  pointwise

theorem quots_at (r : Fin 512) (l : Fin 128) : quots (F := Ideal) p v (ix2 r l) = Ideal.div (∑ i, p (ix2 r i) * v (ix2 i l)) (∑ i, p (ix2 r i)) := by
  pointwise [quots]

theorem head_at (r : Fin 512) (l : Fin 128) : quots (F := Ideal) (exps (scores x g k)) v (ix2 r l)
    = att (fun i => score (fun j => x (ix2 r j)) (fun j => g (ix2 0 j)) (fun j => k (ix2 i j))) (fun i => v (ix2 i l)) := by
  rw [quots_at]
  simp only [exps_at, scores_at]
  rfl
end

/-! ## The block -/

section
variable (x0 : FVec Ideal S512x1024 .bf16) (x1 : FVec Ideal S1024x512 .bf16) (x2 : FVec Ideal S1x128 .f32) (x3 x4 : FVec Ideal S256x512 .bf16)

/-- A head's first column. -/
def base (C : Fin 512) : Nat := 128 * (C.val / 128)

theorem base_lt (C : Fin 512) (j : Fin 128) : base C + j.val < 512 := by unfold base; omega

/-- A head's query before its norm. -/
def query (r : Fin 512) (C : Fin 512) (j : Fin 128) : EReal := ∑ n, x0 (ix2 r n) * x1 (ix2 n ⟨base C + j.val, base_lt C j⟩)

/-- What element `(r, C)` of the block should be. -/
def cell (r : Fin 512) (C : Fin 512) : EReal :=
  att (fun i => score (query x0 x1 r C) (fun j => x2 (ix2 0 j)) (fun j => x3 (ix2 i ⟨base C + j.val, base_lt C j⟩))) (fun i => x4 (ix2 i C))

theorem query_at (r : Fin 512) (C : Fin 512) : k0_pay2 (F := Ideal) x0 x1 (ix2 r C) = ∑ n, x0 (ix2 r n) * x1 (ix2 n C) := by
  pointwise [k0_pay2]

theorem emb_eq (o : Nat) (he : ∀ a, (![0, o] : Fin 2 → Nat) a + S256x128.size a ≤ S256x512.size a) (i : Fin 256) (j : Fin 128) (C : Fin 512) (hC : C.val = o + j.val) :
    (Rect.unit (s := S256x512) ![0, o] S256x128.size he).emb (ix2 i j) = ix2 i C := by
  funext a; apply Fin.ext
  match a with
  | ⟨0, _⟩ => show 0 + 1 * i.val = i.val; omega
  | ⟨1, _⟩ => show o + 1 * j.val = C.val; omega

/-- One head's columns. -/
theorem part_at (o : Nat) (ho : o % 128 = 0) (h5 : o + 128 ≤ 512) (hs) (k v : FVec Ideal S256x128 .bf16) (r : Fin 512) (l : Fin 128)
    (hk : ∀ (i : Fin 256) (j : Fin 128) (C : Fin 512), C.val = o + j.val → k (ix2 i j) = x3 (ix2 i C))
    (hv : ∀ (i : Fin 256) (j : Fin 128) (C : Fin 512), C.val = o + j.val → v (ix2 i j) = x4 (ix2 i C)) :
    quots (F := Ideal) (exps (scores (extractStridedSlice S512x128 ![0, o] (k0_pay2 x0 x1) hs) x2 k)) v (ix2 r l)
      = cell x0 x1 x2 x3 x4 r ⟨o + l.val, by omega⟩ := by
  have hb : base ⟨o + l.val, by omega⟩ = o := by unfold base; show 128 * ((o + l.val) / 128) = o; omega
  rw [head_at]
  unfold cell
  have hq (j : Fin 128) : extractStridedSlice S512x128 ![0, o] (k0_pay2 (F := Ideal) x0 x1) hs (ix2 r j) = query x0 x1 r ⟨o + l.val, by omega⟩ j := by
    unfold query
    refine Eq.trans ?_ ((query_at x0 x1 r ⟨base ⟨o + l.val, by omega⟩ + j.val, base_lt _ _⟩))
    rw [extractStridedSlice_apply ![0, o] _ hs (ix2 r j) (ix2 r ⟨base ⟨o + l.val, by omega⟩ + j.val, base_lt _ _⟩) (fun a => by
      match a with
      | ⟨0, _⟩ => show r.val = 0 + r.val; omega
      | ⟨1, _⟩ => show base ⟨o + l.val, by omega⟩ + j.val = o + j.val; rw [hb])]
  have e1 : (fun j => extractStridedSlice S512x128 ![0, o] (k0_pay2 (F := Ideal) x0 x1) hs (ix2 r j)) = query x0 x1 r ⟨o + l.val, by omega⟩ := funext hq
  rw [e1]
  refine congrArg₂ att (funext fun i => ?_) (funext fun i => hv i l _ rfl)
  exact congrArg (score _ _) (funext fun j => hk i j ⟨base ⟨o + l.val, by omega⟩ + j.val, base_lt _ _⟩ (by show _ + j.val = _; rw [hb]))

theorem hz : (![0, 0] : Fin 2 → Nat) = fun _ => 0 := funext fun a => by fin_cases a <;> rfl

theorem out_at (r : Fin 512) (C : Fin 512) : out0_5 (F := Ideal) x0 x1 x2 x3 x4 (ix2 r C) = cell x0 x1 x2 x3 x4 r C := by
  have hz0 : View.ld (Val := Elt Ideal) (e' := .bf16) x0 r0_0 = x0 := View.ld_unit_zero (S := S512x1024) hz _ _
  have hz1 : View.ld (Val := Elt Ideal) (e' := .bf16) x1 r0_1 = x1 := View.ld_unit_zero (S := S1024x512) hz _ _
  have hz2 : View.ld (Val := Elt Ideal) (e' := .f32) x2 r0_2 = x2 := View.ld_unit_zero (S := S1x128) hz _ _
  unfold out0_5 k0_pay11
  rw [hz0, hz1, hz2, head0, head1, head2, head3]
  refine HeadPieces.four (n := 512) (e := .bf16) _ _ _ _ _ _ _ _ (fun C z => z = cell x0 x1 x2 x3 x4 r C) r ?_ ?_ ?_ ?_ C <;> intro j
  · exact part_at x0 x1 x2 x3 x4 0 rfl (by omega) _ _ _ r j (fun i l C h => congrArg x3 (emb_eq 0 _ i l C h)) (fun i l C h => congrArg x4 (emb_eq 0 _ i l C h))
  · exact part_at x0 x1 x2 x3 x4 128 rfl (by omega) _ _ _ r j (fun i l C h => congrArg x3 (emb_eq 128 _ i l C h)) (fun i l C h => congrArg x4 (emb_eq 128 _ i l C h))
  · exact part_at x0 x1 x2 x3 x4 256 rfl (by omega) _ _ _ r j (fun i l C h => congrArg x3 (emb_eq 256 _ i l C h)) (fun i l C h => congrArg x4 (emb_eq 256 _ i l C h))
  · exact part_at x0 x1 x2 x3 x4 384 rfl (by omega) _ _ _ r j (fun i l C h => congrArg x3 (emb_eq 384 _ i l C h)) (fun i l C h => congrArg x4 (emb_eq 384 _ i l C h))
end

end Cert.XattnIdeal.Out

end
-- ==== Proof.XattnHost.lean ====
/-
  What the host code before the memory attention hands it, read at an index of the arguments.
-/
module

public import Idealize.ShloMosaic.Lib.Pointwise
public import proofs.«01_k».proof.Proof.WholeReads
public import proofs.«01_k».proof.Proof.XattnOut

@[expose] public section

set_option maxRecDepth 16384

noncomputable section

namespace Cert.XattnIdeal.Out

open Cert.XattnIdeal Cert.XattnIdeal.Gen Idealize.ShloMosaic Idealize.ShloMosaic.TcCoe Idealize.SL.Sem Idealize.ShloMosaic.Pointwise Idealize.ShloMosaic.StableHlo Cert.XattnMath

/-- The hidden rows. -/
def rows (x : FVec Ideal S32x2048x1024 .f32) : FVec Ideal S65536x1024 .bf16 := truncf .bf16 (shapeCast S65536x1024 x shapeCasts_S32x2048x1024_S65536x1024) bitsLt_bf16_f32

/-- The projection's 512 columns of the memory queries. -/
def cols (x : FVec Ideal S1x1024x6176 .f32) : FVec Ideal S1024x512 .bf16 :=
  truncf .bf16 (extractStridedSlice S1024x512 ![0, 2592] (shapeCast S1024x6176 x shapeCasts_S1x1024x6176_S1024x6176) slices_S1024x6176_S1024x512_0_2592) bitsLt_bf16_f32

/-- The gain times the scores' factor. -/
def gain (x : FVec Ideal S1x128 .f32) : FVec Ideal S1x128 .f32 :=
  mulf (shapeCast S1x128 (shapeCast S128 x shapeCasts_S1x128_S128) shapeCasts_S128_S1x128) (broadcastInDim S1x128 ![] bcast_S_S1x128 (constant S_ .f32 0x3DB504F3#32))

/-- The memory's keys or values, a slot's heads side by side. -/
def slots (x : FVec Ideal S32x256x4x128 .f32) : FVec Ideal S8192x512 .bf16 := truncf .bf16 (shapeCast S8192x512 x shapeCasts_S32x256x4x128_S8192x512) bitsLt_bf16_f32

theorem rows_at (x : FVec Ideal S32x2048x1024 .f32) (R : Fin 65536) (k : Fin 1024) :
    rows x (ix2 R k) = x (ix3 ⟨R.val / 2048, by omega⟩ ⟨R.val % 2048, by omega⟩ k) := by
  pointwise [rows]

theorem cols_at (x : FVec Ideal S1x1024x6176 .f32) (k : Fin 1024) (C : Fin 512) : cols x (ix2 k C) = x (ix3 0 k ⟨2592 + C.val, by omega⟩) := by
  pointwise [cols]

theorem gain_at (x : FVec Ideal S1x128 .f32) (j : Fin 128) : gain x (ix2 0 j) = x (ix2 0 j) * scale := by
  pointwise [gain, scale]

theorem slots_at (x : FVec Ideal S32x256x4x128 .f32) (R : Fin 8192) (C : Fin 512) :
    slots x (ix2 R C) = x (ix4 ⟨R.val / 256, by omega⟩ ⟨R.val % 256, by omega⟩ ⟨C.val / 128, by omega⟩ ⟨C.val % 128, by omega⟩) := by
  pointwise [slots]

variable (m : (ℓ : Loc nD τ sig) → Buf (Elt Ideal) ℓ) (c : Dev nD)

/-- The memory attention's argument arrays on one device. -/
def aH : FVec Ideal S32x2048x1024 .f32 := m ((c : Thread nD τ).loc main_arg0)
def aK : FVec Ideal S32x256x4x128 .f32 := m ((c : Thread nD τ).loc main_arg1)
def aV : FVec Ideal S32x256x4x128 .f32 := m ((c : Thread nD τ).loc main_arg2)
def aW : FVec Ideal S1x1024x6176 .f32 := m ((c : Thread nD τ).loc main_arg3)
def aG : FVec Ideal S1x128 .f32 := m ((c : Thread nD τ).loc main_arg4)

theorem V8 : V m c main_v8 = rows (aH m c) := by dsimp only [V, hostOps0]; after_results_simp; rfl
theorem V3 : V m c main_v3 = cols (aW m c) := by dsimp only [V, hostOps0]; after_results_simp; rfl
theorem V6 : V m c main_v6 = gain (aG m c) := by dsimp only [V, hostOps0]; after_results_simp; rfl
theorem V10 : V m c main_v10 = slots (aK m c) := by dsimp only [V, hostOps0]; after_results_simp; rfl
theorem V12 : V m c main_v12 = slots (aV m c) := by dsimp only [V, hostOps0]; after_results_simp; rfl

/-! ## Each window's block -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx3 : ∀ t : Fin cfg0.N, win0_3.index t 0 = t.val / 4 ∧ win0_3.index t 1 = 0 :=
  (by decide +kernel : ∀ t : Fin grid0.N, win0_3.index t 0 = t.val / 4 ∧ win0_3.index t 1 = 0)
theorem idx4 : ∀ t : Fin cfg0.N, win0_4.index t 0 = t.val / 4 ∧ win0_4.index t 1 = 0 :=
  (by decide +kernel : ∀ t : Fin grid0.N, win0_4.index t 0 = t.val / 4 ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)

theorem blk0 (t : Fin cfg0.N) (ht : t.val < 128) (r : Fin 512) (k : Fin 1024) :
    (iblk m c 0 t : FVec Ideal S512x1024 .bf16) (ix2 r k) = rows (aH m c) (ix2 ⟨512 * t.val + r.val, by omega⟩ k) := by
  unfold iblk; rw [View.read_apply]
  show V m c main_v8 _ = _
  rw [V8]
  refine congrArg (rows (aH m c)) (funext fun a => Fin.ext ?_)
  match a with
  | ⟨0, _⟩ => show win0_0.index t 0 * 512 + 1 * r.val = 512 * t.val + r.val; rw [(idx0 t).1]; omega
  | ⟨1, _⟩ => show win0_0.index t 1 * 1024 + 1 * k.val = k.val; rw [(idx0 t).2]; omega

theorem blk1 (t : Fin cfg0.N) : (iblk m c 1 t : FVec Ideal S1024x512 .bf16) = cols (aW m c) :=
  (WholeReads.read_self (φ := .bf16) (V m c main_v3) _ (fun _ => rfl) (fun _ => rfl)).trans (V3 m c)

theorem blk2 (t : Fin cfg0.N) : (iblk m c 2 t : FVec Ideal S1x128 .f32) = gain (aG m c) :=
  (WholeReads.read_self (φ := .f32) (V m c main_v6) _ (fun _ => rfl) (fun _ => rfl)).trans (V6 m c)

theorem blk3 (t : Fin cfg0.N) (ht : t.val < 128) (r : Fin 256) (k : Fin 512) :
    (iblk m c 3 t : FVec Ideal S256x512 .bf16) (ix2 r k) = slots (aK m c) (ix2 ⟨256 * (t.val / 4) + r.val, by omega⟩ k) := by
  unfold iblk; rw [View.read_apply]
  show V m c main_v10 _ = _
  rw [V10]
  refine congrArg (slots (aK m c)) (funext fun a => Fin.ext ?_)
  match a with
  | ⟨0, _⟩ => show win0_3.index t 0 * 256 + 1 * r.val = 256 * (t.val / 4) + r.val; rw [(idx3 t).1]; omega
  | ⟨1, _⟩ => show win0_3.index t 1 * 512 + 1 * k.val = k.val; rw [(idx3 t).2]; omega

theorem blk4 (t : Fin cfg0.N) (ht : t.val < 128) (r : Fin 256) (k : Fin 512) :
    (iblk m c 4 t : FVec Ideal S256x512 .bf16) (ix2 r k) = slots (aV m c) (ix2 ⟨256 * (t.val / 4) + r.val, by omega⟩ k) := by
  unfold iblk; rw [View.read_apply]
  show V m c main_v12 _ = _
  rw [V12]
  refine congrArg (slots (aV m c)) (funext fun a => Fin.ext ?_)
  match a with
  | ⟨0, _⟩ => show win0_4.index t 0 * 256 + 1 * r.val = 256 * (t.val / 4) + r.val; rw [(idx4 t).1]; omega
  | ⟨1, _⟩ => show win0_4.index t 1 * 512 + 1 * k.val = k.val; rw [(idx4 t).2]; omega

/-! ## A head's lanes -/

theorem slot_of (x : FVec Ideal S32x256x4x128 .f32) (R : Fin 8192) (C : Fin 512) (b : Fin 32) (i : Fin 256) (h : Fin 4) (n : Fin 128)
    (hb : R.val / 256 = b.val) (hi : R.val % 256 = i.val) (hh : C.val / 128 = h.val) (hn : C.val % 128 = n.val) :
    slots x (ix2 R C) = x (ix4 b i h n) := by
  obtain rfl : b = ⟨R.val / 256, by clear * - R; omega⟩ := Fin.ext hb.symm
  obtain rfl : i = ⟨R.val % 256, by clear * - R; omega⟩ := Fin.ext hi.symm
  obtain rfl : h = ⟨C.val / 128, by clear * - C; omega⟩ := Fin.ext hh.symm
  obtain rfl : n = ⟨C.val % 128, by clear * - C; omega⟩ := Fin.ext hn.symm
  exact slots_at x R C

theorem row_of (x : FVec Ideal S32x2048x1024 .f32) (R : Fin 65536) (k : Fin 1024) (b : Fin 32) (i : Fin 2048)
    (hb : R.val / 2048 = b.val) (hi : R.val % 2048 = i.val) : rows x (ix2 R k) = x (ix3 b i k) := by
  obtain rfl : b = ⟨R.val / 2048, by clear * - R; omega⟩ := Fin.ext hb.symm
  obtain rfl : i = ⟨R.val % 2048, by clear * - R; omega⟩ := Fin.ext hi.symm
  exact rows_at x R k

end Cert.XattnIdeal.Out

end
-- ==== Proof.XattnRef.lean ====
/-
  The reference memory attention at an index, over the extended reals.
-/
module

public import proofs.«01_k».proof.Proof.Gen.MemoryAttentionIdeal.Read
public import proofs.«01_k».proof.Proof.XattnMath
public import proofs.«01_k».proof.Proof.MaxReads

@[expose] public section

set_option maxRecDepth 16384

noncomputable section

namespace Cert.XattnRef

open Cert.MemoryAttentionIdeal Cert.MemoryAttentionIdeal.Gen Cert.MemoryAttentionIdeal.Read Idealize.ShloMosaic Idealize.ShloMosaic.Pointwise Cert.XattnMath

attribute [local instance] Cert.MemoryAttentionIdeal.Gen.facts

variable (x0 : FVec Ideal S32x2048x1024 .f32) (x1 x2 : FVec Ideal S32x256x4x128 .f32) (x3 : FVec Ideal S1x1024x6176 .f32) (x4 : FVec Ideal S1x128 .f32)

theorem query_at (b : Fin 32) (t : Fin 2048) (h : Fin 4) (n : Fin 128) :
    val_main_v3 (F := Ideal) x0 x3 (ix4 b t h n) = ∑ k, x0 (ix3 b t k) * x3 (ix3 0 k ⟨2592 + (h.val * 128 + n.val), by omega⟩) := by
  pointwise [val_main_v3, val_main_v2, val_main_v1, val_main_v0]

/-- A head's scores. -/
def sc (b : Fin 32) (h : Fin 4) (i : Fin 2048) (k : Fin 256) : EReal :=
  score (fun n => val_main_v3 (F := Ideal) x0 x3 (ix4 b i h n)) (fun n => x4 (ix2 0 n)) (fun n => x1 (ix4 b k h n)) * scale

theorem score_at (b : Fin 32) (h : Fin 4) (i : Fin 2048) (k : Fin 256) :
    val_main_v20 (F := Ideal) x0 x1 x3 x4 (ix4 b h i k) = sc x0 x1 x3 x4 b h i k := by
  unfold sc
  generalize hq : val_main_v3 (F := Ideal) x0 x3 = q
  pointwise [val_main_v20, val_main_v19, val_main_cst_2, val_main_v18, val_main_v17, val_main_v16, val_main_v15, val_main_v14, val_main_v13, val_main_v12,
    val_main_v11, val_main_v10, val_main_cst_1, val_main_v9, val_main_v8, val_main_cst_0, val_main_v7, val_main_v6, val_main_cst, val_main_v5, val_main_v4,
    score, normed, rs, scale, hq]

theorem low_at : val_main_cst_3 (F := Ideal) (Shape.Idx.first Facts₀.h_S_) = (⊥ : EReal) := by
  show Ideal.ofBits FTy.f32 0xFF800000#32 = ⊥
  simp [Ideal.ofBits, Ideal.ieee]

theorem floor_at (b : Fin 32) (h : Fin 4) (i : Fin 2048) : val_main_v22 (F := Ideal) (ix3 b h i) = (⊥ : EReal) := by
  pointwise [val_main_v22, val_main_cst_4]
  simp [Ideal.ofBits, Ideal.ieee]

theorem max_at (b : Fin 32) (h : Fin 4) (i : Fin 2048) :
    val_main_v23 (F := Ideal) x0 x1 x3 x4 (ix3 b h i) = top (sc x0 x1 x3 x4 b h i) := by
  unfold val_main_v23
  refine (MaxReads.floor _ _ _ (floor_at b h i)).trans ?_
  unfold val_main_v21
  refine (MaxReads.host _ _ _ _ b h i).trans ?_
  rw [low_at]
  exact congrArg (Finset.fold max (⊥ : EReal) · Finset.univ) (funext fun k => score_at x0 x1 x3 x4 b h i k)

theorem exp_at (b : Fin 32) (h : Fin 4) (i : Fin 2048) (k : Fin 256) :
    val_main_v27 (F := Ideal) x0 x1 x3 x4 (ix4 b h i k) = Ideal.exp (sc x0 x1 x3 x4 b h i k - top (sc x0 x1 x3 x4 b h i)) := by
  rw [← max_at, ← score_at]
  pointwise [val_main_v27, val_main_v26, val_main_v25, val_main_v24]

theorem sum_at (b : Fin 32) (h : Fin 4) (i : Fin 2048) :
    val_main_v28 (F := Ideal) x0 x1 x3 x4 (ix3 b h i) = ∑ k, val_main_v27 (F := Ideal) x0 x1 x3 x4 (ix4 b h i k) := by
  pointwise [val_main_v28, val_main_cst_5]

theorem out_at (R : Fin 65536) (l : Fin 512) :
    val_main_v35 (F := Ideal) x0 x1 x2 x3 x4 (ix2 R l) = ∑ k, x2 (ix4 ⟨R.val / 2048, by omega⟩ k ⟨l.val / 128, by omega⟩ ⟨l.val % 128, by omega⟩)
      * Ideal.div (val_main_v27 (F := Ideal) x0 x1 x3 x4 (ix4 ⟨R.val / 2048, by omega⟩ ⟨l.val / 128, by omega⟩ ⟨R.val % 2048, by omega⟩ k))
          (val_main_v28 (F := Ideal) x0 x1 x3 x4 (ix3 ⟨R.val / 2048, by omega⟩ ⟨l.val / 128, by omega⟩ ⟨R.val % 2048, by omega⟩)) := by
  pointwise [val_main_v35, val_main_v34, val_main_v33, val_main_v32, val_main_v31, val_main_v30, val_main_v29]

/-- The reference's result where a row's scores are real: the weighted values over the weights' sum. -/
theorem ref_at (R : Fin 65536) (l : Fin 512)
    (hs : ∀ k, Real' (sc x0 x1 x3 x4 ⟨R.val / 2048, by omega⟩ ⟨l.val / 128, by omega⟩ ⟨R.val % 2048, by omega⟩ k)) :
    val_main_v35 (F := Ideal) x0 x1 x2 x3 x4 (ix2 R l)
      = att (sc x0 x1 x3 x4 ⟨R.val / 2048, by omega⟩ ⟨l.val / 128, by omega⟩ ⟨R.val % 2048, by omega⟩)
          (fun k => x2 (ix4 ⟨R.val / 2048, by omega⟩ k ⟨l.val / 128, by omega⟩ ⟨l.val % 128, by omega⟩)) := by
  rw [att_eq _ _ hs, out_at]
  simp only [sum_at, exp_at]

end Cert.XattnRef

end
-- ==== Proof.FiniteReads.lean ====
/-
  Reading a precondition's tests that every element of an array is finite, over the extended reals.
-/
module

public import Idealize.ShloMosaic.Lib.Pointwise

@[expose] public section

noncomputable section

namespace Cert.FiniteReads

open Idealize.ShloMosaic

/-- A number whose absolute value is below infinity is real. -/
theorem real_of_lt (x : EReal) (h : max x (-x) < ⊤) : ∃ r : ℝ, x = (r : EReal) := by
  induction x with
  | bot => exact absurd h (by simp)
  | coe r => exact ⟨r, rfl⟩
  | top => exact absurd h (by simp)

/-- The test of one element. -/
theorem real_of_test {S : Shape} (x y : FVec Ideal S .f32) (i : S.Idx) (hy : y i = (⊤ : EReal)) (h : cmpf .olt (Host.absf x) y i = 1#1) :
    ∃ r : ℝ, x i = (r : EReal) := by
  refine real_of_lt _ ?_
  have e : BitVec.ofBool (decide (max (x i) (-(x i)) < y i)) = 1#1 := h
  rw [hy] at e
  by_contra hn
  rw [decide_eq_false hn] at e
  exact absurd e (by decide)

theorem inf : Ideal.ofBits .f32 0x7F800000#32 = ⊤ := by simp [Ideal.ofBits, Ideal.ieee]

end Cert.FiniteReads

end
-- ==== Proof.XattnValue.lean ====
/-
  The memory attention: the kernel's result array is the reference's, and the claims about the two programs.
-/
module

public import proofs.«01_k».proof.Proof.XattnHost
public import proofs.«01_k».proof.Proof.XattnRef
public import proofs.«01_k».proof.Proof.FiniteReads
public import proofs.«01_k».proof.Proof.Gen.MemoryAttentionIdeal.Run
public import proofs.«01_k».proof.Proof.Gen.Xattn.Frame
public import proofs.«01_k».proof.Proof.Gen.MemoryAttentionIdeal
public import proofs.«01_k».proof.Proof.Gen.Pre_finite_scores
public import proofs.«01_k».proof.Defs
public import Idealize.ShloMosaic.Lib.Quiescent
public import Idealize.ShloMosaic.Lib.ReduceAll

@[expose] public section

set_option maxRecDepth 16384

noncomputable section

namespace Cert.XattnIdeal.Out

open Cert.XattnIdeal Cert.XattnIdeal.Gen Idealize.ShloMosaic Idealize.ShloMosaic.TcCoe Idealize.SL.Sem Idealize.ShloMosaic.Pointwise Cert.XattnMath
open Idealize.ShloMosaic.Pipeline (Dat)

attribute [local instance] Cert.Pre_finite_scores.Gen.facts

/-- What the precondition says: every array the scores are made of is of real numbers. -/
theorem all_real (x0 : FVec Ideal S32x2048x1024 .f32) (x1 x2 : FVec Ideal S32x256x4x128 .f32) (x3 : FVec Ideal S1x1024x6176 .f32) (x4 : FVec Ideal S1x128 .f32)
    (h : Pre_finite_scores.fn (F := Ideal) x0 x1 x2 x3 x4 = fun _ => 1#1) :
    (∀ i, Real' (x0 i)) ∧ (∀ i, Real' (x1 i)) ∧ (∀ i, Real' (x3 i)) ∧ ∀ i, Real' (x4 i) := by
  have h0 := congrFun h (fun a => a.elim0)
  dsimp only [Pre_finite_scores.fn, Pre_finite_scores.fn_part1] at h0
  obtain ⟨h1, h4⟩ := IntOp.andi_eq_one.1 h0
  obtain ⟨h2, h3⟩ := IntOp.andi_eq_one.1 h1
  obtain ⟨h5, h6⟩ := IntOp.andi_eq_one.1 h2
  haveI : Subsingleton Pre_finite_scores.S_.Idx := ⟨fun a b => funext fun d => d.elim0⟩
  exact ⟨fun i => FiniteReads.real_of_test _ _ _ FiniteReads.inf (Host.reduce_andi_all _ _ _ _ _ h5 i),
    fun i => FiniteReads.real_of_test _ _ _ FiniteReads.inf (Host.reduce_andi_all _ _ _ _ _ h6 i),
    fun i => FiniteReads.real_of_test _ _ _ FiniteReads.inf (Host.reduce_andi_all _ _ _ _ _ h3 i),
    fun i => FiniteReads.real_of_test _ _ _ FiniteReads.inf (Host.reduce_andi_all _ _ _ _ _ h4 i)⟩

variable (m : (ℓ : Loc nD τ sig) → Buf (Elt Ideal) ℓ) (c : Dev nD)

/-- Every array the scores are made of is of real numbers. -/
def Reals : Prop := (∀ i, Real' (aH m c i)) ∧ (∀ i, Real' (aK m c i)) ∧ (∀ i, Real' (aW m c i)) ∧ ∀ i, Real' (aG m c i)

/-- The reference's result on the kernel's arguments. -/
def result : FVec Ideal S65536x512 .bf16 := MemoryAttentionIdeal.Read.val_main_v35 (F := Ideal) (aH m c) (aK m c) (aV m c) (aW m c) (aG m c)

theorem sc_real (hr : Reals m c) (b : Fin 32) (h : Fin 4) (i : Fin 2048) (k : Fin 256) : Real' (XattnRef.sc (aH m c) (aK m c) (aW m c) (aG m c) b h i k) := by
  obtain ⟨h0, h1, h3, h4⟩ := hr
  obtain ⟨σ, -, hσ⟩ := scale_real
  refine Real'.mul (score_real _ _ _ (fun n => ?_) (fun n => h4 _) (fun n => h1 _)) ⟨σ, hσ⟩
  rw [XattnRef.query_at]
  exact Real'.sum _ _ fun k => (h0 _).mul (h3 _)

/-- The reference's entry with its row and column named by batch row, token, head and lane. -/
theorem ref_entry (hr : Reals m c) (R : Fin 65536) (L : Fin 512) (b : Fin 32) (i : Fin 2048) (h : Fin 4) (d : Fin 128) (hb : R.val / 2048 = b.val) (hi : R.val % 2048 = i.val)
    (hh : L.val / 128 = h.val) (hd : L.val % 128 = d.val) :
    result m c (ix2 R L) = att (XattnRef.sc (aH m c) (aK m c) (aW m c) (aG m c) b h i) (fun k => aV m c (ix4 b k h d)) := by
  obtain rfl : b = ⟨R.val / 2048, by clear * - R; omega⟩ := Fin.ext hb.symm
  obtain rfl : i = ⟨R.val % 2048, by clear * - R; omega⟩ := Fin.ext hi.symm
  obtain rfl : h = ⟨L.val / 128, by clear * - L; omega⟩ := Fin.ext hh.symm
  obtain rfl : d = ⟨L.val % 128, by clear * - L; omega⟩ := Fin.ext hd.symm
  exact XattnRef.ref_at (aH m c) (aK m c) (aV m c) (aW m c) (aG m c) R L fun k => sc_real m c hr _ _ _ k

theorem query_eq (t : Fin cfg0.N) (ht : t.val < 128) (r : Fin 512) (C : Fin 512) (b : Fin 32) (i : Fin 2048) (h : Fin 4)
    (hb : (512 * t.val + r.val) / 2048 = b.val) (hi : (512 * t.val + r.val) % 2048 = i.val) (hh : C.val / 128 = h.val) (j : Fin 128) :
    query (iblk m c 0 t : FVec Ideal S512x1024 .bf16) (cols (aW m c)) r C j
      = MemoryAttentionIdeal.Read.val_main_v3 (F := Ideal) (aH m c) (aW m c) (ix4 b i h j) := by
  rw [XattnRef.query_at]
  unfold query
  refine Finset.sum_congr rfl fun n _ => congrArg₂ (fun x y : EReal => x * y) ?_ ?_
  · exact (blk0 m c t ht r n).trans (row_of _ _ _ b i hb hi)
  · rw [cols_at]
    refine congrArg (fun z => aW m c (ix3 0 n z)) (Fin.ext ?_)
    show 2592 + (base C + j.val) = 2592 + (h.val * 128 + j.val)
    unfold base; rw [hh, Nat.mul_comm]

theorem entry (hr : Reals m c) (t : Fin cfg0.N) (ht : t.val < 128) (r : Fin 512) (C : Fin 512) :
    out0_5 (F := Ideal) (iblk m c 0 t) (iblk m c 1 t) (iblk m c 2 t) (iblk m c 3 t) (iblk m c 4 t) (ix2 r C)
      = result m c (ix2 ⟨512 * t.val + r.val, by omega⟩ C) := by
  have hb : (512 * t.val + r.val) / 2048 = t.val / 4 := by omega
  obtain ⟨b, hbv⟩ : ∃ b : Fin 32, b.val = t.val / 4 := ⟨⟨t.val / 4, by omega⟩, rfl⟩
  obtain ⟨i, hi⟩ : ∃ i : Fin 2048, (512 * t.val + r.val) % 2048 = i.val := ⟨⟨(512 * t.val + r.val) % 2048, by omega⟩, rfl⟩
  obtain ⟨h, hh⟩ : ∃ h : Fin 4, C.val / 128 = h.val := ⟨⟨C.val / 128, by omega⟩, rfl⟩
  obtain ⟨d, hd⟩ : ∃ d : Fin 128, C.val % 128 = d.val := ⟨⟨C.val % 128, by omega⟩, rfl⟩
  rw [ref_entry m c hr _ C b i h d (hb.trans hbv.symm) hi hh hd, out_at, blk1, blk2]
  unfold cell
  have eg : (fun j : Fin 128 => gain (aG m c) (ix2 0 j)) = fun j => aG m c (ix2 0 j) * scale := funext fun j => gain_at _ j
  have eq : query (iblk m c 0 t : FVec Ideal S512x1024 .bf16) (cols (aW m c)) r C = fun j => MemoryAttentionIdeal.Read.val_main_v3 (F := Ideal) (aH m c) (aW m c) (ix4 b i h j) :=
    funext fun j => query_eq m c t ht r C b i h (hb.trans hbv.symm) hi hh j
  rw [eg, eq]
  refine congrArg₂ att (funext fun k => ?_) (funext fun k => ?_)
  · rw [score_scaled]
    refine congrArg (fun y => score _ _ y * scale) (funext fun j => ?_)
    exact (blk3 m c t ht k _).trans (slot_of _ _ _ b k h j (by show (256 * (t.val / 4) + k.val) / 256 = b.val; omega) (by show (256 * (t.val / 4) + k.val) % 256 = k.val; omega)
      (by show (base C + j.val) / 128 = h.val; unfold base; omega) (by show (base C + j.val) % 128 = j.val; unfold base; omega))
  · exact (blk4 m c t ht k _).trans (slot_of _ _ _ b k h d (by show (256 * (t.val / 4) + k.val) / 256 = b.val; omega) (by show (256 * (t.val / 4) + k.val) % 256 = k.val; omega) hh hd)

theorem flushed_eq (hr : Reals m c) (t : Fin cfg0.N) (hf : (cfg0.win 5).flush t = true) :
    (dats m 0 c).flushed 5 t = ((cfg0.win 5).blk t).view.read (Elt Ideal) (result m c) := by
  have ht : t.val < 128 := lt_of_lt_of_eq t.isLt Gen.N_0
  rw [Value.flushed5]
  funext j
  obtain ⟨r, l, rfl⟩ : ∃ (r : Fin 512) (l : Fin 512), j = ix2 r l := ⟨j 0, j 1, by
    funext a
    match a with
    | ⟨0, _⟩ => rfl
    | ⟨1, _⟩ => rfl⟩
  rw [View.read_apply]
  show out0_5 (F := Ideal) _ _ _ _ _ (ix2 r l) = result m c _
  refine (entry m c hr t ht r l).trans (congrArg (result m c) ?_)
  funext a; apply Fin.ext
  match a with
  | ⟨0, _⟩ => show 512 * t.val + r.val = win0_5.index t 0 * 512 + 1 * r.val; rw [(idx5 t).1]; omega
  | ⟨1, _⟩ => show l.val = win0_5.index t 1 * 512 + 1 * l.val; rw [(idx5 t).2]; omega

/-- The 128 blocks tile the result. -/
theorem final (hr : Reals m c) : (dats m 0 c).arrAt 5 cfg0.N = result m c :=
  (dats m 0 c).arrAt_eq_of_cover 5 (result m c) (flushed_eq m c hr) fun i => by
    have h0 : (i 0 : Nat) < 65536 := (i 0).isLt
    have h1 : (i 1 : Nat) < 512 := (i 1).isLt
    refine ⟨⟨(i 0 : Nat) / 512, by show _ < grid0.N; rw [Gen.N_0]; omega⟩, flush0_5 _, ?_⟩
    generalize ht : (⟨(i 0 : Nat) / 512, _⟩ : Fin cfg0.N) = t
    have hv : t.val = (i 0 : Nat) / 512 := by rw [← ht]
    show i ∈ ((View.whole main_v13).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + 512
                rw [(idx5 t).1]; omega
    | ⟨1, _⟩ => show win0_5.index t 1 * 512 ≤ (i 1 : Nat) ∧ (i 1 : Nat) < win0_5.index t 1 * 512 + 512
                rw [(idx5 t).2]; omega

end Cert.XattnIdeal.Out

namespace Cert.XattnClaims

open Idealize.ShloMosaic Idealize.ShloMosaic.TcCoe Idealize.SL.Sem

attribute [local instance] Cert.Xattn.Gen.facts Cert.XattnIdeal.Gen.facts Cert.MemoryAttentionIdeal.Gen.facts Cert.Pre_finite_scores.Gen.facts

theorem frameKernel : Cert.quiescent_Xattn := fun m ρ _ => Cert.Xattn.Gen.frame m ρ
theorem frameIdeal : Cert.quiescent_XattnIdeal := fun m ρ _ => Cert.XattnIdeal.Gen.frame m ρ
theorem frameIdealPre : Cert.quiescent_XattnIdeal_pre_finite_scores := fun m ρ _ => Cert.XattnIdeal.Gen.frame m ρ
theorem frameRef : Cert.quiescent_MemoryAttentionIdeal := fun m ρ _ =>
  (θ_run _ _ _).mono (fun r h => ⟨fun c => (h c).2, sem_eq_zero_of_no_sems rfl r.2⟩) (Cert.MemoryAttentionIdeal.Value.run m ρ)
theorem frameRefPre : Cert.quiescent_MemoryAttentionIdeal_pre_finite_scores := fun m ρ _ => frameRef m ρ trivial

theorem equal : Cert.algebraic_XattnIdeal_MemoryAttentionIdeal_pre_finite_scores := fun m ρ m' ρ' hpre hag =>
  ⟨fun c => Cert.XattnIdeal.Out.result m c,
    (θ_run _ _ _).mono (fun r h c => ⟨(h c).1.trans (Cert.XattnIdeal.Out.final m c (Cert.XattnIdeal.Out.all_real _ _ _ _ _ (hpre c))), (h c).2⟩)
      (Cert.XattnIdeal.Value.run_blocks m ρ),
    (θ_run _ _ _).mono (fun r h c => ⟨(h c).1.trans (by
      obtain ⟨h0, h1, h2, h3, h4⟩ := hag c
      rw [Cert.MemoryAttentionIdeal.Read.val_main_v35_eq, h0, h1, h2, h3, h4]
      rfl), (h c).2⟩) (Cert.MemoryAttentionIdeal.Value.run m' ρ')⟩

end Cert.XattnClaims

end
-- ==== Proof.MemKvMath.lean ====
/-
  A normed memory token over the extended reals, and its product with a column of weights.
-/
module

public import proofs.«01_k».proof.Proof.XattnMath

@[expose] public section

noncomputable section

namespace Cert.MemKvMath

open Idealize.ShloMosaic

/-- A token's row over the root of its mean square, times the gain. -/
def token (x g : Fin 1024 → EReal) (n : Fin 1024) : EReal :=
  x n * Ideal.rsqrt (Ideal.div (∑ j, x j * x j) (Ideal.ofBits .f32 0x44800000#32) + Ideal.ofBits .f32 0x358637BD#32) * g n

/-- Its product with a column of the weights. -/
def proj (x g w : Fin 1024 → EReal) : EReal := ∑ n, token x g n * w n

end Cert.MemKvMath

end
-- ==== Proof.MemKvOut.lean ====
/-
  The memory keys' and values' output blocks at an index, over the extended reals.
-/
module

public import Idealize.ShloMosaic.Lib.Pointwise
public import proofs.«01_k».proof.Proof.HeadPieces
public import proofs.«01_k».proof.Proof.MemKvMath
public import proofs.«01_k».proof.Proof.Gen.MemKvIdeal.Value

@[expose] public section

set_option maxRecDepth 16384

noncomputable section

namespace Cert.MemKvIdeal.Out

open Cert.MemKvIdeal Cert.MemKvIdeal.Gen Idealize.ShloMosaic Idealize.ShloMosaic.Pointwise Cert.XattnMath Cert.MemKvMath

variable {F : FTy → Type} [FloatOps F]

/-- A head's columns over the root of each row's mean square, times the gain. -/
def normedHead (x : FVec F S256x128 .f32) (g : FVec F S1x128 .f32) : FVec F S256x128 .bf16 :=
  truncf .bf16 (mulf (mulf x (broadcastTo S256x128 (rsqrt (addf (divf
      (shapeCast S256x1 (multiReduction .add [1] S256 (mulf x x) 0x00000000#32 reduces_S256x128_S256 (.inl rfl) rfl) shapeCasts_S256_S256x1)
      (broadcast S256x1 (Scalar.ofBits .f32 0x43000000#32))) (broadcast S256x1 (Scalar.ofBits .f32 0x358637BD#32)))) broadcasts_S256x1_S256x128))
      (broadcastTo S256x128 (shapeCast S1x128 g shapeCasts_S1x128_S1x128) broadcasts_S1x128_S256x128)) bitsLt_bf16_f32

section
variable (x0 : FVec F S256x1024 .f32) (x1 : FVec F S1x1024 .f32) (x2 : FVec F S1024x512 .bf16) (q : FVec F S256x512 .f32) (g : FVec F S1x128 .f32)

theorem head0 : k0_pay7 (k0_pay5 g) (k0_pay6 x0 x1 x2) = normedHead (extractStridedSlice S256x128 ![0, 0] (k0_pay3 x0 x1 x2) slices_S256x512_o0_0_S256x128) g := rfl

theorem head1 : k0_pay8 q g = normedHead (extractStridedSlice S256x128 ![0, 128] q slices_S256x512_o0_128_S256x128) g := rfl

theorem head2 : k0_pay9 q g = normedHead (extractStridedSlice S256x128 ![0, 256] q slices_S256x512_o0_256_S256x128) g := rfl

theorem head3 : k0_pay1 (k0_pay10 q) g = normedHead (extractStridedSlice S256x128 ![0, 384] q slices_S256x512_o0_384_S256x128) g := rfl
end

/-! ## At an index -/

variable (x0 : FVec Ideal S256x1024 .f32) (x1 : FVec Ideal S1x1024 .f32) (x2 x3 : FVec Ideal S1024x512 .bf16) (x4 : FVec Ideal S1x128 .f32)

theorem normedHead_at (x : FVec Ideal S256x128 .f32) (g : FVec Ideal S1x128 .f32) (r : Fin 256) (l : Fin 128) :
    normedHead (F := Ideal) x g (ix2 r l) = normed (fun j => x (ix2 r j)) (fun j => g (ix2 0 j)) l := by
  pointwise [normedHead, normed, rs]

/-- A row's product with a column of the weights. -/
def prod (w : FVec Ideal S1024x512 .bf16) (r : Fin 256) (C : Fin 512) : EReal :=
  proj (fun n => x0 (ix2 r n)) (fun n => x1 (ix2 0 n)) (fun n => w (ix2 n C))

theorem keys_at (r : Fin 256) (C : Fin 512) : k0_pay3 (F := Ideal) x0 x1 x2 (ix2 r C) = prod x0 x1 x2 r C := by
  pointwise [k0_pay3, k0_pay2, prod, proj, token]

theorem vals_at (r : Fin 256) (C : Fin 512) : k0_pay4 (F := Ideal) x0 x1 x3 (ix2 r C) = prod x0 x1 x3 r C := by
  pointwise [k0_pay4, k0_pay2, prod, proj, token]

/-- A head's first column. -/
def base (C : Fin 512) : Nat := 128 * (C.val / 128)

theorem base_lt (C : Fin 512) (j : Fin 128) : base C + j.val < 512 := by unfold base; omega

/-- What element `(r, C)` of the keys' block should be. -/
def keyCell (r : Fin 256) (C : Fin 512) : EReal :=
  normed (fun j => prod x0 x1 x2 r ⟨base C + j.val, base_lt C j⟩) (fun j => x4 (ix2 0 j)) ⟨C.val % 128, by omega⟩

/-- One head's columns. -/
theorem part_at (o : Nat) (ho : o % 128 = 0) (h5 : o + 128 ≤ 512) (hs) (r : Fin 256) (l : Fin 128) :
    normedHead (F := Ideal) (extractStridedSlice S256x128 ![0, o] (k0_pay3 x0 x1 x2) hs) x4 (ix2 r l) = keyCell x0 x1 x2 x4 r ⟨o + l.val, by omega⟩ := by
  have hb : base ⟨o + l.val, by omega⟩ = o := by unfold base; show 128 * ((o + l.val) / 128) = o; omega
  rw [normedHead_at]
  unfold keyCell
  refine congrArg₂ (fun (x : Fin 128 → EReal) (i : Fin 128) => normed x (fun j => x4 (ix2 0 j)) i) (funext fun j => ?_)
    (Fin.ext (by show l.val = (o + l.val) % 128; omega))
  refine Eq.trans ?_ (keys_at x0 x1 x2 r ⟨base ⟨o + l.val, by omega⟩ + j.val, base_lt _ _⟩)
  rw [extractStridedSlice_apply ![0, o] _ hs (ix2 r j) (ix2 r ⟨base ⟨o + l.val, by omega⟩ + j.val, base_lt _ _⟩) (fun a => by
    match a with
    | ⟨0, _⟩ => show r.val = 0 + r.val; omega
    | ⟨1, _⟩ => show base ⟨o + l.val, by omega⟩ + j.val = o + j.val; rw [hb])]

theorem hz : (![0, 0] : Fin 2 → Nat) = fun _ => 0 := funext fun a => by fin_cases a <;> rfl

theorem key_at (r : Fin 256) (C : Fin 512) : out0_5 (F := Ideal) x0 x1 x2 x3 x4 (ix2 r C) = keyCell x0 x1 x2 x4 r C := by
  have hz0 : View.ld (Val := Elt Ideal) (e' := .f32) x0 r0_0 = x0 := View.ld_unit_zero (S := S256x1024) hz _ _
  have hz1 : View.ld (Val := Elt Ideal) (e' := .f32) x1 r0_1 = x1 := View.ld_unit_zero (S := S1x1024) hz _ _
  have hz2 : View.ld (Val := Elt Ideal) (e' := .bf16) x2 r0_2 = x2 := View.ld_unit_zero (S := S1024x512) hz _ _
  have hz4 : View.ld (Val := Elt Ideal) (e' := .f32) x4 r0_4 = x4 := View.ld_unit_zero (S := S1x128) hz _ _
  unfold out0_5 k0_pay11
  rw [hz0, hz1, hz2, hz4, head0, head1, head2, head3]
  refine HeadPieces.four (n := 256) (e := .bf16) _ _ _ _ _ _ _ _ (fun C z => z = keyCell x0 x1 x2 x4 r C) r ?_ ?_ ?_ ?_ C <;> intro j
  · exact part_at x0 x1 x2 x4 0 rfl (by omega) _ r j
  · exact part_at x0 x1 x2 x4 128 rfl (by omega) _ r j
  · exact part_at x0 x1 x2 x4 256 rfl (by omega) _ r j
  · exact part_at x0 x1 x2 x4 384 rfl (by omega) _ r j

theorem val_at (r : Fin 256) (C : Fin 512) : out0_6 (F := Ideal) x0 x1 x2 x3 x4 (ix2 r C) = prod x0 x1 x3 r C := by
  have hz0 : View.ld (Val := Elt Ideal) (e' := .f32) x0 r0_0 = x0 := View.ld_unit_zero (S := S256x1024) hz _ _
  have hz1 : View.ld (Val := Elt Ideal) (e' := .f32) x1 r0_1 = x1 := View.ld_unit_zero (S := S1x1024) hz _ _
  have hz3 : View.ld (Val := Elt Ideal) (e' := .bf16) x3 r0_2 = x3 := View.ld_unit_zero (S := S1024x512) hz _ _
  unfold out0_6
  rw [hz0, hz1, hz3]
  refine Eq.trans ?_ (vals_at x0 x1 x3 r C)
  exact congrFun (View.canon_unit_zero (S := S256x512) hz _ _) (ix2 r C)

end Cert.MemKvIdeal.Out

end
-- ==== Proof.MemKvHost.lean ====
/-
  What the host code before the memory keys and values hands them, read at an index of the arguments.
-/
module

public import Idealize.ShloMosaic.Lib.Pointwise
public import proofs.«01_k».proof.Proof.WholeReads
public import proofs.«01_k».proof.Proof.MemKvOut

@[expose] public section

set_option maxRecDepth 16384

noncomputable section

namespace Cert.MemKvIdeal.Out

open Cert.MemKvIdeal Cert.MemKvIdeal.Gen Idealize.ShloMosaic Idealize.ShloMosaic.TcCoe Idealize.SL.Sem Idealize.ShloMosaic.Pointwise Idealize.ShloMosaic.StableHlo

/-- The memory's rows. -/
def rows (x : FVec Ideal S32x256x1024 .f32) : FVec Ideal S8192x1024 .f32 := shapeCast S8192x1024 x shapeCasts_S32x256x1024_S8192x1024

/-- The gains, through a vector and back. -/
def gainM (x : FVec Ideal S1x1024 .f32) : FVec Ideal S1x1024 .f32 := shapeCast S1x1024 (shapeCast S1024 x shapeCasts_S1x1024_S1024) shapeCasts_S1024_S1x1024
def gainK (x : FVec Ideal S1x128 .f32) : FVec Ideal S1x128 .f32 := shapeCast S1x128 (shapeCast S128 x shapeCasts_S1x128_S128) shapeCasts_S128_S1x128

/-- Each head's 256 columns. -/
def heads (x : FVec Ideal S1x1024x1024 .f32) : FVec Ideal S1024x4x256 .f32 :=
  shapeCast S1024x4x256 (shapeCast S1024x1024 x shapeCasts_S1x1024x1024_S1024x1024) shapeCasts_S1024x1024_S1024x4x256

/-- The keys' half of each head, and the values'. -/
def keyCols (x : FVec Ideal S1x1024x1024 .f32) : FVec Ideal S1024x512 .bf16 :=
  truncf .bf16 (shapeCast S1024x512 (extractStridedSlice S1024x4x128 ![0, 0, 0] (heads x) slices_S1024x4x256_S1024x4x128_0_0_0) shapeCasts_S1024x4x128_S1024x512) bitsLt_bf16_f32
def valCols (x : FVec Ideal S1x1024x1024 .f32) : FVec Ideal S1024x512 .bf16 :=
  truncf .bf16 (shapeCast S1024x512 (extractStridedSlice S1024x4x128 ![0, 0, 128] (heads x) slices_S1024x4x256_S1024x4x128_0_0_128) shapeCasts_S1024x4x128_S1024x512) bitsLt_bf16_f32

theorem rows_at (x : FVec Ideal S32x256x1024 .f32) (R : Fin 8192) (k : Fin 1024) : rows x (ix2 R k) = x (ix3 ⟨R.val / 256, by omega⟩ ⟨R.val % 256, by omega⟩ k) := by
  pointwise [rows]

theorem gainM_at (x : FVec Ideal S1x1024 .f32) (j : Fin 1024) : gainM x (ix2 0 j) = x (ix2 0 j) := by
  pointwise [gainM]

theorem gainK_at (x : FVec Ideal S1x128 .f32) (j : Fin 128) : gainK x (ix2 0 j) = x (ix2 0 j) := by
  pointwise [gainK]

theorem heads_at (x : FVec Ideal S1x1024x1024 .f32) (n : Fin 1024) (h : Fin 4) (j : Fin 256) : heads x (ix3 n h j) = x (ix3 0 n ⟨h.val * 256 + j.val, by omega⟩) := by
  pointwise [heads]

theorem keyCols_at (x : FVec Ideal S1x1024x1024 .f32) (n : Fin 1024) (C : Fin 512) :
    keyCols x (ix2 n C) = x (ix3 0 n ⟨C.val / 128 * 256 + C.val % 128, by omega⟩) := by
  refine Eq.trans ?_ (heads_at x n ⟨C.val / 128, by omega⟩ ⟨C.val % 128, by omega⟩)
  pointwise [keyCols]

theorem valCols_at (x : FVec Ideal S1x1024x1024 .f32) (n : Fin 1024) (C : Fin 512) :
    valCols x (ix2 n C) = x (ix3 0 n ⟨C.val / 128 * 256 + (128 + C.val % 128), by omega⟩) := by
  refine Eq.trans ?_ (heads_at x n ⟨C.val / 128, by omega⟩ ⟨128 + C.val % 128, by omega⟩)
  pointwise [valCols]

variable (m : (ℓ : Loc nD τ sig) → Buf (Elt Ideal) ℓ) (c : Dev nD)

/-- The call's argument arrays on one device. -/
def aM : FVec Ideal S32x256x1024 .f32 := m ((c : Thread nD τ).loc main_arg0)
def aN : FVec Ideal S1x1024 .f32 := m ((c : Thread nD τ).loc main_arg1)
def aW : FVec Ideal S1x1024x1024 .f32 := m ((c : Thread nD τ).loc main_arg2)
def aG : FVec Ideal S1x128 .f32 := m ((c : Thread nD τ).loc main_arg3)

theorem V12 : V m c main_v12 = rows (aM m c) := by dsimp only [V, hostOps0]; after_results_simp; rfl
theorem V3 : V m c main_v3 = gainM (aN m c) := by dsimp only [V, hostOps0]; after_results_simp; rfl
theorem V8 : V m c main_v8 = keyCols (aW m c) := by dsimp only [V, hostOps0]; after_results_simp; rfl
theorem V11 : V m c main_v11 = valCols (aW m c) := by dsimp only [V, hostOps0]; after_results_simp; rfl
theorem V4 : V m c main_v4 = gainK (aG m c) := by dsimp only [V, hostOps0]; after_results_simp; rfl

/-! ## Each window's block -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)

theorem blk0 (t : Fin cfg0.N) (ht : t.val < 32) (r : Fin 256) (k : Fin 1024) :
    (iblk m c 0 t : FVec Ideal S256x1024 .f32) (ix2 r k) = rows (aM m c) (ix2 ⟨256 * t.val + r.val, by omega⟩ k) := by
  unfold iblk; rw [View.read_apply]
  show V m c main_v12 _ = _
  rw [V12]
  refine congrArg (rows (aM m c)) (funext fun a => Fin.ext ?_)
  match a with
  | ⟨0, _⟩ => show win0_0.index t 0 * 256 + 1 * r.val = 256 * t.val + r.val; rw [(idx0 t).1]; omega
  | ⟨1, _⟩ => show win0_0.index t 1 * 1024 + 1 * k.val = k.val; rw [(idx0 t).2]; omega

theorem blk1 (t : Fin cfg0.N) : (iblk m c 1 t : FVec Ideal S1x1024 .f32) = gainM (aN m c) :=
  (WholeReads.read_self (φ := .f32) (V m c main_v3) _ (fun _ => rfl) (fun _ => rfl)).trans (V3 m c)

theorem blk2 (t : Fin cfg0.N) : (iblk m c 2 t : FVec Ideal S1024x512 .bf16) = keyCols (aW m c) :=
  (WholeReads.read_self (φ := .bf16) (V m c main_v8) _ (fun _ => rfl) (fun _ => rfl)).trans (V8 m c)

theorem blk3 (t : Fin cfg0.N) : (iblk m c 3 t : FVec Ideal S1024x512 .bf16) = valCols (aW m c) :=
  (WholeReads.read_self (φ := .bf16) (V m c main_v11) _ (fun _ => rfl) (fun _ => rfl)).trans (V11 m c)

theorem blk4 (t : Fin cfg0.N) : (iblk m c 4 t : FVec Ideal S1x128 .f32) = gainK (aG m c) :=
  (WholeReads.read_self (φ := .f32) (V m c main_v4) _ (fun _ => rfl) (fun _ => rfl)).trans (V4 m c)

end Cert.MemKvIdeal.Out

end
-- ==== Proof.MemKvRef.lean ====
/-
  The reference's memory keys and values at an index, over the extended reals.
-/
module

public import proofs.«01_k».proof.Proof.Gen.MemoryKeysValuesIdeal.Read
public import proofs.«01_k».proof.Proof.MemKvMath
public import Idealize.ShloMosaic.Lib.Pointwise

@[expose] public section

set_option maxRecDepth 16384

noncomputable section

namespace Cert.MemKvRef

open Cert.MemoryKeysValuesIdeal Cert.MemoryKeysValuesIdeal.Gen Cert.MemoryKeysValuesIdeal.Read Idealize.ShloMosaic Idealize.ShloMosaic.Pointwise Cert.XattnMath Cert.MemKvMath

attribute [local instance] Cert.MemoryKeysValuesIdeal.Gen.facts

variable (x0 : FVec Ideal S32x256x1024 .f32) (x1 : FVec Ideal S1x1024 .f32) (x2 : FVec Ideal S1x1024x1024 .f32) (x3 : FVec Ideal S1x128 .f32)

theorem token_at (b : Fin 32) (i : Fin 256) (n : Fin 1024) :
    val_main_v13 (F := Ideal) x0 x1 (ix3 b i n) = token (fun j => x0 (ix3 b i j)) (fun j => x1 (ix2 0 j)) n := by
  pointwise [val_main_v13, val_main_v12, val_main_v11, val_main_v10, val_main_v9, val_main_v8, val_main_v7, val_main_v6, val_main_cst_1, val_main_v5,
    val_main_v4, val_main_cst_0, val_main_v3, val_main_v2, val_main_cst, val_main_v1, val_main_v0, token]

/-- Column `C` of a token's keys and values. -/
def both (b : Fin 32) (i : Fin 256) (C : Fin 1024) : EReal :=
  proj (fun j => x0 (ix3 b i j)) (fun j => x1 (ix2 0 j)) (fun n => x2 (ix3 0 n C))

theorem both_at (b : Fin 32) (i : Fin 256) (C : Fin 1024) : val_main_v15 (F := Ideal) x0 x1 x2 (ix3 b i C) = both x0 x1 x2 b i C := by
  unfold both proj
  simp only [← token_at]
  pointwise [val_main_v15, val_main_v14]

theorem rawKey_at (b : Fin 32) (i : Fin 256) (h : Fin 4) (j : Fin 128) :
    val_main_v17 (F := Ideal) x0 x1 x2 (ix4 b i h j) = both x0 x1 x2 b i ⟨h.val * 256 + j.val, by omega⟩ := by
  rw [← both_at]
  pointwise [val_main_v17, val_main_v16]

theorem rawVal_at (b : Fin 32) (i : Fin 256) (h : Fin 4) (j : Fin 128) :
    val_main_v18 (F := Ideal) x0 x1 x2 (ix4 b i h j) = both x0 x1 x2 b i ⟨h.val * 256 + (128 + j.val), by omega⟩ := by
  rw [← both_at]
  pointwise [val_main_v18, val_main_v16]

theorem key_at (R : Fin 8192) (C : Fin 512) :
    val_main_v34 (F := Ideal) x0 x1 x2 x3 (ix2 R C)
      = normed (fun j => both x0 x1 x2 ⟨R.val / 256, by omega⟩ ⟨R.val % 256, by omega⟩ ⟨C.val / 128 * 256 + j.val, by omega⟩) (fun j => x3 (ix2 0 j)) ⟨C.val % 128, by omega⟩ := by
  have e : (fun j : Fin 128 => both x0 x1 x2 ⟨R.val / 256, by omega⟩ ⟨R.val % 256, by omega⟩ ⟨C.val / 128 * 256 + j.val, by omega⟩)
      = fun j => val_main_v17 (F := Ideal) x0 x1 x2 (ix4 ⟨R.val / 256, by omega⟩ ⟨R.val % 256, by omega⟩ ⟨C.val / 128, by omega⟩ j) :=
    funext fun j => (rawKey_at x0 x1 x2 ⟨R.val / 256, by omega⟩ ⟨R.val % 256, by omega⟩ ⟨C.val / 128, by omega⟩ j).symm
  rw [e]
  generalize hq : val_main_v17 (F := Ideal) x0 x1 x2 = q
  pointwise [val_main_v34, val_main_v33, val_main_v32, val_main_v31, val_main_v30, val_main_v29, val_main_v28, val_main_v27, val_main_v26, val_main_v25,
    val_main_cst_4, val_main_v24, val_main_v23, val_main_cst_3, val_main_v22, val_main_v21, val_main_cst_2, val_main_v20, val_main_v19, normed, rs, hq]

theorem val_at (R : Fin 8192) (C : Fin 512) :
    val_main_v36 (F := Ideal) x0 x1 x2 (ix2 R C)
      = both x0 x1 x2 ⟨R.val / 256, by omega⟩ ⟨R.val % 256, by omega⟩ ⟨C.val / 128 * 256 + (128 + C.val % 128), by omega⟩ := by
  refine Eq.trans ?_ (rawVal_at x0 x1 x2 ⟨R.val / 256, by omega⟩ ⟨R.val % 256, by omega⟩ ⟨C.val / 128, by omega⟩ ⟨C.val % 128, by omega⟩)
  pointwise [val_main_v36, val_main_v35]

end Cert.MemKvRef

end
-- ==== Proof.MemKvValue.lean ====
/-
  The memory keys and values: the kernel's result arrays are the reference's, and the claims about the two programs.
-/
module

public import proofs.«01_k».proof.Proof.MemKvHost
public import proofs.«01_k».proof.Proof.MemKvRef
public import proofs.«01_k».proof.Proof.Gen.MemoryKeysValuesIdeal.Run
public import proofs.«01_k».proof.Proof.Gen.MemKv.Frame
public import proofs.«01_k».proof.Proof.Gen.MemoryKeysValuesIdeal
public import proofs.«01_k».proof.Defs
public import Idealize.ShloMosaic.Lib.Quiescent

@[expose] public section

set_option maxRecDepth 16384

noncomputable section

namespace Cert.MemKvIdeal.Out

open Cert.MemKvIdeal Cert.MemKvIdeal.Gen Idealize.ShloMosaic Idealize.ShloMosaic.TcCoe Idealize.SL.Sem Idealize.ShloMosaic.Pointwise Cert.XattnMath Cert.MemKvMath
open Idealize.ShloMosaic.Pipeline (Dat)

variable (m : (ℓ : Loc nD τ sig) → Buf (Elt Ideal) ℓ) (c : Dev nD)

/-- The reference's results on the kernel's arguments. -/
def keys : FVec Ideal S8192x512 .bf16 := MemoryKeysValuesIdeal.Read.val_main_v34 (F := Ideal) (aM m c) (aN m c) (aW m c) (aG m c)
def vals : FVec Ideal S8192x512 .bf16 := MemoryKeysValuesIdeal.Read.val_main_v36 (F := Ideal) (aM m c) (aN m c) (aW m c)

/-- A row's product with a column of weights is the reference's, whichever half the column is of. -/
theorem prod_eq (t : Fin cfg0.N) (ht : t.val < 32) (w : FVec Ideal S1024x512 .bf16) (r : Fin 256) (C : Fin 512) (D : Fin 1024)
    (hw : ∀ n, w (ix2 n C) = aW m c (ix3 0 n D)) :
    prod (iblk m c 0 t : FVec Ideal S256x1024 .f32) (gainM (aN m c)) w r C
      = MemKvRef.both (aM m c) (aN m c) (aW m c) ⟨(256 * t.val + r.val) / 256, by omega⟩ ⟨(256 * t.val + r.val) % 256, by omega⟩ D := by
  unfold prod MemKvRef.both
  have e0 : (fun n : Fin 1024 => (iblk m c 0 t : FVec Ideal S256x1024 .f32) (ix2 r n))
      = fun n => aM m c (ix3 ⟨(256 * t.val + r.val) / 256, by omega⟩ ⟨(256 * t.val + r.val) % 256, by omega⟩ n) :=
    funext fun n => (blk0 m c t ht r n).trans (rows_at _ _ n)
  have e1 : (fun n : Fin 1024 => gainM (aN m c) (ix2 0 n)) = fun n => aN m c (ix2 0 n) := funext fun n => gainM_at _ n
  rw [e0, e1]
  exact congrArg (proj _ _) (funext hw)

theorem entryK (t : Fin cfg0.N) (ht : t.val < 32) (r : Fin 256) (C : Fin 512) :
    out0_5 (F := Ideal) (iblk m c 0 t) (iblk m c 1 t) (iblk m c 2 t) (iblk m c 3 t) (iblk m c 4 t) (ix2 r C)
      = keys m c (ix2 ⟨256 * t.val + r.val, by omega⟩ C) := by
  rw [key_at, blk1, blk2, blk4]
  refine Eq.trans ?_ (MemKvRef.key_at (aM m c) (aN m c) (aW m c) (aG m c) _ C).symm
  unfold keyCell
  refine congrArg₂ (fun (x y : Fin 128 → EReal) => normed x y ⟨C.val % 128, by omega⟩) (funext fun j => ?_) (funext fun j => gainK_at _ j)
  refine prod_eq m c t ht _ r _ _ fun n => ?_
  rw [keyCols_at]
  refine congrArg (fun z => aW m c (ix3 0 n z)) (Fin.ext ?_)
  show (base C + j.val) / 128 * 256 + (base C + j.val) % 128 = C.val / 128 * 256 + j.val
  unfold base; omega

theorem entryV (t : Fin cfg0.N) (ht : t.val < 32) (r : Fin 256) (C : Fin 512) :
    out0_6 (F := Ideal) (iblk m c 0 t) (iblk m c 1 t) (iblk m c 2 t) (iblk m c 3 t) (iblk m c 4 t) (ix2 r C)
      = vals m c (ix2 ⟨256 * t.val + r.val, by omega⟩ C) := by
  rw [val_at, blk1, blk3]
  refine (prod_eq m c t ht (valCols (aW m c)) r C ⟨C.val / 128 * 256 + (128 + C.val % 128), by omega⟩ fun n => valCols_at _ n C).trans ?_
  exact (MemKvRef.val_at (aM m c) (aN m c) (aW m c) ⟨256 * t.val + r.val, by omega⟩ C).symm

theorem split (j : S256x512.Idx) : ∃ (r : Fin 256) (l : Fin 512), j = ix2 r l := ⟨j 0, j 1, by
  funext a
  match a with
  | ⟨0, _⟩ => rfl
  | ⟨1, _⟩ => rfl⟩

theorem flushedK (t : Fin cfg0.N) (hf : (cfg0.win 5).flush t = true) :
    (dats m 0 c).flushed 5 t = ((cfg0.win 5).blk t).view.read (Elt Ideal) (keys m c) := by
  have ht : t.val < 32 := lt_of_lt_of_eq t.isLt Gen.N_0
  rw [Value.flushed5]
  funext j
  obtain ⟨r, l, rfl⟩ := split j
  rw [View.read_apply]
  show out0_5 (F := Ideal) _ _ _ _ _ (ix2 r l) = keys m c _
  refine (entryK m c t ht r l).trans (congrArg (keys m c) ?_)
  funext a; apply Fin.ext
  match a with
  | ⟨0, _⟩ => show 256 * t.val + r.val = win0_5.index t 0 * 256 + 1 * r.val; rw [(idx5 t).1]; omega
  | ⟨1, _⟩ => show l.val = win0_5.index t 1 * 512 + 1 * l.val; rw [(idx5 t).2]; omega

theorem flushedV (t : Fin cfg0.N) (hf : (cfg0.win 6).flush t = true) :
    (dats m 0 c).flushed 6 t = ((cfg0.win 6).blk t).view.read (Elt Ideal) (vals m c) := by
  have ht : t.val < 32 := lt_of_lt_of_eq t.isLt Gen.N_0
  rw [Value.flushed6]
  funext j
  obtain ⟨r, l, rfl⟩ := split j
  rw [View.read_apply]
  show out0_6 (F := Ideal) _ _ _ _ _ (ix2 r l) = vals m c _
  refine (entryV m c t ht r l).trans (congrArg (vals m c) ?_)
  funext a; apply Fin.ext
  match a with
  | ⟨0, _⟩ => show 256 * t.val + r.val = win0_6.index t 0 * 256 + 1 * r.val; rw [(idx6 t).1]; omega
  | ⟨1, _⟩ => show l.val = win0_6.index t 1 * 512 + 1 * l.val; rw [(idx6 t).2]; omega

/-- The 32 blocks tile each result. -/
theorem finalK : (dats m 0 c).arrAt 5 cfg0.N = keys m c :=
  (dats m 0 c).arrAt_eq_of_cover 5 (keys m c) (flushedK m c) fun i => by
    have h0 : (i 0 : Nat) < 8192 := (i 0).isLt
    have h1 : (i 1 : Nat) < 512 := (i 1).isLt
    refine ⟨⟨(i 0 : Nat) / 256, by show _ < grid0.N; rw [Gen.N_0]; omega⟩, flush0_5 _, ?_⟩
    generalize ht : (⟨(i 0 : Nat) / 256, _⟩ : Fin cfg0.N) = t
    have hv : t.val = (i 0 : Nat) / 256 := by rw [← ht]
    show i ∈ ((View.whole main_v13_0).slice (win0_5.rect t)).set
    rw [View.set_slice_whole, Rect.mem_set_unit]
    intro a
    match a with
    | ⟨0, _⟩ => show win0_5.index t 0 * 256 ≤ (i 0 : Nat) ∧ (i 0 : Nat) < win0_5.index t 0 * 256 + 256
                rw [(idx5 t).1]; omega
    | ⟨1, _⟩ => show win0_5.index t 1 * 512 ≤ (i 1 : Nat) ∧ (i 1 : Nat) < win0_5.index t 1 * 512 + 512
                rw [(idx5 t).2]; omega

theorem finalV : (dats m 0 c).arrAt 6 cfg0.N = vals m c :=
  (dats m 0 c).arrAt_eq_of_cover 6 (vals m c) (flushedV m c) fun i => by
    have h0 : (i 0 : Nat) < 8192 := (i 0).isLt
    have h1 : (i 1 : Nat) < 512 := (i 1).isLt
    refine ⟨⟨(i 0 : Nat) / 256, by show _ < grid0.N; rw [Gen.N_0]; omega⟩, flush0_6 _, ?_⟩
    generalize ht : (⟨(i 0 : Nat) / 256, _⟩ : Fin cfg0.N) = t
    have hv : t.val = (i 0 : Nat) / 256 := by rw [← ht]
    show i ∈ ((View.whole main_v13_1).slice (win0_6.rect t)).set
    rw [View.set_slice_whole, Rect.mem_set_unit]
    intro a
    match a with
    | ⟨0, _⟩ => show win0_6.index t 0 * 256 ≤ (i 0 : Nat) ∧ (i 0 : Nat) < win0_6.index t 0 * 256 + 256
                rw [(idx6 t).1]; omega
    | ⟨1, _⟩ => show win0_6.index t 1 * 512 ≤ (i 1 : Nat) ∧ (i 1 : Nat) < win0_6.index t 1 * 512 + 512
                rw [(idx6 t).2]; omega

end Cert.MemKvIdeal.Out

namespace Cert.MemKvClaims

open Idealize.ShloMosaic Idealize.ShloMosaic.TcCoe Idealize.SL.Sem

attribute [local instance] Cert.MemKv.Gen.facts Cert.MemKvIdeal.Gen.facts Cert.MemoryKeysValuesIdeal.Gen.facts

theorem frameKernel : Cert.quiescent_MemKv := fun m ρ _ => Cert.MemKv.Gen.frame m ρ
theorem frameIdeal : Cert.quiescent_MemKvIdeal := fun m ρ _ => Cert.MemKvIdeal.Gen.frame m ρ
theorem frameRef : Cert.quiescent_MemoryKeysValuesIdeal := fun m ρ _ =>
  (θ_run _ _ _).mono (fun r h => ⟨fun c => (h c).2.2, sem_eq_zero_of_no_sems rfl r.2⟩) (Cert.MemoryKeysValuesIdeal.Value.run m ρ)

theorem equal : Cert.algebraic_MemKvIdeal_MemoryKeysValuesIdeal := fun m ρ m' ρ' hpre hag =>
  ⟨fun c => Cert.MemKvIdeal.Out.keys m c, fun c => Cert.MemKvIdeal.Out.vals m c,
    (θ_run _ _ _).mono (fun r h c => ⟨(h c).1.trans (Cert.MemKvIdeal.Out.finalK m c), (h c).2.1.trans (Cert.MemKvIdeal.Out.finalV m c), (h c).2.2⟩)
      (Cert.MemKvIdeal.Value.run_blocks m ρ),
    (θ_run _ _ _).mono (fun r h c => ⟨(h c).1.trans (by
      obtain ⟨h0, h1, h2, h3⟩ := hag c
      rw [Cert.MemoryKeysValuesIdeal.Read.val_main_v34_eq, h0, h1, h2, h3]
      rfl), (h c).2.1.trans ((Cert.MemoryKeysValuesIdeal.Read.val_main_v36_eq _ _ _).trans (by
      obtain ⟨h0, h1, h2, h3⟩ := hag c
      rw [h0, h1, h2]
      rfl)), (h c).2.2⟩) (Cert.MemoryKeysValuesIdeal.Value.run m' ρ')⟩

end Cert.MemKvClaims

end
-- ==== Proof.lean ====
module

public import proofs.«01_k».proof.Defs
public import proofs.«01_k».proof.Proof.Gen.Flash
public import proofs.«01_k».proof.Proof.Gen.Flash.Skeleton
public import proofs.«01_k».proof.Proof.Gen.Flash.Launch
public import proofs.«01_k».proof.Proof.Gen.Flash.Points
public import proofs.«01_k».proof.Proof.Gen.Flash.Frame
public import proofs.«01_k».proof.Proof.Gen.FlashIdeal
public import proofs.«01_k».proof.Proof.Gen.FlashIdeal.Skeleton
public import proofs.«01_k».proof.Proof.Gen.FlashIdeal.Launch
public import proofs.«01_k».proof.Proof.Gen.FlashIdeal.Points
public import proofs.«01_k».proof.Proof.Gen.FlashIdeal.Frame
public import proofs.«01_k».proof.Proof.Gen.AttentionIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.ConvFfnIdeal
public import proofs.«01_k».proof.Proof.Gen.FfnSample
public import proofs.«01_k».proof.Proof.Gen.FfnSampleIdeal
public import proofs.«01_k».proof.Proof.Gen.ConvFfnSampleIdeal
public import proofs.«01_k».proof.Proof.Gen.Pre_finite_qk
public import proofs.«01_k».proof.Proof.Gen.Pre_finite_scores
public import proofs.«01_k».proof.Proof.Gen.FlashIdeal.Value
public import proofs.«01_k».proof.Proof.Gen.FfnIdeal.Value
public import proofs.«01_k».proof.Proof.Gen.AttentionIdeal.Run
public import proofs.«01_k».proof.Proof.Gen.AttentionIdeal.Read
public import proofs.«01_k».proof.Proof.Gen.ConvFfnIdeal.Run
public import proofs.«01_k».proof.Proof.Gen.ConvFfnIdeal.Read
public import proofs.«01_k».proof.Proof.FlashValue
public import proofs.«01_k».proof.Proof.Gen.FfnSample.Frame
public import proofs.«01_k».proof.Proof.Gen.FfnSampleIdeal.Value
public import proofs.«01_k».proof.Proof.Gen.ConvFfnSampleIdeal.Run
public import proofs.«01_k».proof.Proof.Gen.ConvFfnSampleIdeal.Read
public import proofs.«01_k».proof.Proof.Gen.Xattn.Frame
public import proofs.«01_k».proof.Proof.Gen.XattnIdeal.Value
public import proofs.«01_k».proof.Proof.Gen.MemKv.Frame
public import proofs.«01_k».proof.Proof.Gen.MemKvIdeal.Value
public import proofs.«01_k».proof.Proof.Gen.MemoryAttentionIdeal.Run
public import proofs.«01_k».proof.Proof.Gen.MemoryAttentionIdeal.Read
public import proofs.«01_k».proof.Proof.Gen.MemoryKeysValuesIdeal.Run
public import proofs.«01_k».proof.Proof.Gen.MemoryKeysValuesIdeal.Read
public import proofs.«01_k».proof.Proof.FfnValue
public import proofs.«01_k».proof.Proof.FfnSampleValue
public import proofs.«01_k».proof.Proof.MergeValue
public import proofs.«01_k».proof.Proof.XattnValue
public import proofs.«01_k».proof.Proof.MemKvValue
public import proofs.«01_k».proof.Proof.Gen.MergeIdeal.Value
public import proofs.«01_k».proof.Proof.Gen.GatedMergeIdeal.Run
public import proofs.«01_k».proof.Proof.Gen.GatedMergeIdeal.Read
public import proofs.«01_k».proof.Proof.Gen.Merge.Frame
public import Idealize.ShloMosaic.Adequacy
public import Idealize.ShloMosaic.Init

@[expose] public section

noncomputable section

namespace Cert.Proof

open Idealize.ShloMosaic Idealize.SL.Sem Cert.Flash

theorem claim : Cert.Claim := ⟨Cert.Flash.Gen.facts, Cert.FlashIdeal.Gen.facts, Cert.AttentionIdeal.Gen.facts, Cert.Merge.Gen.facts, Cert.MergeIdeal.Gen.facts, Cert.GatedMergeIdeal.Gen.facts, Cert.Ffn.Gen.facts, Cert.FfnIdeal.Gen.facts, Cert.ConvFfnIdeal.Gen.facts, Cert.FfnSample.Gen.facts, Cert.FfnSampleIdeal.Gen.facts, Cert.ConvFfnSampleIdeal.Gen.facts,
  Cert.Xattn.Gen.facts, Cert.XattnIdeal.Gen.facts, Cert.MemoryAttentionIdeal.Gen.facts, Cert.MemKv.Gen.facts, Cert.MemKvIdeal.Gen.facts, Cert.MemoryKeysValuesIdeal.Gen.facts, Cert.Pre_finite_qk.Gen.facts, Cert.Pre_finite_scores.Gen.facts,
  FlashClaims.frameKernel, FlashClaims.frameIdeal, FlashClaims.frameIdealPre, FlashClaims.frameRef, FlashClaims.frameRefPre,
  MergeClaims.frameKernel, MergeClaims.frameIdeal, MergeClaims.frameRef, FfnClaims.frameKernel, FfnClaims.frameIdeal, FfnClaims.frameRef,
  FfnSampleClaims.frameKernel, FfnSampleClaims.frameIdeal, FfnSampleClaims.frameRef,
  XattnClaims.frameKernel, XattnClaims.frameIdeal, XattnClaims.frameIdealPre, XattnClaims.frameRef, XattnClaims.frameRefPre, MemKvClaims.frameKernel, MemKvClaims.frameIdeal, MemKvClaims.frameRef,
  trivial, FlashClaims.equal, trivial, MergeClaims.equal, trivial, FfnClaims.equal, trivial, FfnSampleClaims.equal, trivial, XattnClaims.equal, trivial, MemKvClaims.equal⟩

end Cert.Proof

end
